-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v33)) (v5 : (c : Dev Cert.KernelIdeal.nD) → Buf (Elt Ideal) ((c.tc : Thread Cert.KernelIdeal.nD Cert.KernelIdeal.τ).loc Cert.KernelIdeal.main_v34)) (v6 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v33) = v4 c
          ∧ r.2.mem ((c.tc : Thread Cert.KernelIdeal.nD Cert.KernelIdeal.τ).loc Cert.KernelIdeal.main_v34) = v5 c
          ∧ r.2.mem ((c.tc : Thread Cert.KernelIdeal.nD Cert.KernelIdeal.τ).loc Cert.KernelIdeal.main_v35) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_v3) = v5 c
          ∧ r.2.mem ((c.tc : Thread Cert.ReferenceIdeal.nD Cert.ReferenceIdeal.τ).loc Cert.ReferenceIdeal.main_v9) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x96x2048x1 : Shape := ⟨4, ![16, 96, 2048, 1]⟩
abbrev S16x1 : Shape := ⟨2, ![16, 1]⟩
abbrev S16x96 : Shape := ⟨2, ![16, 96]⟩
abbrev S16 : Shape := ⟨1, ![16]⟩
abbrev S_ : Shape := ⟨0, ![]⟩

class Facts : Prop where
  bcast_S_S16x96x2048x1 : S_.BroadcastsInDim S16x96x2048x1 (![] : Fin 0 → Fin S16x96x2048x1.rank)
  bcast_S_S16x96 : S_.BroadcastsInDim S16x96 (![] : Fin 0 → Fin S16x96.rank)

variable [Facts]

def fn {F : FTy → Type} [FloatOps F] (main_arg0 : FVec F S16x96x2048x1 .f32) (main_arg1 : FVec F S16x1 .f32) (main_arg2 : FVec F S16x1 .f32) (main_arg3 : FVec F S16x96 .f32) (main_arg4 : FVec F S16 .f32) : IVec S16x96x2048x1 1 × IVec S16x96 1 :=
  let main_v0 : FVec F S16x96x2048x1 .f32 := subf main_arg0 main_arg0
  let main_cst : FVec F S_ .f32 := constant S_ .f32 0x00000000#32
  let main_v1 : FVec F S16x96x2048x1 .f32 := broadcastInDim S16x96x2048x1 ![] bcast_S_S16x96x2048x1 main_cst
  let main_v2 : IVec S16x96x2048x1 1 := cmpf .oeq main_v0 main_v1
  let main_v3 : FVec F S16x96 .f32 := subf main_arg3 main_arg3
  let main_cst_0 : FVec F S_ .f32 := constant S_ .f32 0x00000000#32
  let main_v4 : FVec F S16x96 .f32 := broadcastInDim S16x96 ![] bcast_S_S16x96 main_cst_0
  let main_v5 : IVec S16x96 1 := cmpf .oeq main_v3 main_v4
  (main_v2, main_v5)
-- ==== Kernel.lean ====
abbrev S16x96x2048x1 : Shape := ⟨4, ![16, 96, 2048, 1]⟩
abbrev S16x1 : Shape := ⟨2, ![16, 1]⟩
abbrev S16x96 : Shape := ⟨2, ![16, 96]⟩
abbrev S16 : Shape := ⟨1, ![16]⟩
abbrev S16x1536x128 : Shape := ⟨3, ![16, 1536, 128]⟩
abbrev S16x16 : Shape := ⟨2, ![16, 16]⟩
abbrev S256 : Shape := ⟨1, ![256]⟩
abbrev S256x1 : Shape := ⟨2, ![256, 1]⟩
abbrev S16x96x16 : Shape := ⟨3, ![16, 96, 16]⟩
abbrev S16x1536 : Shape := ⟨2, ![16, 1536]⟩
abbrev S16x1x1536 : Shape := ⟨3, ![16, 1, 1536]⟩
abbrev S16x16x1536 : Shape := ⟨3, ![16, 16, 1536]⟩
abbrev S256x1536 : Shape := ⟨2, ![256, 1536]⟩
abbrev S_ : Shape := ⟨0, ![]⟩
abbrev S256x1540 : Shape := ⟨2, ![256, 1540]⟩
abbrev S16x16x128 : Shape := ⟨3, ![16, 16, 128]⟩
abbrev S16x1x1 : Shape := ⟨3, ![16, 1, 1]⟩
abbrev S1x1536x128 : Shape := ⟨3, ![1, 1536, 128]⟩
abbrev S1x16x128 : Shape := ⟨3, ![1, 16, 128]⟩
abbrev S1x1x1 : Shape := ⟨3, ![1, 1, 1]⟩
abbrev S3x1536x128 : Shape := ⟨3, ![3, 1536, 128]⟩
abbrev S3x4 : Shape := ⟨2, ![3, 4]⟩
abbrev S1x1 : Shape := ⟨2, ![1, 1]⟩
abbrev S1x384x128 : Shape := ⟨3, ![1, 384, 128]⟩
abbrev S384x128 : Shape := ⟨2, ![384, 128]⟩
abbrev S1536x128 : Shape := ⟨2, ![1536, 128]⟩
abbrev S96x16x128 : Shape := ⟨3, ![96, 16, 128]⟩
abbrev S16x128 : Shape := ⟨2, ![16, 128]⟩
abbrev S1 : Shape := ⟨1, ![1]⟩
abbrev S256x128 : Shape := ⟨2, ![256, 128]⟩
abbrev S16x1x2048x1 : Shape := ⟨4, ![16, 1, 2048, 1]⟩
abbrev S16x1x1x1 : Shape := ⟨4, ![16, 1, 1, 1]⟩

abbrev nBuf : Space → Nat
  | .hbm => 93
  | .vmem => 16
  | .smem => 0
  | _ => 0

abbrev bufTy : (tb : Table) → Fin (tcTables nBuf tb) → BufTy
  | .hbm, ⟨0, _⟩ => ⟨S16x96x2048x1, .f32⟩
  | .hbm, ⟨1, _⟩ => ⟨S16x1, .f32⟩
  | .hbm, ⟨2, _⟩ => ⟨S16x1, .f32⟩
  | .hbm, ⟨3, _⟩ => ⟨S16x96, .f32⟩
  | .hbm, ⟨4, _⟩ => ⟨S16, .f32⟩
  | .hbm, ⟨5, _⟩ => ⟨S16x1536x128, .f32⟩
  | .hbm, ⟨6, _⟩ => ⟨S16x16, .f32⟩
  | .hbm, ⟨7, _⟩ => ⟨S256, .f32⟩
  | .hbm, ⟨8, _⟩ => ⟨S256x1, .f32⟩
  | .hbm, ⟨9, _⟩ => ⟨S16x96x16, .f32⟩
  | .hbm, ⟨10, _⟩ => ⟨S16x1536, .f32⟩
  | .hbm, ⟨11, _⟩ => ⟨S16x1x1536, .f32⟩
  | .hbm, ⟨12, _⟩ => ⟨S16x16x1536, .f32⟩
  | .hbm, ⟨13, _⟩ => ⟨S256x1536, .f32⟩
  | .hbm, ⟨14, _⟩ => ⟨S256x1536, .i32⟩
  | .hbm, ⟨15, _⟩ => ⟨S256x1536, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S256x1536, .i32⟩
  | .hbm, ⟨23, _⟩ => ⟨S256x1536, .i32⟩
  | .hbm, ⟨24, _⟩ => ⟨S_, .i32⟩
  | .hbm, ⟨25, _⟩ => ⟨S256x1536, .i32⟩
  | .hbm, ⟨26, _⟩ => ⟨S256x1536, .i1⟩
  | .hbm, ⟨27, _⟩ => ⟨S_, .i32⟩
  | .hbm, ⟨28, _⟩ => ⟨S256x1536, .i32⟩
  | .hbm, ⟨29, _⟩ => ⟨S256x1536, .i1⟩
  | .hbm, ⟨30, _⟩ => ⟨S_, .i32⟩
  | .hbm, ⟨31, _⟩ => ⟨S_, .i1⟩
  | .hbm, ⟨32, _⟩ => ⟨S256x1536, .i1⟩
  | .hbm, ⟨33, _⟩ => ⟨S256x1536, .i1⟩
  | .hbm, ⟨34, _⟩ => ⟨S256x1536, .i1⟩
  | .hbm, ⟨35, _⟩ => ⟨S256x1536, .i32⟩
  | .hbm, ⟨36, _⟩ => ⟨S256x1536, .i32⟩
  | .hbm, ⟨37, _⟩ => ⟨S256x1536, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S256x1536, .i32⟩
  | .hbm, ⟨45, _⟩ => ⟨S256x1536, .i32⟩
  | .hbm, ⟨46, _⟩ => ⟨S_, .i32⟩
  | .hbm, ⟨47, _⟩ => ⟨S256x1536, .i32⟩
  | .hbm, ⟨48, _⟩ => ⟨S256x1536, .i1⟩
  | .hbm, ⟨49, _⟩ => ⟨S_, .i32⟩
  | .hbm, ⟨50, _⟩ => ⟨S256x1536, .i32⟩
  | .hbm, ⟨51, _⟩ => ⟨S256x1536, .i1⟩
  | .hbm, ⟨52, _⟩ => ⟨S_, .i32⟩
  | .hbm, ⟨53, _⟩ => ⟨S_, .i1⟩
  | .hbm, ⟨54, _⟩ => ⟨S256x1536, .i1⟩
  | .hbm, ⟨55, _⟩ => ⟨S256x1536, .i1⟩
  | .hbm, ⟨56, _⟩ => ⟨S256x1536, .i1⟩
  | .hbm, ⟨57, _⟩ => ⟨S256x1536, .i32⟩
  | .hbm, ⟨58, _⟩ => ⟨S256x1536, .i32⟩
  | .hbm, ⟨59, _⟩ => ⟨S256x1536, .i32⟩
  | .hbm, ⟨60, _⟩ => ⟨S256x1536, .i1⟩
  | .hbm, ⟨61, _⟩ => ⟨S_, .f32⟩
  | .hbm, ⟨62, _⟩ => ⟨S_, .f32⟩
  | .hbm, ⟨63, _⟩ => ⟨S256x1536, .f32⟩
  | .hbm, ⟨64, _⟩ => ⟨S256x1536, .f32⟩
  | .hbm, ⟨65, _⟩ => ⟨S16, .f32⟩
  | .hbm, ⟨66, _⟩ => ⟨S16x16, .f32⟩
  | .hbm, ⟨67, _⟩ => ⟨S256, .f32⟩
  | .hbm, ⟨68, _⟩ => ⟨S256x1, .f32⟩
  | .hbm, ⟨69, _⟩ => ⟨S16, .f32⟩
  | .hbm, ⟨70, _⟩ => ⟨S16x16, .f32⟩
  | .hbm, ⟨71, _⟩ => ⟨S256, .f32⟩
  | .hbm, ⟨72, _⟩ => ⟨S256x1, .f32⟩
  | .hbm, ⟨73, _⟩ => ⟨S_, .f32⟩
  | .hbm, ⟨74, _⟩ => ⟨S16, .f32⟩
  | .hbm, ⟨75, _⟩ => ⟨S16x16, .f32⟩
  | .hbm, ⟨76, _⟩ => ⟨S256, .f32⟩
  | .hbm, ⟨77, _⟩ => ⟨S256x1, .f32⟩
  | .hbm, ⟨78, _⟩ => ⟨S256x1540, .f32⟩
  | .hbm, ⟨79, _⟩ => ⟨S16x1536x128, .f32⟩
  | .hbm, ⟨80, _⟩ => ⟨S16x16x128, .f32⟩
  | .hbm, ⟨81, _⟩ => ⟨S16x16x128, .f32⟩
  | .hbm, ⟨82, _⟩ => ⟨S16x16x128, .f32⟩
  | .hbm, ⟨83, _⟩ => ⟨S16x16x128, .f32⟩
  | .hbm, ⟨84, _⟩ => ⟨S16x1x1, .f32⟩
  | .hbm, ⟨85, _⟩ => ⟨S16x1x1, .f32⟩
  | .hbm, ⟨86, _⟩ => ⟨S16x96x2048x1, .f32⟩
  | .hbm, ⟨87, _⟩ => ⟨S16x1x2048x1, .f32⟩
  | .hbm, ⟨88, _⟩ => ⟨S16x1x2048x1, .f32⟩
  | .hbm, ⟨89, _⟩ => ⟨S16x1x2048x1, .f32⟩
  | .hbm, ⟨90, _⟩ => ⟨S16x1x2048x1, .f32⟩
  | .hbm, ⟨91, _⟩ => ⟨S16x1x1x1, .f32⟩
  | .hbm, ⟨92, _⟩ => ⟨S16x1x1x1, .f32⟩
  | .local _ .vmem, ⟨0, _⟩ => ⟨S256x1540, .f32⟩
  | .local _ .vmem, ⟨1, _⟩ => ⟨S1x1536x128, .f32⟩
  | .local _ .vmem, ⟨2, _⟩ => ⟨S1x1536x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S3x1536x128, .f32⟩
  | _, _ => ⟨S16x96x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v11 : Ref sig .tc := ⟨.hbm, 37, rfl⟩
abbrev main_c_0 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v12 : Ref sig .tc := ⟨.hbm, 59, rfl⟩
abbrev main_v13 : Ref sig .tc := ⟨.hbm, 60, rfl⟩
abbrev main_cst : Ref sig .tc := ⟨.hbm, 61, rfl⟩
abbrev main_call2_v0 : Ref sig .tc := ⟨.hbm, 62, rfl⟩
abbrev main_call2_v1 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst_1 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28_0 : Ref sig .tc := ⟨.hbm, 79, rfl⟩
abbrev main_v28_1 : Ref sig .tc := ⟨.hbm, 80, rfl⟩
abbrev main_v28_2 : Ref sig .tc := ⟨.hbm, 81, rfl⟩
abbrev main_v28_3 : Ref sig .tc := ⟨.hbm, 82, rfl⟩
abbrev main_v28_4 : Ref sig .tc := ⟨.hbm, 83, rfl⟩
abbrev main_v28_5 : Ref sig .tc := ⟨.hbm, 84, rfl⟩
abbrev main_v28_6 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_off1 (i : grid0.Coords) : Fin 2 → Nat :=
  let arg0 : BitVec 32 := BitVec.ofNat 32 (i 0).val
  let c2_i32_202 : BitVec 32 := 2#32
  let v548 : BitVec 32 := Scalar.addi arg0 c2_i32_202
  let c3_i32_203 : BitVec 32 := 3#32
  let c0_i32_204 : BitVec 32 := 0#32
  let v549 : BitVec 1 := Scalar.cmpi .eq c3_i32_203 c0_i32_204
  let c1_i32_205 : BitVec 32 := 1#32
  let v550 : BitVec 32 := Scalar.select v549 c1_i32_205 c3_i32_203
  let v551 : BitVec 32 := Scalar.remsi v548 v550
  let c0_i32_207 : BitVec 32 := 0#32
  let v553 : BitVec 1 := Scalar.cmpi .slt v551 c0_i32_207
  let c0_i32_208 : BitVec 32 := 0#32
  let v554 : BitVec 1 := Scalar.cmpi .slt v550 c0_i32_208
  let v555 : BitVec 1 := Scalar.xori v553 v554
  let c0_i32_206 : BitVec 32 := 0#32
  let v552 : BitVec 1 := Scalar.cmpi .ne v551 c0_i32_206
  let v556 : BitVec 1 := Scalar.andi v555 v552
  let v557 : BitVec 32 := Scalar.addi v551 v550
  let v558 : BitVec 32 := Scalar.select v556 v557 v551
  let c0_i32_209 : BitVec 32 := 0#32
  ![v558.toNat, 0]
def k0_off2 (i : grid0.Coords) : Fin 3 → Nat :=
  let arg0 : BitVec 32 := BitVec.ofNat 32 (i 0).val
  let c2_i32_202 : BitVec 32 := 2#32
  let v548 : BitVec 32 := Scalar.addi arg0 c2_i32_202
  let c3_i32_203 : BitVec 32 := 3#32
  let c0_i32_204 : BitVec 32 := 0#32
  let v549 : BitVec 1 := Scalar.cmpi .eq c3_i32_203 c0_i32_204
  let c1_i32_205 : BitVec 32 := 1#32
  let v550 : BitVec 32 := Scalar.select v549 c1_i32_205 c3_i32_203
  let v551 : BitVec 32 := Scalar.remsi v548 v550
  let c0_i32_207 : BitVec 32 := 0#32
  let v553 : BitVec 1 := Scalar.cmpi .slt v551 c0_i32_207
  let c0_i32_208 : BitVec 32 := 0#32
  let v554 : BitVec 1 := Scalar.cmpi .slt v550 c0_i32_208
  let v555 : BitVec 1 := Scalar.xori v553 v554
  let c0_i32_206 : BitVec 32 := 0#32
  let v552 : BitVec 1 := Scalar.cmpi .ne v551 c0_i32_206
  let v556 : BitVec 1 := Scalar.andi v555 v552
  let v557 : BitVec 32 := Scalar.addi v551 v550
  let v558 : BitVec 32 := Scalar.select v556 v557 v551
  let c0_i32_210 : BitVec 32 := 0#32
  let c0_i32_211 : BitVec 32 := 0#32
  ![v558.toNat, 0, 0]
def k0_off3 (i : grid0.Coords) : Fin 3 → Nat :=
  let arg0 : BitVec 32 := BitVec.ofNat 32 (i 0).val
  let c2_i32_201 : BitVec 32 := 2#32
  let v547 : BitVec 32 := Scalar.addi arg0 c2_i32_201
  let c0_i32_212 : BitVec 32 := 0#32
  let c0_i32_213 : BitVec 32 := 0#32
  ![v547.toNat, 0, 0]
def k0_off4 (i : grid0.Coords) : Fin 2 → Nat :=
  let arg0 : BitVec 32 := BitVec.ofNat 32 (i 0).val
  let c2_i32_202 : BitVec 32 := 2#32
  let v548 : BitVec 32 := Scalar.addi arg0 c2_i32_202
  let c3_i32_203 : BitVec 32 := 3#32
  let c0_i32_204 : BitVec 32 := 0#32
  let v549 : BitVec 1 := Scalar.cmpi .eq c3_i32_203 c0_i32_204
  let c1_i32_205 : BitVec 32 := 1#32
  let v550 : BitVec 32 := Scalar.select v549 c1_i32_205 c3_i32_203
  let v551 : BitVec 32 := Scalar.remsi v548 v550
  let c0_i32_207 : BitVec 32 := 0#32
  let v553 : BitVec 1 := Scalar.cmpi .slt v551 c0_i32_207
  let c0_i32_208 : BitVec 32 := 0#32
  let v554 : BitVec 1 := Scalar.cmpi .slt v550 c0_i32_208
  let v555 : BitVec 1 := Scalar.xori v553 v554
  let c0_i32_206 : BitVec 32 := 0#32
  let v552 : BitVec 1 := Scalar.cmpi .ne v551 c0_i32_206
  let v556 : BitVec 1 := Scalar.andi v555 v552
  let v557 : BitVec 32 := Scalar.addi v551 v550
  let v558 : BitVec 32 := Scalar.select v556 v557 v551
  let c1_i32_214 : BitVec 32 := 1#32
  ![v558.toNat, 1]
def k0_off5 (i : grid0.Coords) : Fin 3 → Nat :=
  let arg0 : BitVec 32 := BitVec.ofNat 32 (i 0).val
  let c2_i32_202 : BitVec 32 := 2#32
  let v548 : BitVec 32 := Scalar.addi arg0 c2_i32_202
  let c3_i32_203 : BitVec 32 := 3#32
  let c0_i32_204 : BitVec 32 := 0#32
  let v549 : BitVec 1 := Scalar.cmpi .eq c3_i32_203 c0_i32_204
  let c1_i32_205 : BitVec 32 := 1#32
  let v550 : BitVec 32 := Scalar.select v549 c1_i32_205 c3_i32_203
  let v551 : BitVec 32 := Scalar.remsi v548 v550
  let c0_i32_207 : BitVec 32 := 0#32
  let v553 : BitVec 1 := Scalar.cmpi .slt v551 c0_i32_207
  let c0_i32_208 : BitVec 32 := 0#32
  let v554 : BitVec 1 := Scalar.cmpi .slt v550 c0_i32_208
  let v555 : BitVec 1 := Scalar.xori v553 v554
  let c0_i32_206 : BitVec 32 := 0#32
  let v552 : BitVec 1 := Scalar.cmpi .ne v551 c0_i32_206
  let v556 : BitVec 1 := Scalar.andi v555 v552
  let v557 : BitVec 32 := Scalar.addi v551 v550
  let v558 : BitVec 32 := Scalar.select v556 v557 v551
  let c384_i32_215 : BitVec 32 := 384#32
  let c0_i32_216 : BitVec 32 := 0#32
  ![v558.toNat, 384, 0]
def k0_off6 (i : grid0.Coords) : Fin 3 → Nat :=
  let arg0 : BitVec 32 := BitVec.ofNat 32 (i 0).val
  let c2_i32_201 : BitVec 32 := 2#32
  let v547 : BitVec 32 := Scalar.addi arg0 c2_i32_201
  let c384_i32_217 : BitVec 32 := 384#32
  let c0_i32_218 : BitVec 32 := 0#32
  ![v547.toNat, 384, 0]
def k0_off7 (i : grid0.Coords) : Fin 2 → Nat :=
  let arg0 : BitVec 32 := BitVec.ofNat 32 (i 0).val
  let c2_i32_202 : BitVec 32 := 2#32
  let v548 : BitVec 32 := Scalar.addi arg0 c2_i32_202
  let c3_i32_203 : BitVec 32 := 3#32
  let c0_i32_204 : BitVec 32 := 0#32
  let v549 : BitVec 1 := Scalar.cmpi .eq c3_i32_203 c0_i32_204
  let c1_i32_205 : BitVec 32 := 1#32
  let v550 : BitVec 32 := Scalar.select v549 c1_i32_205 c3_i32_203
  let v551 : BitVec 32 := Scalar.remsi v548 v550
  let c0_i32_207 : BitVec 32 := 0#32
  let v553 : BitVec 1 := Scalar.cmpi .slt v551 c0_i32_207
  let c0_i32_208 : BitVec 32 := 0#32
  let v554 : BitVec 1 := Scalar.cmpi .slt v550 c0_i32_208
  let v555 : BitVec 1 := Scalar.xori v553 v554
  let c0_i32_206 : BitVec 32 := 0#32
  let v552 : BitVec 1 := Scalar.cmpi .ne v551 c0_i32_206
  let v556 : BitVec 1 := Scalar.andi v555 v552
  let v557 : BitVec 32 := Scalar.addi v551 v550
  let v558 : BitVec 32 := Scalar.select v556 v557 v551
  let c2_i32_219 : BitVec 32 := 2#32
  ![v558.toNat, 2]
def k0_off8 (i : grid0.Coords) : Fin 3 → Nat :=
  let arg0 : BitVec 32 := BitVec.ofNat 32 (i 0).val
  let c2_i32_202 : BitVec 32 := 2#32
  let v548 : BitVec 32 := Scalar.addi arg0 c2_i32_202
  let c3_i32_203 : BitVec 32 := 3#32
  let c0_i32_204 : BitVec 32 := 0#32
  let v549 : BitVec 1 := Scalar.cmpi .eq c3_i32_203 c0_i32_204
  let c1_i32_205 : BitVec 32 := 1#32
  let v550 : BitVec 32 := Scalar.select v549 c1_i32_205 c3_i32_203
  let v551 : BitVec 32 := Scalar.remsi v548 v550
  let c0_i32_207 : BitVec 32 := 0#32
  let v553 : BitVec 1 := Scalar.cmpi .slt v551 c0_i32_207
  let c0_i32_208 : BitVec 32 := 0#32
  let v554 : BitVec 1 := Scalar.cmpi .slt v550 c0_i32_208
  let v555 : BitVec 1 := Scalar.xori v553 v554
  let c0_i32_206 : BitVec 32 := 0#32
  let v552 : BitVec 1 := Scalar.cmpi .ne v551 c0_i32_206
  let v556 : BitVec 1 := Scalar.andi v555 v552
  let v557 : BitVec 32 := Scalar.addi v551 v550
  let v558 : BitVec 32 := Scalar.select v556 v557 v551
  let c768_i32_220 : BitVec 32 := 768#32
  let c0_i32_221 : BitVec 32 := 0#32
  ![v558.toNat, 768, 0]
def k0_off9 (i : grid0.Coords) : Fin 3 → Nat :=
  let arg0 : BitVec 32 := BitVec.ofNat 32 (i 0).val
  let c2_i32_201 : BitVec 32 := 2#32
  let v547 : BitVec 32 := Scalar.addi arg0 c2_i32_201
  let c768_i32_222 : BitVec 32 := 768#32
  let c0_i32_223 : BitVec 32 := 0#32
  ![v547.toNat, 768, 0]
def k0_off10 (i : grid0.Coords) : Fin 2 → Nat :=
  let arg0 : BitVec 32 := BitVec.ofNat 32 (i 0).val
  let c2_i32_202 : BitVec 32 := 2#32
  let v548 : BitVec 32 := Scalar.addi arg0 c2_i32_202
  let c3_i32_203 : BitVec 32 := 3#32
  let c0_i32_204 : BitVec 32 := 0#32
  let v549 : BitVec 1 := Scalar.cmpi .eq c3_i32_203 c0_i32_204
  let c1_i32_205 : BitVec 32 := 1#32
  let v550 : BitVec 32 := Scalar.select v549 c1_i32_205 c3_i32_203
  let v551 : BitVec 32 := Scalar.remsi v548 v550
  let c0_i32_207 : BitVec 32 := 0#32
  let v553 : BitVec 1 := Scalar.cmpi .slt v551 c0_i32_207
  let c0_i32_208 : BitVec 32 := 0#32
  let v554 : BitVec 1 := Scalar.cmpi .slt v550 c0_i32_208
  let v555 : BitVec 1 := Scalar.xori v553 v554
  let c0_i32_206 : BitVec 32 := 0#32
  let v552 : BitVec 1 := Scalar.cmpi .ne v551 c0_i32_206
  let v556 : BitVec 1 := Scalar.andi v555 v552
  let v557 : BitVec 32 := Scalar.addi v551 v550
  let v558 : BitVec 32 := Scalar.select v556 v557 v551
  let c3_i32_224 : BitVec 32 := 3#32
  ![v558.toNat, 3]
def k0_off11 (i : grid0.Coords) : Fin 3 → Nat :=
  let arg0 : BitVec 32 := BitVec.ofNat 32 (i 0).val
  let c2_i32_202 : BitVec 32 := 2#32
  let v548 : BitVec 32 := Scalar.addi arg0 c2_i32_202
  let c3_i32_203 : BitVec 32 := 3#32
  let c0_i32_204 : BitVec 32 := 0#32
  let v549 : BitVec 1 := Scalar.cmpi .eq c3_i32_203 c0_i32_204
  let c1_i32_205 : BitVec 32 := 1#32
  let v550 : BitVec 32 := Scalar.select v549 c1_i32_205 c3_i32_203
  let v551 : BitVec 32 := Scalar.remsi v548 v550
  let c0_i32_207 : BitVec 32 := 0#32
  let v553 : BitVec 1 := Scalar.cmpi .slt v551 c0_i32_207
  let c0_i32_208 : BitVec 32 := 0#32
  let v554 : BitVec 1 := Scalar.cmpi .slt v550 c0_i32_208
  let v555 : BitVec 1 := Scalar.xori v553 v554
  let c0_i32_206 : BitVec 32 := 0#32
  let v552 : BitVec 1 := Scalar.cmpi .ne v551 c0_i32_206
  let v556 : BitVec 1 := Scalar.andi v555 v552
  let v557 : BitVec 32 := Scalar.addi v551 v550
  let v558 : BitVec 32 := Scalar.select v556 v557 v551
  let c1152_i32_225 : BitVec 32 := 1152#32
  let c0_i32_226 : BitVec 32 := 0#32
  ![v558.toNat, 1152, 0]
def k0_off12 (i : grid0.Coords) : Fin 3 → Nat :=
  let arg0 : BitVec 32 := BitVec.ofNat 32 (i 0).val
  let c2_i32_201 : BitVec 32 := 2#32
  let v547 : BitVec 32 := Scalar.addi arg0 c2_i32_201
  let c1152_i32_227 : BitVec 32 := 1152#32
  let c0_i32_228 : BitVec 32 := 0#32
  ![v547.toNat, 1152, 0]
def k0_off13 (i : grid0.Coords) : Fin 2 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  ![v16.toNat, 0]
def k0_off14 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_7 : BitVec 32 := 0#32
  let c0_i32_8 : BitVec 32 := 0#32
  ![v16.toNat, 0, 0]
def k0_off15 (i : grid0.Coords) : Fin 3 → Nat :=
  let arg0 : BitVec 32 := BitVec.ofNat 32 (i 0).val
  let c0_i32_9 : BitVec 32 := 0#32
  let c0_i32_10 : BitVec 32 := 0#32
  ![arg0.toNat, 0, 0]
def k0_off16 (i : grid0.Coords) : Fin 2 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_11 : BitVec 32 := 1#32
  ![v16.toNat, 1]
def k0_off17 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c384_i32 : BitVec 32 := 384#32
  let c0_i32_12 : BitVec 32 := 0#32
  ![v16.toNat, 384, 0]
def k0_off18 (i : grid0.Coords) : Fin 3 → Nat :=
  let arg0 : BitVec 32 := BitVec.ofNat 32 (i 0).val
  let c384_i32_13 : BitVec 32 := 384#32
  let c0_i32_14 : BitVec 32 := 0#32
  ![arg0.toNat, 384, 0]
def k0_off19 (i : grid0.Coords) : Fin 2 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_15 : BitVec 32 := 2#32
  ![v16.toNat, 2]
def k0_off20 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c768_i32 : BitVec 32 := 768#32
  let c0_i32_16 : BitVec 32 := 0#32
  ![v16.toNat, 768, 0]
def k0_off21 (i : grid0.Coords) : Fin 3 → Nat :=
  let arg0 : BitVec 32 := BitVec.ofNat 32 (i 0).val
  let c768_i32_17 : BitVec 32 := 768#32
  let c0_i32_18 : BitVec 32 := 0#32
  ![arg0.toNat, 768, 0]
def k0_off22 (i : grid0.Coords) : Fin 2 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c3_i32_19 : BitVec 32 := 3#32
  ![v16.toNat, 3]
def k0_off23 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1152_i32 : BitVec 32 := 1152#32
  let c0_i32_20 : BitVec 32 := 0#32
  ![v16.toNat, 1152, 0]
def k0_off24 (i : grid0.Coords) : Fin 3 → Nat :=
  let arg0 : BitVec 32 := BitVec.ofNat 32 (i 0).val
  let c1152_i32_21 : BitVec 32 := 1152#32
  let c0_i32_22 : BitVec 32 := 0#32
  ![arg0.toNat, 1152, 0]
def k0_off25 (i : grid0.Coords) : Fin 3 → Nat :=
  let arg0 : BitVec 32 := BitVec.ofNat 32 (i 0).val
  let c3_i32_23 : BitVec 32 := 3#32
  let c0_i32_24 : BitVec 32 := 0#32
  let v41 : BitVec 1 := Scalar.cmpi .eq c3_i32_23 c0_i32_24
  let c1_i32_25 : BitVec 32 := 1#32
  let v42 : BitVec 32 := Scalar.select v41 c1_i32_25 c3_i32_23
  let v43 : BitVec 32 := Scalar.remsi arg0 v42
  let c0_i32_27 : BitVec 32 := 0#32
  let v45 : BitVec 1 := Scalar.cmpi .slt v43 c0_i32_27
  let c0_i32_28 : BitVec 32 := 0#32
  let v46 : BitVec 1 := Scalar.cmpi .slt v42 c0_i32_28
  let v47 : BitVec 1 := Scalar.xori v45 v46
  let c0_i32_26 : BitVec 32 := 0#32
  let v44 : BitVec 1 := Scalar.cmpi .ne v43 c0_i32_26
  let v48 : BitVec 1 := Scalar.andi v47 v44
  let v49 : BitVec 32 := Scalar.addi v43 v42
  let v50 : BitVec 32 := Scalar.select v48 v49 v43
  let v51 : Index := Scalar.indexCast v50
  let c0 : Index := 0#32
  let c0_29 : Index := 0#32
  ![v51.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1540 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x96x2048x1 : Shape := ⟨4, ![16, 96, 2048, 1]⟩
abbrev S16x1 : Shape := ⟨2, ![16, 1]⟩
abbrev S16x96 : Shape := ⟨2, ![16, 96]⟩
abbrev S16 : Shape := ⟨1, ![16]⟩
abbrev S_ : Shape := ⟨0, ![]⟩
abbrev S16x1x1x1 : Shape := ⟨4, ![16, 1, 1, 1]⟩
abbrev S16x2048x1 : Shape := ⟨3, ![16, 2048, 1]⟩
abbrev S16x1x2048x1 : Shape := ⟨4, ![16, 1, 2048, 1]⟩
abbrev S16x96x2048 : Shape := ⟨3, ![16, 96, 2048]⟩
abbrev S16x2048x96 : Shape := ⟨3, ![16, 2048, 96]⟩
abbrev S96x16 : Shape := ⟨2, ![96, 16]⟩
abbrev S16x2048x16 : Shape := ⟨3, ![16, 2048, 16]⟩
abbrev S1x1x16 : Shape := ⟨3, ![1, 1, 16]⟩
abbrev S16x2048 : Shape := ⟨2, ![16, 2048]⟩
abbrev S16x2048x1x96 : Shape := ⟨4, ![16, 2048, 1, 96]⟩
abbrev S1x1x16x1 : Shape := ⟨4, ![1, 1, 16, 1]⟩
abbrev S16x2048x16x96 : Shape := ⟨4, ![16, 2048, 16, 96]⟩
abbrev S32768x16x96 : Shape := ⟨3, ![32768, 16, 96]⟩
abbrev S32768 : Shape := ⟨1, ![32768]⟩
abbrev S32768x1 : Shape := ⟨2, ![32768, 1]⟩
abbrev S32768x2 : Shape := ⟨2, ![32768, 2]⟩
abbrev S32768x96 : Shape := ⟨2, ![32768, 96]⟩

abbrev nBuf : Space → Nat
  | .hbm => 147
  | .vmem => 0
  | .smem => 0
  | _ => 0

abbrev hbmTy0_0 (i : Nat) : BufTy := match i % 128 with
  | 0 => ⟨S16x96x2048x1, .f32⟩
  | 1 => ⟨S16x1, .f32⟩
  | 2 => ⟨S16x1, .f32⟩
  | 3 => ⟨S16x96, .f32⟩
  | 4 => ⟨S16, .f32⟩
  | 5 => ⟨S_, .f32⟩
  | 6 => ⟨S16x1, .f32⟩
  | 7 => ⟨S16x1x1x1, .f32⟩
  | 8 => ⟨S_, .f32⟩
  | 9 => ⟨S16x1x1x1, .f32⟩
  | 10 => ⟨S16x1x1x1, .f32⟩
  | 11 => ⟨S16x96x2048x1, .f32⟩
  | 12 => ⟨S16x96x2048x1, .f32⟩
  | 13 => ⟨S_, .i32⟩
  | 14 => ⟨S_, .f32⟩
  | 15 => ⟨S16x1, .f32⟩
  | 16 => ⟨S16x1x1x1, .f32⟩
  | 17 => ⟨S_, .f32⟩
  | 18 => ⟨S16x1x1x1, .f32⟩
  | 19 => ⟨S16x1x1x1, .f32⟩
  | 20 => ⟨S16x96x2048x1, .f32⟩
  | 21 => ⟨S16x96x2048x1, .f32⟩
  | 22 => ⟨S16x96x2048x1, .f32⟩
  | 23 => ⟨S_, .f32⟩
  | 24 => ⟨S_, .f32⟩
  | 25 => ⟨S_, .f32⟩
  | 26 => ⟨S_, .f32⟩
  | 27 => ⟨S16x1, .f32⟩
  | 28 => ⟨S16x1x1x1, .f32⟩
  | 29 => ⟨S16x1x1x1, .f32⟩
  | 30 => ⟨S16x1x1x1, .f32⟩
  | 31 => ⟨S_, .f32⟩
  | 32 => ⟨S_, .i1⟩
  | 33 => ⟨S_, .f32⟩
  | 34 => ⟨S_, .f32⟩
  | 35 => ⟨S16x1x1x1, .f32⟩
  | 36 => ⟨S16x1x1x1, .f32⟩
  | 37 => ⟨S_, .f32⟩
  | 38 => ⟨S16x1x1x1, .f32⟩
  | 39 => ⟨S16x1x1x1, .f32⟩
  | 40 => ⟨S16x1x1x1, .f32⟩
  | 41 => ⟨S16x96x2048x1, .f32⟩
  | 42 => ⟨S16x96x2048x1, .f32⟩
  | 43 => ⟨S_, .f32⟩
  | 44 => ⟨S16x2048x1, .f32⟩
  | 45 => ⟨S16x1x2048x1, .f32⟩
  | 46 => ⟨S_, .f32⟩
  | 47 => ⟨S16x1x2048x1, .f32⟩
  | 48 => ⟨S16x1x2048x1, .f32⟩
  | 49 => ⟨S16x96x2048x1, .f32⟩
  | 50 => ⟨S16x96x2048x1, .f32⟩
  | 51 => ⟨S_, .i32⟩
  | 52 => ⟨S_, .f32⟩
  | 53 => ⟨S16x2048x1, .f32⟩
  | 54 => ⟨S16x1x2048x1, .f32⟩
  | 55 => ⟨S_, .f32⟩
  | 56 => ⟨S16x1x2048x1, .f32⟩
  | 57 => ⟨S16x1x2048x1, .f32⟩
  | 58 => ⟨S16x96x2048x1, .f32⟩
  | 59 => ⟨S16x96x2048x1, .f32⟩
  | 60 => ⟨S16x96x2048x1, .f32⟩
  | 61 => ⟨S_, .f32⟩
  | 62 => ⟨S_, .f32⟩
  | 63 => ⟨S_, .f32⟩
  | 64 => ⟨S_, .f32⟩
  | 65 => ⟨S16x2048x1, .f32⟩
  | 66 => ⟨S16x1x2048x1, .f32⟩
  | 67 => ⟨S16x1x2048x1, .f32⟩
  | 68 => ⟨S16x1x2048x1, .f32⟩
  | 69 => ⟨S_, .f32⟩
  | 70 => ⟨S_, .i1⟩
  | 71 => ⟨S_, .f32⟩
  | 72 => ⟨S_, .f32⟩
  | 73 => ⟨S16x1x2048x1, .f32⟩
  | 74 => ⟨S16x1x2048x1, .f32⟩
  | 75 => ⟨S_, .f32⟩
  | 76 => ⟨S16x1x2048x1, .f32⟩
  | 77 => ⟨S16x1x2048x1, .f32⟩
  | 78 => ⟨S16x1x2048x1, .f32⟩
  | 79 => ⟨S16x96x2048x1, .f32⟩
  | 80 => ⟨S16x96x2048x1, .f32⟩
  | 81 => ⟨S16x96x2048, .f32⟩
  | 82 => ⟨S16x2048x96, .f32⟩
  | 83 => ⟨S96x16, .f32⟩
  | 84 => ⟨S16x2048x16, .f32⟩
  | 85 => ⟨S1x1x16, .f32⟩
  | 86 => ⟨S16x2048x16, .f32⟩
  | 87 => ⟨S16x2048x16, .f32⟩
  | 88 => ⟨S16x2048x16, .i32⟩
  | 89 => ⟨S_, .f32⟩
  | 90 => ⟨S_, .i32⟩
  | 91 => ⟨S16x2048, .f32⟩
  | 92 => ⟨S16x2048, .i32⟩
  | 93 => ⟨S16x2048x1x96, .f32⟩
  | 94 => ⟨S1x1x16x1, .f32⟩
  | 95 => ⟨S16x2048x16x96, .f32⟩
  | 96 => ⟨S16x2048x16x96, .f32⟩
  | 97 => ⟨S16x2048x16x96, .f32⟩
  | 98 => ⟨S1x1x16x1, .f32⟩
  | 99 => ⟨S16x2048x16x96, .f32⟩
  | 100 => ⟨S16x2048x16x96, .f32⟩
  | 101 => ⟨S32768x16x96, .f32⟩
  | 102 => ⟨S32768, .i32⟩
  | 103 => ⟨S_, .i32⟩
  | 104 => ⟨S32768, .i32⟩
  | 105 => ⟨S32768, .i1⟩
  | 106 => ⟨S_, .i32⟩
  | 107 => ⟨S32768, .i32⟩
  | 108 => ⟨S32768, .i32⟩
  | 109 => ⟨S32768, .i32⟩
  | 110 => ⟨S32768x1, .i32⟩
  | 111 => ⟨S32768x1, .f32⟩
  | 112 => ⟨S16x2048, .f32⟩
  | 113 => ⟨S16x1x2048x1, .f32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S32768x1, .f32⟩
  | 123 => ⟨S16x2048, .f32⟩
  | 124 => ⟨S16x1x2048x1, .f32⟩
  | 125 => ⟨S32768, .i32⟩
  | 126 => ⟨S_, .i32⟩
  | 127 => ⟨S32768, .i32⟩
  | _ => ⟨S16x96x2048x1, .f32⟩

abbrev hbmTy0_1 (i : Nat) : BufTy := match i % 128 with
  | 0 => ⟨S32768, .i1⟩
  | 1 => ⟨S_, .i32⟩
  | 2 => ⟨S32768, .i32⟩
  | 3 => ⟨S32768, .i32⟩
  | 4 => ⟨S32768, .i32⟩
  | 5 => ⟨S_, .i32⟩
  | 6 => ⟨S32768, .i32⟩
  | 7 => ⟨S32768, .i1⟩
  | 8 => ⟨S_, .i32⟩
  | 9 => ⟨S32768, .i32⟩
  | 10 => ⟨S32768, .i32⟩
  | 11 => ⟨S32768, .i32⟩
  | 12 => ⟨S32768x1, .i32⟩
  | 13 => ⟨S32768x1, .i32⟩
  | 14 => ⟨S32768x2, .i32⟩
  | 15 => ⟨S32768x96, .f32⟩
  | 16 => ⟨S16x2048x96, .f32⟩
  | 17 => ⟨S16x96x2048, .f32⟩
  | 18 => ⟨S16x96x2048x1, .f32⟩
  | _ => ⟨S16x96x2048x1, .f32⟩

abbrev hbmTy (i : Nat) : BufTy := match i / 128 with
  | 0 => hbmTy0_0 i
  | 1 => hbmTy0_1 i
  | _ => ⟨S16x96x2048x1, .f32⟩

abbrev bufTy : (tb : Table) → Fin (tcTables nBuf tb) → BufTy
  | .hbm, ⟨i, _⟩ => hbmTy i
  | _, _ => ⟨S16x96x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c_4 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_cst_2 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_cst_3 : Ref sig .tc := ⟨.hbm, 69, rfl⟩
abbrev main_call1_v13 : Ref sig .tc := ⟨.hbm, 70, rfl⟩
abbrev main_call1_cst_4 : Ref sig .tc := ⟨.hbm, 71, rfl⟩
abbrev main_call1_call0_v0 : Ref sig .tc := ⟨.hbm, 72, rfl⟩
abbrev main_call1_call0_v1 : Ref sig .tc := ⟨.hbm, 73, rfl⟩
abbrev main_v18 : Ref sig .tc := ⟨.hbm, 74, rfl⟩
abbrev main_cst_5 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_call2_v0 : Ref sig .tc := ⟨.hbm, 88, rfl⟩
abbrev main_call2_cst : Ref sig .tc := ⟨.hbm, 89, rfl⟩
abbrev main_call2_c : Ref sig .tc := ⟨.hbm, 90, rfl⟩
abbrev main_call2_v1_0 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_c_6 : Ref sig .tc := ⟨.hbm, 103, rfl⟩
abbrev main_v42 : Ref sig .tc := ⟨.hbm, 104, rfl⟩
abbrev main_v43 : Ref sig .tc := ⟨.hbm, 105, rfl⟩
abbrev main_c_7 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_c_8 : Ref sig .tc := ⟨.hbm, 114, rfl⟩
abbrev main_v51 : Ref sig .tc := ⟨.hbm, 115, rfl⟩
abbrev main_v52 : Ref sig .tc := ⟨.hbm, 116, rfl⟩
abbrev main_c_9 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_c_10 : Ref sig .tc := ⟨.hbm, 126, rfl⟩
abbrev main_v61 : Ref sig .tc := ⟨.hbm, 127, rfl⟩
abbrev main_v62 : Ref sig .tc := ⟨.hbm, 128, rfl⟩
abbrev main_c_11 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_c_12 : Ref sig .tc := ⟨.hbm, 133, rfl⟩
abbrev main_v66 : Ref sig .tc := ⟨.hbm, 134, rfl⟩
abbrev main_v67 : Ref sig .tc := ⟨.hbm, 135, rfl⟩
abbrev main_c_13 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩

abbrev nD : Nat := 1
abbrev τ : Topo := Topo.v7x

variable {F : FTy → Type} [FloatOps F]
-- ==== Proof.Ring3.lean ====
/- The kernel of the program around its ring of copies: what the launch needs to know of the host lines, the
   three-slot scratch as a ring of four-part slots, and the names of the parts, blocks and cells. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp
public import Idealize.ShloMosaic.Lib.Pipeline.ValueKit.Geometry

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What core `c` holds when the kernel starts: the host lines before it, run from the launch memory. -/
abbrev V0 (c : Dev nD) : Valuation τ sig (Elt F) := StableHlo.after (List.flatten [hostOps0, hostOps0_1, hostOps0_2, hostOps0_3, hostOps0_4, hostOps0_5, hostOps0_6]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the host lines before the kernel, the kernel, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- No host line after the kernel writes one of its windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The arguments. -/
abbrev argRefs : List (Ref sig .tc) := [main_arg0, main_arg1, main_arg2, main_arg3, main_arg4]

/-- The host lines before the kernel write none of the arguments. -/
theorem V_arg (c : Dev nD) (b : Ref sig .tc) (hb : b ∈ argRefs) : V m c b = m ((c : Thread nD τ).loc b) := by
  refine StableHlo.after_of_forall_not_mem (b := Proc.devRef .tc b) _ _ (List.forall_iff_forall_mem.mp ?_)
  simp only [hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne ((by decide : ∀ b ∈ argRefs, b ≠ _) b hb)

/-- Nor do those after it: each argument ends as launched. -/
theorem W_arg (dats : (p : Fin 1) → (c : Dev nD) → Dat τ (Elt F) Unit ℕ (Pipeline.UD sig nD τ) ℕ (cfgs p) c) (c : Dev nD)
    (b : Ref sig .tc) (hb : b ∈ argRefs) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne ((by decide : ∀ b ∈ argRefs, b ≠ _) b hb))),
    Pipeline.withArrays_of_ne _ c (V0 m c) _ b fun w => (by decide : ∀ b ∈ argRefs, ∀ w, Pipeline.arrRef spec0 w ≠ b) b hb w]
  exact V_arg m c b hb

/-- Window `w`'s block at point `t`, of its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's buffer holds its block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- A run to the pipeline's post leaves every argument as launched. -/
theorem args_of (dats : (p : Fin 1) → (c : Dev nD) → Dat τ (Elt F) Unit ℕ (Pipeline.UD sig nD τ) ℕ (cfgs p) c)
    {r} (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (W_arg m dats c main_arg0 (by decide)),
   ((h c).2 main_arg1 (Pipeline.mem_restRefs_of main_arg1 (by decide) (by decide))).trans (W_arg m dats c main_arg1 (by decide)),
   ((h c).2 main_arg2 (Pipeline.mem_restRefs_of main_arg2 (by decide) (by decide))).trans (W_arg m dats c main_arg2 (by decide)),
   ((h c).2 main_arg3 (Pipeline.mem_restRefs_of main_arg3 (by decide) (by decide))).trans (W_arg m dats c main_arg3 (by decide)),
   ((h c).2 main_arg4 (Pipeline.mem_restRefs_of main_arg4 (by decide) (by decide))).trans (W_arg m dats c main_arg4 (by decide))⟩

/-- The body's first branch: taken at the first point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The body's second branch: taken while a block two ahead exists. -/
abbrev cond0_1 (i : grid0.Coords) : Prop := k0_cond2 i = 1#1
theorem hcond0_1 : ∀ t : Fin cfg0.N, cond0_1 (grid0.coords t) ↔ t.val < 14 :=
  (by decide +kernel : ∀ t : Fin grid0.N, cond0_1 (grid0.coords t) ↔ t.val < 14)

abbrev ms0_0 (t : Fin cfg0.N) : Memref sig .tc .vmem S256x1540 .f32 := win0_0.stage (cfg0.slots t 0)
abbrev hs0_0 (t : Fin cfg0.N) : (ms0_0 t).IsWhole := hstage0_0 ((cfg0.slots t 0).cast nbuf0_0)
abbrev VO0_1 : View sig .tc .vmem S1x1536x128 .f32 := (Memref.whole cc0_stg1_0 : Memref sig .tc .vmem S1x1536x128 .f32).view
abbrev ms0_1 (t : Fin cfg0.N) : Memref sig .tc .vmem S1x1536x128 .f32 := win0_1.stage (cfg0.slots t 1)
abbrev hs0_1 (t : Fin cfg0.N) : (ms0_1 t).IsWhole := hstage0_1 ((cfg0.slots t 1).cast nbuf0_1)
abbrev VO0_2 : View sig .tc .vmem S1x16x128 .f32 := (Memref.whole cc0_stg2_0 : Memref sig .tc .vmem S1x16x128 .f32).view
abbrev ms0_2 (t : Fin cfg0.N) : Memref sig .tc .vmem S1x16x128 .f32 := win0_2.stage (cfg0.slots t 2)
abbrev hs0_2 (t : Fin cfg0.N) : (ms0_2 t).IsWhole := hstage0_2 ((cfg0.slots t 2).cast nbuf0_2)
abbrev VO0_3 : View sig .tc .vmem S1x16x128 .f32 := (Memref.whole cc0_stg3_0 : Memref sig .tc .vmem S1x16x128 .f32).view
abbrev ms0_3 (t : Fin cfg0.N) : Memref sig .tc .vmem S1x16x128 .f32 := win0_3.stage (cfg0.slots t 3)
abbrev hs0_3 (t : Fin cfg0.N) : (ms0_3 t).IsWhole := hstage0_3 ((cfg0.slots t 3).cast nbuf0_3)
abbrev VO0_4 : View sig .tc .vmem S1x16x128 .f32 := (Memref.whole cc0_stg4_0 : Memref sig .tc .vmem S1x16x128 .f32).view
abbrev ms0_4 (t : Fin cfg0.N) : Memref sig .tc .vmem S1x16x128 .f32 := win0_4.stage (cfg0.slots t 4)
abbrev hs0_4 (t : Fin cfg0.N) : (ms0_4 t).IsWhole := hstage0_4 ((cfg0.slots t 4).cast nbuf0_4)
abbrev VO0_5 : View sig .tc .vmem S1x16x128 .f32 := (Memref.whole cc0_stg5_0 : Memref sig .tc .vmem S1x16x128 .f32).view
abbrev ms0_5 (t : Fin cfg0.N) : Memref sig .tc .vmem S1x16x128 .f32 := win0_5.stage (cfg0.slots t 5)
abbrev hs0_5 (t : Fin cfg0.N) : (ms0_5 t).IsWhole := hstage0_5 ((cfg0.slots t 5).cast nbuf0_5)
abbrev VO0_6 : View sig .tc .vmem S1x1x1 .f32 := (Memref.whole cc0_stg6_0 : Memref sig .tc .vmem S1x1x1 .f32).view
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
abbrev VO0_7 : View sig .tc .vmem S1x1x1 .f32 := (Memref.whole cc0_stg7_0 : Memref sig .tc .vmem S1x1x1 .f32).view
abbrev ms0_7 (t : Fin cfg0.N) : Memref sig .tc .vmem S1x1x1 .f32 := win0_7.stage (cfg0.slots t 7)
abbrev hs0_7 (t : Fin cfg0.N) : (ms0_7 t).IsWhole := hstage0_7 ((cfg0.slots t 7).cast nbuf0_7)

/-- The scratch the slots lie in, and the operand left in the main memory. -/
abbrev scM0_0 : Memref sig .tc .vmem S3x1536x128 .f32 := Memref.whole cc0_scratch0
abbrev hbM0_0 : Memref sig .tc .hbm S16x1536x128 .f32 := Memref.whole main_v0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The twelve cells the body waits on. -/
abbrev osem0 : Fin 12 → SemLoc sig := fun j => (![SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3, 4, 5, 6, 7, 8, 9, 10, 11] (by decide) (by decide)]; rfl
def H0 : Finset (Ref sig .tc) := {main_v0}
theorem H0_sub : H0 ⊆ Pipeline.restRefs sig spec0 := by decide
theorem sfx_but : ∀ ops ∈ ([hostOps1] : List (List (HloOp τ sig (Elt F)))), ∀ op ∈ ops,
    op.bufs ⊆ Pipeline.tailRefsBut sig Pipeline.Prefetch.none spec0 H0 := by
  intro ops hops op hop
  obtain rfl := List.mem_singleton.mp hops
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  rcases hop with rfl | rfl | rfl | rfl | rfl | rfl | rfl
  all_goals intro b hb; obtain rfl := Finset.mem_singleton.mp hb
  all_goals simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl
/-- What the launch hands the body: the scratch, the register, the cells at zero, the operand whole. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v0))) := by
  rw [Pipeline.ΦD_eq, scopedRest0_eq, ownSems00_eq, hbmPts0_eq]; simp only [scM0_0, owns_whole]; try rfl

/-! ## The slots, their parts, the blocks and the cells -/

instance : NeZero grid0.N := ⟨by rw [N_0]; decide⟩
theorem inb_slot (s : Fin 3) : ∀ a, (![s.val, 0, 0] : Fin 3 → Nat) a + S1x1536x128.size a ≤ S3x1536x128.size a := by
  have := s.isLt; intro a; fin_cases a <;> simp <;> omega
theorem inb_win (s : Fin 3) (w : Fin 4) : ∀ a, (![s.val, 384 * w.val, 0] : Fin 3 → Nat) a + S1x384x128.size a ≤ S3x1536x128.size a := by
  have := s.isLt; have := w.isLt; intro a; fin_cases a <;> simp <;> omega
theorem inb_cell (s : Fin 3) (w : Fin 4) : ∀ a, (![s.val, w.val] : Fin 2 → Nat) a + S1x1.size a ≤ S3x4.size a := by
  have := s.isLt; have := w.isLt; intro a; fin_cases a <;> simp <;> omega
theorem inb_src (b : Fin 16) (w : Fin 4) : ∀ a, (![b.val, 384 * w.val, 0] : Fin 3 → Nat) a + S1x384x128.size a ≤ S16x1536x128.size a := by
  have := b.isLt; have := w.isLt; intro a; fin_cases a <;> simp <;> omega
/-- Slot `s` of the scratch, whole. -/
def rslot (s : Fin 3) : Memref sig .tc .vmem S1x1536x128 .f32 :=
  scM0_0.slice (Rect.unit (s := S3x1536x128) ![s.val, 0, 0] S1x1536x128.size (inb_slot s)) (fun _ => rfl)
/-- Part `w` of slot `s`: 384 of its rows. -/
def rwin (w : Fin 4) (s : Fin 3) : Memref sig .tc .vmem S384x128 .f32 :=
  (scM0_0.slice (Rect.unit (s := S3x1536x128) ![s.val, 384 * w.val, 0] S1x384x128.size (inb_win s w)) (fun _ => rfl)).squeeze S384x128 squeezes_S1x384x128_S384x128
/-- The same rows of block `b` of the operand. -/
def srcB (w : Fin 4) (b : Fin 16) : Memref sig .tc .hbm S384x128 .f32 :=
  (hbM0_0.slice (Rect.unit (s := S16x1536x128) ![b.val, 384 * w.val, 0] S1x384x128.size (inb_src b w)) (fun _ => rfl)).squeeze S384x128 squeezes_S1x384x128_S384x128
/-- The cell part `w` of slot `s` is counted on. -/
def cellA (s : Fin 3) (w : Fin 4) : DmaSems sig S_ := (cc0_scratch1.slice (Rect.unit (s := S3x4) ![s.val, w.val] S1x1.size (inb_cell s w))).squeeze S_ squeezes_S1x1_S_
abbrev cellR (s : Fin 3) (w : Fin 4) : SemLoc sig := SemLoc.dma (cellA s w).sem
theorem cellR_0_0 : cellR 0 0 = SemLoc.dma 15 := by decide
theorem cellR_0_1 : cellR 0 1 = SemLoc.dma 16 := by decide
theorem cellR_0_2 : cellR 0 2 = SemLoc.dma 17 := by decide
theorem cellR_0_3 : cellR 0 3 = SemLoc.dma 18 := by decide
theorem cellR_1_0 : cellR 1 0 = SemLoc.dma 19 := by decide
theorem cellR_1_1 : cellR 1 1 = SemLoc.dma 20 := by decide
theorem cellR_1_2 : cellR 1 2 = SemLoc.dma 21 := by decide
theorem cellR_1_3 : cellR 1 3 = SemLoc.dma 22 := by decide
theorem cellR_2_0 : cellR 2 0 = SemLoc.dma 23 := by decide
theorem cellR_2_1 : cellR 2 1 = SemLoc.dma 24 := by decide
theorem cellR_2_2 : cellR 2 2 = SemLoc.dma 25 := by decide
theorem cellR_2_3 : cellR 2 3 = SemLoc.dma 26 := by decide

section Families
variable (c : Dev nD) (W0 : HbBuf0 (F := F) c hbM0_0)
/-- The operand is lent by shares: one for each part of each slot. -/
abbrev qs_0 (s : Fin 3) : PosShare TreeShare := if s.val = 0 then fullShare.left else if s.val = 1 then fullShare.right.left else fullShare.right.right.left
abbrev qs_1 (s : Fin 3) : PosShare TreeShare := if s.val = 0 then fullShare.right.right.right.left else if s.val = 1 then fullShare.right.right.right.right.left else fullShare.right.right.right.right.right.left
abbrev qs_2 (s : Fin 3) : PosShare TreeShare := if s.val = 0 then fullShare.right.right.right.right.right.right.left else if s.val = 1 then fullShare.right.right.right.right.right.right.right.left else fullShare.right.right.right.right.right.right.right.right.left
abbrev qs_3 (s : Fin 3) : PosShare TreeShare := if s.val = 0 then fullShare.right.right.right.right.right.right.right.right.right.left else if s.val = 1 then fullShare.right.right.right.right.right.right.right.right.right.right.left else fullShare.right.right.right.right.right.right.right.right.right.right.right
/-- Contents of slot `s` once block `b` has landed in it: row by row the block's. -/
def slotL (b : Fin 16) : HbBuf0 (F := F) c scM0_0 := fun (i : S3x1536x128.Idx) =>
  (W0 : S16x1536x128.Idx → Elt F .f32) (fun a => ⟨(![b.val, (i 1).val, (i 2).val] : Fin 3 → ℕ) a, by
    have h0 := b.isLt; have h1 : (i 1).val < 1536 := (i 1).isLt; have h2 : (i 2).val < 128 := (i 2).isLt
    fin_cases a; exacts [h0, h1, h2]⟩)
abbrev slotPt (s : Fin 3) (e : HbBuf0 (F := F) c scM0_0) : sProp 𝕄 := (rslot s).view.loc (c : Thread nD τ) ↦[(rslot s).view.set]{fullShare} e
abbrev winP (w : Fin 4) (s : Fin 3) (e : HbBuf0 (F := F) c scM0_0) : sProp 𝕄 := (rwin w s).view.loc (c : Thread nD τ) ↦[(rwin w s).view.set]{fullShare} e
abbrev slotP (s : Fin 3) (f : Fin 4 → HbBuf0 (F := F) c scM0_0) : sProp 𝕄 := iprop(winP c 0 s (f 0) ∗ winP c 1 s (f 1) ∗ winP c 2 s (f 2) ∗ winP c 3 s (f 3))
abbrev cellP (s : Fin 3) : sProp 𝕄 := iprop(semVal ((c : Thread nD τ), cellR s 0) 0 ∗ semVal ((c : Thread nD τ), cellR s 1) 0 ∗ semVal ((c : Thread nD τ), cellR s 2) 0 ∗ semVal ((c : Thread nD τ), cellR s 3) 0)
/-- Part `w` of a slot after block `b`'s rows were copied over `f`. -/
abbrev landed (w : Fin 4) (s : Fin 3) (b : Fin 16) (f : HbBuf0 (F := F) c scM0_0) : HbBuf0 (F := F) c scM0_0 :=
  (rwin w s).view.writes (Elt F) f [⟨Rect.whole S384x128, ReadAs.same.apply ((srcB w b).view.read (Elt F) W0)⟩]
abbrev srcP_0 (s : Fin 3) (b : Fin 16) : sProp 𝕄 := (srcB 0 b).view.loc (c : Thread nD τ) ↦[(srcB 0 b).view.set]{qs_0 s} W0
def restP_0 (s : Fin 3) (b : Fin 16) : sProp 𝕄 := ((c : Thread nD τ).loc main_v0) ↦[Finset.univ \ (srcB 0 b).view.set]{qs_0 s} W0
abbrev wholeP_0 (s : Fin 3) : sProp 𝕄 := ((c : Thread nD τ).loc main_v0) ↦[Finset.univ]{qs_0 s} W0
abbrev flightP_0 (s : Fin 3) (b : Fin 16) (f : HbBuf0 (F := F) c scM0_0) : sProp 𝕄 :=
  Transfers.Flight countersEmb (c : Thread nD τ) (cellR s 0) default ((rwin 0 s).view.amount (cellR s 0))
    iprop(winP c 0 s (landed c W0 0 s b f) ∗ srcP_0 c W0 s b)
abbrev srcP_1 (s : Fin 3) (b : Fin 16) : sProp 𝕄 := (srcB 1 b).view.loc (c : Thread nD τ) ↦[(srcB 1 b).view.set]{qs_1 s} W0
def restP_1 (s : Fin 3) (b : Fin 16) : sProp 𝕄 := ((c : Thread nD τ).loc main_v0) ↦[Finset.univ \ (srcB 1 b).view.set]{qs_1 s} W0
abbrev wholeP_1 (s : Fin 3) : sProp 𝕄 := ((c : Thread nD τ).loc main_v0) ↦[Finset.univ]{qs_1 s} W0
abbrev flightP_1 (s : Fin 3) (b : Fin 16) (f : HbBuf0 (F := F) c scM0_0) : sProp 𝕄 :=
  Transfers.Flight countersEmb (c : Thread nD τ) (cellR s 1) default ((rwin 1 s).view.amount (cellR s 1))
    iprop(winP c 1 s (landed c W0 1 s b f) ∗ srcP_1 c W0 s b)
abbrev srcP_2 (s : Fin 3) (b : Fin 16) : sProp 𝕄 := (srcB 2 b).view.loc (c : Thread nD τ) ↦[(srcB 2 b).view.set]{qs_2 s} W0
def restP_2 (s : Fin 3) (b : Fin 16) : sProp 𝕄 := ((c : Thread nD τ).loc main_v0) ↦[Finset.univ \ (srcB 2 b).view.set]{qs_2 s} W0
abbrev wholeP_2 (s : Fin 3) : sProp 𝕄 := ((c : Thread nD τ).loc main_v0) ↦[Finset.univ]{qs_2 s} W0
abbrev flightP_2 (s : Fin 3) (b : Fin 16) (f : HbBuf0 (F := F) c scM0_0) : sProp 𝕄 :=
  Transfers.Flight countersEmb (c : Thread nD τ) (cellR s 2) default ((rwin 2 s).view.amount (cellR s 2))
    iprop(winP c 2 s (landed c W0 2 s b f) ∗ srcP_2 c W0 s b)
abbrev srcP_3 (s : Fin 3) (b : Fin 16) : sProp 𝕄 := (srcB 3 b).view.loc (c : Thread nD τ) ↦[(srcB 3 b).view.set]{qs_3 s} W0
def restP_3 (s : Fin 3) (b : Fin 16) : sProp 𝕄 := ((c : Thread nD τ).loc main_v0) ↦[Finset.univ \ (srcB 3 b).view.set]{qs_3 s} W0
abbrev wholeP_3 (s : Fin 3) : sProp 𝕄 := ((c : Thread nD τ).loc main_v0) ↦[Finset.univ]{qs_3 s} W0
abbrev flightP_3 (s : Fin 3) (b : Fin 16) (f : HbBuf0 (F := F) c scM0_0) : sProp 𝕄 :=
  Transfers.Flight countersEmb (c : Thread nD τ) (cellR s 3) default ((rwin 3 s).view.amount (cellR s 3))
    iprop(winP c 3 s (landed c W0 3 s b f) ∗ srcP_3 c W0 s b)
/-- The ring's families: a slot with its parts at contents `f` and its shares of the operand, a block on its way into a slot. -/
abbrev slotW (s : Fin 3) (f : Fin 4 → HbBuf0 (F := F) c scM0_0) : sProp 𝕄 := iprop(slotP c s f ∗ wholeP_0 c W0 s ∗ wholeP_1 c W0 s ∗ wholeP_2 c W0 s ∗ wholeP_3 c W0 s)
abbrev flightW (s : Fin 3) (b : Fin 16) (f : Fin 4 → HbBuf0 (F := F) c scM0_0) : sProp 𝕄 := iprop(iprop(flightP_0 c W0 s b (f 0) ∗ flightP_1 c W0 s b (f 1) ∗ flightP_2 c W0 s b (f 2) ∗ flightP_3 c W0 s b (f 3)) ∗ restP_0 c W0 s b ∗ restP_1 c W0 s b ∗ restP_2 c W0 s b ∗ restP_3 c W0 s b)
abbrev noHome (b : Fin 16) : sProp 𝕄 := iprop(emp)
/-- The ring before point `k`: all slots free before the first; afterwards blocks `k` and `k + 1` are on their way. -/
def ringAt (k : ℕ) : sProp 𝕄 :=
  if k = 0 then Ring.At₀ (cellP c) (slotW c W0) noHome
  else Ring.At 2 (cellP c) (slotW c W0) noHome (flightW c W0) k
omit [FloatOps F] in
theorem cellP_0 : cellP (F := F) c 0 = iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by simp only [cellP, cellR_0_0, cellR_0_1, cellR_0_2, cellR_0_3]
omit [FloatOps F] in
theorem cellP_1 : cellP (F := F) c 1 = iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) := by simp only [cellP, cellR_1_0, cellR_1_1, cellR_1_2, cellR_1_3]
omit [FloatOps F] in
theorem cellP_2 : cellP (F := F) c 2 = iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by simp only [cellP, cellR_2_0, cellR_2_1, cellR_2_2, cellR_2_3]
end Families

/-! ## The parts are disjoint boxes of the scratch -/

abbrev winOff (i : Fin 3 × Fin 4) : Fin 3 → Nat := ![i.1.val, 384 * i.2.val, 0]
theorem inb_win' (i : Fin 3 × Fin 4) : ∀ a, winOff i a + S1x384x128.size a ≤ S3x1536x128.size a := inb_win i.1 i.2
abbrev winSet (i : Fin 3 × Fin 4) : Finset S3x1536x128.Idx := (Rect.unit (s := S3x1536x128) (winOff i) S1x384x128.size (inb_win' i)).set
abbrev slotSet (s : Fin 3) : Finset S3x1536x128.Idx := (Rect.unit (s := S3x1536x128) ![s.val, 0, 0] S1x1536x128.size (inb_slot s)).set
theorem winSet_eq (w : Fin 4) (s : Fin 3) : (rwin w s).view.set = winSet (s, w) := by
  simp only [rwin, Memref.view_squeeze, View.set_reshape]; exact View.set_slice_whole _ _
theorem slotSet_eq (s : Fin 3) : (rslot s).view.set = slotSet s := by
  simp only [rslot]; exact View.set_slice_whole _ _
def winIx (i : Fin 3 × Fin 4) : Fin 3 → ℕ := ![i.1.val, i.2.val, 0]
def winUn (v : Fin 3 → ℕ) : Fin 3 × Fin 4 := (Fin.ofNat 3 (v 0), Fin.ofNat 4 (v 1))
theorem winUn_left : ∀ i : Fin 3 × Fin 4, winUn (winIx i) = i := by decide +kernel
theorem wins_disjoint (i i' : Fin 3 × Fin 4) (h : i ≠ i') : Disjoint (winSet i) (winSet i') :=
  Ring.boxes_disjoint (s := S3x1536x128) S1x384x128.size winOff inb_win' winIx
    (fun i a => by fin_cases a <;> simp [winOff, winIx] <;> omega) winUn winUn_left i i' h
theorem mem_winSet (i : Fin 3 × Fin 4) (x : S3x1536x128.Idx) :
    x ∈ winSet i ↔ (x 0).val = i.1.val ∧ 384 * i.2.val ≤ (x 1).val ∧ (x 1).val < 384 * i.2.val + 384 := by
  have h2 : (x 2).val < 128 := (x 2).isLt
  rw [Rect.mem_set_unit]
  constructor
  · intro h
    have h0 := h 0; have h1 := h 1
    simp [winOff] at h0 h1
    omega
  · rintro ⟨h0, h1, h1'⟩ a
    fin_cases a <;> simp [winOff] <;> omega
theorem mem_slotSet (s : Fin 3) (x : S3x1536x128.Idx) : x ∈ slotSet s ↔ (x 0).val = s.val := by
  have h1 : (x 1).val < 1536 := (x 1).isLt
  have h2 : (x 2).val < 128 := (x 2).isLt
  rw [Rect.mem_set_unit]
  constructor
  · intro h
    have h0 := h 0
    simp at h0
    omega
  · rintro h0 a
    fin_cases a <;> simp <;> omega
theorem winSet_sub_0 (s : Fin 3) : winSet (s, 0) ⊆ slotSet s := fun x h => by
  rw [mem_winSet] at h; rw [mem_slotSet]; exact h.1
theorem winSet_sub_1 (s : Fin 3) : winSet (s, 1) ⊆ slotSet s \ winSet (s, 0) := fun x h => by
  rw [Finset.mem_sdiff, mem_slotSet, mem_winSet]; rw [mem_winSet] at h; simp at h ⊢; omega
theorem winSet_sub_2 (s : Fin 3) : winSet (s, 2) ⊆ (slotSet s \ winSet (s, 0)) \ winSet (s, 1) := fun x h => by
  rw [Finset.mem_sdiff, Finset.mem_sdiff, mem_slotSet, mem_winSet, mem_winSet]; rw [mem_winSet] at h; simp at h ⊢; omega
theorem winSet_last (s : Fin 3) : ((slotSet s \ winSet (s, 0)) \ winSet (s, 1)) \ winSet (s, 2) = winSet (s, 3) := by
  ext x
  have h1 : (x 1).val < 1536 := (x 1).isLt
  rw [Finset.mem_sdiff, Finset.mem_sdiff, Finset.mem_sdiff, mem_slotSet, mem_winSet, mem_winSet, mem_winSet, mem_winSet]; simp; omega
abbrev spareSet : Finset S3x1536x128.Idx := Finset.univ \ Finset.univ.biUnion winSet
abbrev spareP (c : Dev nD) : sProp 𝕄 := iprop(∃ f : Buf (Elt F) ((c : Thread nD τ).loc cc0_scratch0), ((c : Thread nD τ).loc cc0_scratch0) ↦[spareSet]{fullShare} f)

section Handing
variable (c : Dev nD) (W0 : HbBuf0 (F := F) c hbM0_0)
omit [FloatOps F] in
/-- A slot at contents `e` is its four parts at `e`. -/
theorem slot_parts (s : Fin 3) (e : HbBuf0 (F := F) c scM0_0) :
    slotPt (F := F) c s e ⊣⊢ iprop(winP c 0 s e ∗ winP c 1 s e ∗ winP c 2 s e ∗ winP c 3 s e) := by
  unfold slotPt winP
  rw [winSet_eq, winSet_eq, winSet_eq, winSet_eq, slotSet_eq, ← winSet_last]
  show ((((c : Thread nD τ).loc cc0_scratch0) ↦[slotSet s]{fullShare} e : sProp 𝕄)) ⊣⊢ iprop((((c : Thread nD τ).loc cc0_scratch0) ↦[winSet (s, 0)]{fullShare} e) ∗ (((c : Thread nD τ).loc cc0_scratch0) ↦[winSet (s, 1)]{fullShare} e) ∗ (((c : Thread nD τ).loc cc0_scratch0) ↦[winSet (s, 2)]{fullShare} e) ∗ (((c : Thread nD τ).loc cc0_scratch0) ↦[((slotSet s \ winSet (s, 0)) \ winSet (s, 1)) \ winSet (s, 2)]{fullShare} e))
  have g0 : (((c : Thread nD τ).loc cc0_scratch0) ↦[slotSet s]{fullShare} e : sProp 𝕄) ⊣⊢ _ := pointsTo_split_subset (winSet_sub_0 s)
  have g1 : (((c : Thread nD τ).loc cc0_scratch0) ↦[slotSet s \ winSet (s, 0)]{fullShare} e : sProp 𝕄) ⊣⊢ _ := pointsTo_split_subset (winSet_sub_1 s)
  have g2 : (((c : Thread nD τ).loc cc0_scratch0) ↦[(slotSet s \ winSet (s, 0)) \ winSet (s, 1)]{fullShare} e : sProp 𝕄) ⊣⊢ _ := pointsTo_split_subset (winSet_sub_2 s)
  refine ⟨?_, ?_⟩
  · iintro H
    ihave G := g0.1 $$ H
    icases G with ⟨H0, G⟩
    ihave G := g1.1 $$ G
    icases G with ⟨H1, G⟩
    ihave G := g2.1 $$ G
    icases G with ⟨H2, H3⟩
    isplitl [H0]; · iexact H0
    isplitl [H1]; · iexact H1
    isplitl [H2]; · iexact H2
    iexact H3
  · iintro ⟨H0, H1, H2, H3⟩
    iapply g0.2
    isplitl [H0]; · iexact H0
    iapply g1.2
    isplitl [H1]; · iexact H1
    iapply g2.2
    isplitl [H2]; · iexact H2
    iexact H3
omit [FloatOps F] in
/-- On its own part, what landed is the block's rows. -/
theorem landed_eq (w : Fin 4) (s : Fin 3) (b : Fin 16) (f : HbBuf0 (F := F) c scM0_0) :
    ∀ i ∈ (rwin w s).view.set, landed c W0 w s b f i = slotL c W0 b i := by
  intro i hi
  obtain ⟨y, -, rfl⟩ := Finset.mem_map.mp hi
  have h := View.read_writes_cons_emb (Val := Elt F) (rwin w s).view f (Rect.whole S384x128) (ReadAs.same.apply ((srcB w b).view.read (Elt F) W0)) [] y
  rw [Rect.emb_whole_apply] at h
  refine h.trans ?_
  obtain ⟨z, hz⟩ : ∃ z : S1x384x128.Idx, z = Shape.reshapeEquiv squeezes_S1x384x128_S384x128.numel_eq y := ⟨_, rfl⟩
  have e1 : ∀ a, (((rwin w s).view.emb y : S3x1536x128.Idx) a).val = (![s.val, 384 * w.val, 0] : Fin 3 → ℕ) a + (z a).val := fun a => by
    subst hz; exact ValueKit.rect_emb_unit_val _ _ (inb_win s w) _ a
  have e2 : ∀ a, (((srcB w b).view.emb y : S16x1536x128.Idx) a).val = (![b.val, 384 * w.val, 0] : Fin 3 → ℕ) a + (z a).val := fun a => by
    subst hz; exact ValueKit.rect_emb_unit_val _ _ (inb_src b w) _ a
  have z0 : (z 0).val < 1 := (z 0).isLt
  refine congrArg (W0 : S16x1536x128.Idx → Elt F .f32) (funext fun a => Fin.ext ?_)
  refine (e2 a).trans ?_
  fin_cases a
  · show b.val + (z 0).val = b.val; omega
  · exact (e1 (1 : Fin 3)).symm
  · exact (e1 (2 : Fin 3)).symm
omit [FloatOps F] in
/-- The four landed parts are the slot at the block. -/
theorem slot_of_landed (s : Fin 3) (b : Fin 16) (f : Fin 4 → HbBuf0 (F := F) c scM0_0) :
    iprop(winP c 0 s (landed c W0 0 s b (f 0)) ∗ winP c 1 s (landed c W0 1 s b (f 1)) ∗ winP c 2 s (landed c W0 2 s b (f 2)) ∗ winP c 3 s (landed c W0 3 s b (f 3)))
      ⊢ slotPt (F := F) c s (slotL c W0 b) := by
  unfold winP
  rw [pointsTo_congr (landed_eq c W0 0 s b (f 0)), pointsTo_congr (landed_eq c W0 1 s b (f 1)), pointsTo_congr (landed_eq c W0 2 s b (f 2)), pointsTo_congr (landed_eq c W0 3 s b (f 3))]
  exact (slot_parts c s (slotL c W0 b)).2

theorem winP_eq (i : Fin 3 × Fin 4) (e : HbBuf0 (F := F) c scM0_0) : winP (F := F) c i.2 i.1 e = (((c : Thread nD τ).loc cc0_scratch0) ↦[winSet i]{fullShare} e : sProp 𝕄) := by
  unfold winP; rw [winSet_eq]; rfl
theorem slots_eq : (bigSep Finset.univ (fun i : Fin 3 × Fin 4 => iprop(∃ e, (fun (i : Fin 3 × Fin 4) (e : HbBuf0 (F := F) c scM0_0) => winP c i.2 i.1 e) i e)) : sProp 𝕄) = iprop((∃ f, slotP (F := F) c 0 f) ∗ (∃ f, slotP (F := F) c 1 f) ∗ ∃ f, slotP (F := F) c 2 f) := by
  rw [BI.bigSep_univ_prod, Ring.bigSep_fin3]
  have e : ∀ j : Fin 3, (bigSep Finset.univ (fun w : Fin 4 => iprop(∃ e, (fun (i : Fin 3 × Fin 4) (e : HbBuf0 (F := F) c scM0_0) => winP c i.2 i.1 e) (j, w) e)) : sProp 𝕄) = iprop(∃ f, slotP (F := F) c j f) := fun j => by
    rw [← Ring.bigSep_exists_pi_eq]; unfold slotP
    refine congrArg _ (funext fun f => ?_)
    rw [BI.bigSep_eq_bigSepL_of_eq [0, 1, 2, 3] (by decide) (by decide)]; rfl
  rw [e 0, e 1, e 2]

theorem src_0_split (s : Fin 3) (b : Fin 16) : wholeP_0 (F := F) c W0 s ⊣⊢ iprop(srcP_0 c W0 s b ∗ restP_0 c W0 s b) := by
  unfold restP_0; exact pointsTo_split_subset (Finset.subset_univ _)
theorem src_1_split (s : Fin 3) (b : Fin 16) : wholeP_1 (F := F) c W0 s ⊣⊢ iprop(srcP_1 c W0 s b ∗ restP_1 c W0 s b) := by
  unfold restP_1; exact pointsTo_split_subset (Finset.subset_univ _)
theorem src_2_split (s : Fin 3) (b : Fin 16) : wholeP_2 (F := F) c W0 s ⊣⊢ iprop(srcP_2 c W0 s b ∗ restP_2 c W0 s b) := by
  unfold restP_2; exact pointsTo_split_subset (Finset.subset_univ _)
theorem src_3_split (s : Fin 3) (b : Fin 16) : wholeP_3 (F := F) c W0 s ⊣⊢ iprop(srcP_3 c W0 s b ∗ restP_3 c W0 s b) := by
  unfold restP_3; exact pointsTo_split_subset (Finset.subset_univ _)
/-- The operand at the full share is its twelve shares. -/
theorem whole_split : (hbPt0 c hbM0_0 W0 : sProp 𝕄) ⊣⊢ iprop(wholeP_0 c W0 0 ∗ wholeP_0 c W0 1 ∗ wholeP_0 c W0 2 ∗ wholeP_1 c W0 0 ∗ wholeP_1 c W0 1 ∗ wholeP_1 c W0 2 ∗ wholeP_2 c W0 0 ∗ wholeP_2 c W0 1 ∗ wholeP_2 c W0 2 ∗ wholeP_3 c W0 0 ∗ wholeP_3 c W0 1 ∗ wholeP_3 c W0 2) := by
  refine ⟨?_, ?_⟩
  · iintro R0
    ihave G0 := (pointsTo_share (PosShare.mem_left_op_right fullShare)).1 $$ R0
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, R5⟩
    ihave G5 := (pointsTo_share (PosShare.mem_left_op_right fullShare.right.right.right.right.right)).1 $$ R5
    icases G5 with ⟨H5, R6⟩
    ihave G6 := (pointsTo_share (PosShare.mem_left_op_right fullShare.right.right.right.right.right.right)).1 $$ R6
    icases G6 with ⟨H6, R7⟩
    ihave G7 := (pointsTo_share (PosShare.mem_left_op_right fullShare.right.right.right.right.right.right.right)).1 $$ R7
    icases G7 with ⟨H7, R8⟩
    ihave G8 := (pointsTo_share (PosShare.mem_left_op_right fullShare.right.right.right.right.right.right.right.right)).1 $$ R8
    icases G8 with ⟨H8, R9⟩
    ihave G9 := (pointsTo_share (PosShare.mem_left_op_right fullShare.right.right.right.right.right.right.right.right.right)).1 $$ R9
    icases G9 with ⟨H9, R10⟩
    ihave G10 := (pointsTo_share (PosShare.mem_left_op_right fullShare.right.right.right.right.right.right.right.right.right.right)).1 $$ R10
    icases G10 with ⟨H10, R11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact R11
  · iintro ⟨H0, H1, H2, H3, H4, H5, H6, H7, H8, H9, H10, H11⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iapply (pointsTo_share (PosShare.mem_left_op_right fullShare.right.right.right.right.right)).2
    isplitl [H5]; · iexact H5
    iapply (pointsTo_share (PosShare.mem_left_op_right fullShare.right.right.right.right.right.right)).2
    isplitl [H6]; · iexact H6
    iapply (pointsTo_share (PosShare.mem_left_op_right fullShare.right.right.right.right.right.right.right)).2
    isplitl [H7]; · iexact H7
    iapply (pointsTo_share (PosShare.mem_left_op_right fullShare.right.right.right.right.right.right.right.right)).2
    isplitl [H8]; · iexact H8
    iapply (pointsTo_share (PosShare.mem_left_op_right fullShare.right.right.right.right.right.right.right.right.right)).2
    isplitl [H9]; · iexact H9
    iapply (pointsTo_share (PosShare.mem_left_op_right fullShare.right.right.right.right.right.right.right.right.right.right)).2
    isplitl [H10]; · iexact H10
    iexact H11

set_option maxHeartbeats 1000000 in
theorem slots_in : iprop(∃ d, owns (c : Thread nD τ) scM0_0 fullShare d) ⊢ (iprop(((∃ f, slotP (F := F) c 0 f) ∗ (∃ f, slotP (F := F) c 1 f) ∗ ∃ f, slotP (F := F) c 2 f) ∗ spareP c) : sProp 𝕄) := by
  simp only [scM0_0, owns_whole]
  rw [← slots_eq c]
  exact Ring.pieces_split_spare (U := Pipeline.UD sig nD τ) (ℓ := (c : Thread nD τ).loc cc0_scratch0) (q := fullShare) winSet wins_disjoint
    (fun (i : Fin 3 × Fin 4) (e : HbBuf0 (F := F) c scM0_0) => winP c i.2 i.1 e) (winP_eq c)
set_option maxHeartbeats 1000000 in
theorem slots_out : (iprop(((∃ f, slotP (F := F) c 0 f) ∗ (∃ f, slotP (F := F) c 1 f) ∗ ∃ f, slotP (F := F) c 2 f) ∗ spareP c) : sProp 𝕄) ⊢ iprop(∃ d, owns (c : Thread nD τ) scM0_0 fullShare d) := by
  simp only [scM0_0, owns_whole]
  rw [← slots_eq c]
  exact Ring.pieces_join_spare (U := Pipeline.UD sig nD τ) (ℓ := (c : Thread nD τ).loc cc0_scratch0) (q := fullShare) winSet wins_disjoint
    (fun (i : Fin 3 × Fin 4) (e : HbBuf0 (F := F) c scM0_0) => winP c i.2 i.1 e) (winP_eq c)
end Handing

/-- Into the ring: the scratch, the cells at zero and the operand are the ring before its first point. -/
theorem ring_in (c : Dev nD) :
    iprop((∃ d, owns (c : Thread nD τ) scM0_0 fullShare d) ∗ (semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ hbPt0 c hbM0_0 (V m c main_v0))
      ⊢ iprop(ringAt c (V m c main_v0) 0 ∗ spareP c) := by
  unfold ringAt; rw [if_pos rfl]; unfold Ring.At₀
  rw [Ring.bigSep_fin3]
  simp only [Ring.free, cellP_0, cellP_1, cellP_2]
  iintro ⟨HS, Hc, HR⟩
  icases Hc with ⟨C00, C01, C02, C03, C10, C11, C12, C13, C20, C21, C22, C23⟩
  ihave HS' := (slots_in (F := F) c) $$ HS
  icases HS' with ⟨⟨⟨%d0, S0⟩, ⟨%d1, S1⟩, ⟨%d2, S2⟩⟩, HSp⟩
  ihave HR' := (whole_split (F := F) c (V m c main_v0)).1 $$ HR
  icases HR' with ⟨W00, W01, W02, W10, W11, W12, W20, W21, W22, W30, W31, W32⟩
  isplitr [HSp]
  · iapply Ring.with_homes₀
    isplitl [C00 C01 C02 C03 S0 W00 W10 W20 W30]
    · isplitl [C00 C01 C02 C03]
      · isplitl [C00]; · iexact C00
        isplitl [C01]; · iexact C01
        isplitl [C02]; · iexact C02
        iexact C03
      iexists d0; isplitl [S0]; · iexact S0
      isplitl [W00]; · iexact W00
      isplitl [W10]; · iexact W10
      isplitl [W20]; · iexact W20
      iexact W30
    isplitl [C10 C11 C12 C13 S1 W01 W11 W21 W31]
    · isplitl [C10 C11 C12 C13]
      · isplitl [C10]; · iexact C10
        isplitl [C11]; · iexact C11
        isplitl [C12]; · iexact C12
        iexact C13
      iexists d1; isplitl [S1]; · iexact S1
      isplitl [W01]; · iexact W01
      isplitl [W11]; · iexact W11
      isplitl [W21]; · iexact W21
      iexact W31
    · isplitl [C20 C21 C22 C23]
      · isplitl [C20]; · iexact C20
        isplitl [C21]; · iexact C21
        isplitl [C22]; · iexact C22
        iexact C23
      iexists d2; isplitl [S2]; · iexact S2
      isplitl [W02]; · iexact W02
      isplitl [W12]; · iexact W12
      isplitl [W22]; · iexact W22
      iexact W32
  iexact HSp

/-- Out of the ring: after the last point they come back. -/
theorem ring_out (c : Dev nD) :
    iprop(ringAt c (V m c main_v0) 16 ∗ spareP c)
      ⊢ iprop((∃ d, owns (c : Thread nD τ) scM0_0 fullShare d) ∗ (semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ hbPt0 c hbM0_0 (V m c main_v0)) := by
  unfold ringAt; rw [if_neg (by decide)]
  iintro ⟨H, HSp⟩
  ihave H' := (Ring.free3_of_At_last _ _ _ _) $$ H
  simp only [Ring.free, cellP_0, cellP_1, cellP_2]
  icases H' with ⟨-, ⟨⟨C00, C01, C02, C03⟩, ⟨%f0, S0, W00, W10, W20, W30⟩⟩, ⟨⟨C10, C11, C12, C13⟩, ⟨%f1, S1, W01, W11, W21, W31⟩⟩, ⟨⟨C20, C21, C22, C23⟩, ⟨%f2, S2, W02, W12, W22, W32⟩⟩⟩
  isplitl [S0 S1 S2 HSp]
  · iapply (slots_out (F := F) c); isplitl [S0 S1 S2]
    · isplitl [S0]; · iexists f0; iexact S0
      isplitl [S1]; · iexists f1; iexact S1
      iexists f2; iexact S2
    iexact HSp
  isplitl [C00 C01 C02 C03 C10 C11 C12 C13 C20 C21 C22 C23]
  · isplitl [C00]; · iexact C00
    isplitl [C01]; · iexact C01
    isplitl [C02]; · iexact C02
    isplitl [C03]; · iexact C03
    isplitl [C10]; · iexact C10
    isplitl [C11]; · iexact C11
    isplitl [C12]; · iexact C12
    isplitl [C13]; · iexact C13
    isplitl [C20]; · iexact C20
    isplitl [C21]; · iexact C21
    isplitl [C22]; · iexact C22
    iexact C23
  iapply (whole_split (F := F) c (V m c main_v0)).2
  isplitl [W00]; · iexact W00
  isplitl [W01]; · iexact W01
  isplitl [W02]; · iexact W02
  isplitl [W10]; · iexact W10
  isplitl [W11]; · iexact W11
  isplitl [W12]; · iexact W12
  isplitl [W20]; · iexact W20
  isplitl [W21]; · iexact W21
  isplitl [W22]; · iexact W22
  isplitl [W30]; · iexact W30
  isplitl [W31]; · iexact W31
  iexact W32

/-! ## The body's slices at each point are the ring's names -/

section Canon
omit [FloatOps F]
theorem rstep_A : ∀ t : Fin grid0.N, cond0_0 (grid0.coords t) → t.val = 0 := by decide +kernel
theorem rstep_B : ∀ t : Fin grid0.N, ¬cond0_0 (grid0.coords t) → cond0_1 (grid0.coords t) → 1 ≤ t.val ∧ t.val + 2 < 16 := by decide +kernel
theorem rstep_C : ∀ t : Fin grid0.N, ¬cond0_0 (grid0.coords t) → ¬cond0_1 (grid0.coords t) → 1 ≤ t.val ∧ 16 ≤ t.val + 2 ∧ t.val < 16 := by decide +kernel
set_option synthInstance.maxSize 4096 in
theorem coff_1 : ∀ t : Fin grid0.N, cond0_0 (grid0.coords t) → (![0, 0, 0] : Fin 3 → Nat) = ![(Ring.sl 3 t.val).val, 384 * ((0 : Fin 4).val), 0] := by decide +kernel
@[sl_canon] theorem canon_1 (t : Fin grid0.N) (h0 : cond0_0 (grid0.coords t)) :
    (scM0_0.slice (Rect.unit (s := S3x1536x128) ![0, 0, 0] S1x384x128.size inb_S3x1536x128_S1x384x128_0_0_0) (fun _ => rfl)).squeeze S384x128 squeezes_S1x384x128_S384x128 = rwin 0 (Ring.sl 3 t.val) :=
  congrArg (fun M : Memref sig .tc .vmem S1x384x128 .f32 => M.squeeze S384x128 squeezes_S1x384x128_S384x128) (Memref.slice_unit_congr _ (coff_1 t h0) _ _ (fun _ => rfl) (fun _ => rfl))
@[sl_canon] theorem canon_1' (t : Fin grid0.N) (h0 : cond0_0 (grid0.coords t)) :
    (scM0_0.slice (Rect.unit (s := S3x1536x128) ![0, 0, 0] ![1, 384, 128] inb_S3x1536x128_S1x384x128_0_0_0) (fun _ => rfl)).squeeze S384x128 squeezes_S1x384x128_S384x128 = rwin 0 (Ring.sl 3 t.val) :=
  canon_1 t h0
set_option synthInstance.maxSize 4096 in
theorem coff_2 : ∀ t : Fin grid0.N, cond0_0 (grid0.coords t) → (![0, 0] : Fin 2 → Nat) = ![(Ring.sl 3 t.val).val, (0 : Fin 4).val] := by decide +kernel
@[sl_canon] theorem canon_2 (t : Fin grid0.N) (h0 : cond0_0 (grid0.coords t)) :
    (cc0_scratch1.slice (Rect.unit (s := S3x4) ![0, 0] S1x1.size inb_S3x4_S1x1_0_0)).squeeze S_ squeezes_S1x1_S_ = cellA (Ring.sl 3 t.val) 0 :=
  congrArg (fun A : DmaSems sig S1x1 => A.squeeze S_ squeezes_S1x1_S_) (SemArray.slice_unit_congr _ (coff_2 t h0) _ _)
@[sl_canon] theorem canon_2' (t : Fin grid0.N) (h0 : cond0_0 (grid0.coords t)) :
    (cc0_scratch1.slice (Rect.unit (s := S3x4) ![0, 0] ![1, 1] inb_S3x4_S1x1_0_0)).squeeze S_ squeezes_S1x1_S_ = cellA (Ring.sl 3 t.val) 0 :=
  canon_2 t h0
set_option synthInstance.maxSize 4096 in
theorem coff_3 : ∀ t : Fin grid0.N, cond0_0 (grid0.coords t) → (![0, 0, 0] : Fin 3 → Nat) = ![(Ring.bk 16 t.val).val, 384 * ((0 : Fin 4).val), 0] := by decide +kernel
@[sl_canon] theorem canon_3 (t : Fin grid0.N) (h0 : cond0_0 (grid0.coords t)) :
    (hbM0_0.slice (Rect.unit (s := S16x1536x128) ![0, 0, 0] S1x384x128.size inb_S16x1536x128_S1x384x128_0_0_0) (fun _ => rfl)).squeeze S384x128 squeezes_S1x384x128_S384x128 = srcB 0 (Ring.bk 16 t.val) :=
  congrArg (fun M : Memref sig .tc .hbm S1x384x128 .f32 => M.squeeze S384x128 squeezes_S1x384x128_S384x128) (Memref.slice_unit_congr _ (coff_3 t h0) _ _ (fun _ => rfl) (fun _ => rfl))
@[sl_canon] theorem canon_3' (t : Fin grid0.N) (h0 : cond0_0 (grid0.coords t)) :
    (hbM0_0.slice (Rect.unit (s := S16x1536x128) ![0, 0, 0] ![1, 384, 128] inb_S16x1536x128_S1x384x128_0_0_0) (fun _ => rfl)).squeeze S384x128 squeezes_S1x384x128_S384x128 = srcB 0 (Ring.bk 16 t.val) :=
  canon_3 t h0
set_option synthInstance.maxSize 4096 in
theorem coff_4 : ∀ t : Fin grid0.N, cond0_0 (grid0.coords t) → (![0, 384, 0] : Fin 3 → Nat) = ![(Ring.sl 3 t.val).val, 384 * ((1 : Fin 4).val), 0] := by decide +kernel
@[sl_canon] theorem canon_4 (t : Fin grid0.N) (h0 : cond0_0 (grid0.coords t)) :
    (scM0_0.slice (Rect.unit (s := S3x1536x128) ![0, 384, 0] S1x384x128.size inb_S3x1536x128_S1x384x128_0_384_0) (fun _ => rfl)).squeeze S384x128 squeezes_S1x384x128_S384x128 = rwin 1 (Ring.sl 3 t.val) :=
  congrArg (fun M : Memref sig .tc .vmem S1x384x128 .f32 => M.squeeze S384x128 squeezes_S1x384x128_S384x128) (Memref.slice_unit_congr _ (coff_4 t h0) _ _ (fun _ => rfl) (fun _ => rfl))
@[sl_canon] theorem canon_4' (t : Fin grid0.N) (h0 : cond0_0 (grid0.coords t)) :
    (scM0_0.slice (Rect.unit (s := S3x1536x128) ![0, 384, 0] ![1, 384, 128] inb_S3x1536x128_S1x384x128_0_384_0) (fun _ => rfl)).squeeze S384x128 squeezes_S1x384x128_S384x128 = rwin 1 (Ring.sl 3 t.val) :=
  canon_4 t h0
set_option synthInstance.maxSize 4096 in
theorem coff_5 : ∀ t : Fin grid0.N, cond0_0 (grid0.coords t) → (![0, 1] : Fin 2 → Nat) = ![(Ring.sl 3 t.val).val, (1 : Fin 4).val] := by decide +kernel
@[sl_canon] theorem canon_5 (t : Fin grid0.N) (h0 : cond0_0 (grid0.coords t)) :
    (cc0_scratch1.slice (Rect.unit (s := S3x4) ![0, 1] S1x1.size inb_S3x4_S1x1_0_1)).squeeze S_ squeezes_S1x1_S_ = cellA (Ring.sl 3 t.val) 1 :=
  congrArg (fun A : DmaSems sig S1x1 => A.squeeze S_ squeezes_S1x1_S_) (SemArray.slice_unit_congr _ (coff_5 t h0) _ _)
@[sl_canon] theorem canon_5' (t : Fin grid0.N) (h0 : cond0_0 (grid0.coords t)) :
    (cc0_scratch1.slice (Rect.unit (s := S3x4) ![0, 1] ![1, 1] inb_S3x4_S1x1_0_1)).squeeze S_ squeezes_S1x1_S_ = cellA (Ring.sl 3 t.val) 1 :=
  canon_5 t h0
set_option synthInstance.maxSize 4096 in
theorem coff_6 : ∀ t : Fin grid0.N, cond0_0 (grid0.coords t) → (![0, 384, 0] : Fin 3 → Nat) = ![(Ring.bk 16 t.val).val, 384 * ((1 : Fin 4).val), 0] := by decide +kernel
@[sl_canon] theorem canon_6 (t : Fin grid0.N) (h0 : cond0_0 (grid0.coords t)) :
    (hbM0_0.slice (Rect.unit (s := S16x1536x128) ![0, 384, 0] S1x384x128.size inb_S16x1536x128_S1x384x128_0_384_0) (fun _ => rfl)).squeeze S384x128 squeezes_S1x384x128_S384x128 = srcB 1 (Ring.bk 16 t.val) :=
  congrArg (fun M : Memref sig .tc .hbm S1x384x128 .f32 => M.squeeze S384x128 squeezes_S1x384x128_S384x128) (Memref.slice_unit_congr _ (coff_6 t h0) _ _ (fun _ => rfl) (fun _ => rfl))
@[sl_canon] theorem canon_6' (t : Fin grid0.N) (h0 : cond0_0 (grid0.coords t)) :
    (hbM0_0.slice (Rect.unit (s := S16x1536x128) ![0, 384, 0] ![1, 384, 128] inb_S16x1536x128_S1x384x128_0_384_0) (fun _ => rfl)).squeeze S384x128 squeezes_S1x384x128_S384x128 = srcB 1 (Ring.bk 16 t.val) :=
  canon_6 t h0
set_option synthInstance.maxSize 4096 in
theorem coff_7 : ∀ t : Fin grid0.N, cond0_0 (grid0.coords t) → (![0, 768, 0] : Fin 3 → Nat) = ![(Ring.sl 3 t.val).val, 384 * ((2 : Fin 4).val), 0] := by decide +kernel
@[sl_canon] theorem canon_7 (t : Fin grid0.N) (h0 : cond0_0 (grid0.coords t)) :
    (scM0_0.slice (Rect.unit (s := S3x1536x128) ![0, 768, 0] S1x384x128.size inb_S3x1536x128_S1x384x128_0_768_0) (fun _ => rfl)).squeeze S384x128 squeezes_S1x384x128_S384x128 = rwin 2 (Ring.sl 3 t.val) :=
  congrArg (fun M : Memref sig .tc .vmem S1x384x128 .f32 => M.squeeze S384x128 squeezes_S1x384x128_S384x128) (Memref.slice_unit_congr _ (coff_7 t h0) _ _ (fun _ => rfl) (fun _ => rfl))
@[sl_canon] theorem canon_7' (t : Fin grid0.N) (h0 : cond0_0 (grid0.coords t)) :
    (scM0_0.slice (Rect.unit (s := S3x1536x128) ![0, 768, 0] ![1, 384, 128] inb_S3x1536x128_S1x384x128_0_768_0) (fun _ => rfl)).squeeze S384x128 squeezes_S1x384x128_S384x128 = rwin 2 (Ring.sl 3 t.val) :=
  canon_7 t h0
set_option synthInstance.maxSize 4096 in
theorem coff_8 : ∀ t : Fin grid0.N, cond0_0 (grid0.coords t) → (![0, 2] : Fin 2 → Nat) = ![(Ring.sl 3 t.val).val, (2 : Fin 4).val] := by decide +kernel
@[sl_canon] theorem canon_8 (t : Fin grid0.N) (h0 : cond0_0 (grid0.coords t)) :
    (cc0_scratch1.slice (Rect.unit (s := S3x4) ![0, 2] S1x1.size inb_S3x4_S1x1_0_2)).squeeze S_ squeezes_S1x1_S_ = cellA (Ring.sl 3 t.val) 2 :=
  congrArg (fun A : DmaSems sig S1x1 => A.squeeze S_ squeezes_S1x1_S_) (SemArray.slice_unit_congr _ (coff_8 t h0) _ _)
@[sl_canon] theorem canon_8' (t : Fin grid0.N) (h0 : cond0_0 (grid0.coords t)) :
    (cc0_scratch1.slice (Rect.unit (s := S3x4) ![0, 2] ![1, 1] inb_S3x4_S1x1_0_2)).squeeze S_ squeezes_S1x1_S_ = cellA (Ring.sl 3 t.val) 2 :=
  canon_8 t h0
set_option synthInstance.maxSize 4096 in
theorem coff_9 : ∀ t : Fin grid0.N, cond0_0 (grid0.coords t) → (![0, 768, 0] : Fin 3 → Nat) = ![(Ring.bk 16 t.val).val, 384 * ((2 : Fin 4).val), 0] := by decide +kernel
@[sl_canon] theorem canon_9 (t : Fin grid0.N) (h0 : cond0_0 (grid0.coords t)) :
    (hbM0_0.slice (Rect.unit (s := S16x1536x128) ![0, 768, 0] S1x384x128.size inb_S16x1536x128_S1x384x128_0_768_0) (fun _ => rfl)).squeeze S384x128 squeezes_S1x384x128_S384x128 = srcB 2 (Ring.bk 16 t.val) :=
  congrArg (fun M : Memref sig .tc .hbm S1x384x128 .f32 => M.squeeze S384x128 squeezes_S1x384x128_S384x128) (Memref.slice_unit_congr _ (coff_9 t h0) _ _ (fun _ => rfl) (fun _ => rfl))
@[sl_canon] theorem canon_9' (t : Fin grid0.N) (h0 : cond0_0 (grid0.coords t)) :
    (hbM0_0.slice (Rect.unit (s := S16x1536x128) ![0, 768, 0] ![1, 384, 128] inb_S16x1536x128_S1x384x128_0_768_0) (fun _ => rfl)).squeeze S384x128 squeezes_S1x384x128_S384x128 = srcB 2 (Ring.bk 16 t.val) :=
  canon_9 t h0
set_option synthInstance.maxSize 4096 in
theorem coff_10 : ∀ t : Fin grid0.N, cond0_0 (grid0.coords t) → (![0, 1152, 0] : Fin 3 → Nat) = ![(Ring.sl 3 t.val).val, 384 * ((3 : Fin 4).val), 0] := by decide +kernel
@[sl_canon] theorem canon_10 (t : Fin grid0.N) (h0 : cond0_0 (grid0.coords t)) :
    (scM0_0.slice (Rect.unit (s := S3x1536x128) ![0, 1152, 0] S1x384x128.size inb_S3x1536x128_S1x384x128_0_1152_0) (fun _ => rfl)).squeeze S384x128 squeezes_S1x384x128_S384x128 = rwin 3 (Ring.sl 3 t.val) :=
  congrArg (fun M : Memref sig .tc .vmem S1x384x128 .f32 => M.squeeze S384x128 squeezes_S1x384x128_S384x128) (Memref.slice_unit_congr _ (coff_10 t h0) _ _ (fun _ => rfl) (fun _ => rfl))
@[sl_canon] theorem canon_10' (t : Fin grid0.N) (h0 : cond0_0 (grid0.coords t)) :
    (scM0_0.slice (Rect.unit (s := S3x1536x128) ![0, 1152, 0] ![1, 384, 128] inb_S3x1536x128_S1x384x128_0_1152_0) (fun _ => rfl)).squeeze S384x128 squeezes_S1x384x128_S384x128 = rwin 3 (Ring.sl 3 t.val) :=
  canon_10 t h0
set_option synthInstance.maxSize 4096 in
theorem coff_11 : ∀ t : Fin grid0.N, cond0_0 (grid0.coords t) → (![0, 3] : Fin 2 → Nat) = ![(Ring.sl 3 t.val).val, (3 : Fin 4).val] := by decide +kernel
@[sl_canon] theorem canon_11 (t : Fin grid0.N) (h0 : cond0_0 (grid0.coords t)) :
    (cc0_scratch1.slice (Rect.unit (s := S3x4) ![0, 3] S1x1.size inb_S3x4_S1x1_0_3)).squeeze S_ squeezes_S1x1_S_ = cellA (Ring.sl 3 t.val) 3 :=
  congrArg (fun A : DmaSems sig S1x1 => A.squeeze S_ squeezes_S1x1_S_) (SemArray.slice_unit_congr _ (coff_11 t h0) _ _)
@[sl_canon] theorem canon_11' (t : Fin grid0.N) (h0 : cond0_0 (grid0.coords t)) :
    (cc0_scratch1.slice (Rect.unit (s := S3x4) ![0, 3] ![1, 1] inb_S3x4_S1x1_0_3)).squeeze S_ squeezes_S1x1_S_ = cellA (Ring.sl 3 t.val) 3 :=
  canon_11 t h0
set_option synthInstance.maxSize 4096 in
theorem coff_12 : ∀ t : Fin grid0.N, cond0_0 (grid0.coords t) → (![0, 1152, 0] : Fin 3 → Nat) = ![(Ring.bk 16 t.val).val, 384 * ((3 : Fin 4).val), 0] := by decide +kernel
@[sl_canon] theorem canon_12 (t : Fin grid0.N) (h0 : cond0_0 (grid0.coords t)) :
    (hbM0_0.slice (Rect.unit (s := S16x1536x128) ![0, 1152, 0] S1x384x128.size inb_S16x1536x128_S1x384x128_0_1152_0) (fun _ => rfl)).squeeze S384x128 squeezes_S1x384x128_S384x128 = srcB 3 (Ring.bk 16 t.val) :=
  congrArg (fun M : Memref sig .tc .hbm S1x384x128 .f32 => M.squeeze S384x128 squeezes_S1x384x128_S384x128) (Memref.slice_unit_congr _ (coff_12 t h0) _ _ (fun _ => rfl) (fun _ => rfl))
@[sl_canon] theorem canon_12' (t : Fin grid0.N) (h0 : cond0_0 (grid0.coords t)) :
    (hbM0_0.slice (Rect.unit (s := S16x1536x128) ![0, 1152, 0] ![1, 384, 128] inb_S16x1536x128_S1x384x128_0_1152_0) (fun _ => rfl)).squeeze S384x128 squeezes_S1x384x128_S384x128 = srcB 3 (Ring.bk 16 t.val) :=
  canon_12 t h0
set_option synthInstance.maxSize 4096 in
theorem coff_13 : ∀ t : Fin grid0.N, cond0_0 (grid0.coords t) → (![1, 0, 0] : Fin 3 → Nat) = ![(Ring.sl 3 (t.val + 1)).val, 384 * ((0 : Fin 4).val), 0] := by decide +kernel
@[sl_canon] theorem canon_13 (t : Fin grid0.N) (h0 : cond0_0 (grid0.coords t)) :
    (scM0_0.slice (Rect.unit (s := S3x1536x128) ![1, 0, 0] S1x384x128.size inb_S3x1536x128_S1x384x128_1_0_0) (fun _ => rfl)).squeeze S384x128 squeezes_S1x384x128_S384x128 = rwin 0 (Ring.sl 3 (t.val + 1)) :=
  congrArg (fun M : Memref sig .tc .vmem S1x384x128 .f32 => M.squeeze S384x128 squeezes_S1x384x128_S384x128) (Memref.slice_unit_congr _ (coff_13 t h0) _ _ (fun _ => rfl) (fun _ => rfl))
@[sl_canon] theorem canon_13' (t : Fin grid0.N) (h0 : cond0_0 (grid0.coords t)) :
    (scM0_0.slice (Rect.unit (s := S3x1536x128) ![1, 0, 0] ![1, 384, 128] inb_S3x1536x128_S1x384x128_1_0_0) (fun _ => rfl)).squeeze S384x128 squeezes_S1x384x128_S384x128 = rwin 0 (Ring.sl 3 (t.val + 1)) :=
  canon_13 t h0
set_option synthInstance.maxSize 4096 in
theorem coff_14 : ∀ t : Fin grid0.N, cond0_0 (grid0.coords t) → (![1, 0] : Fin 2 → Nat) = ![(Ring.sl 3 (t.val + 1)).val, (0 : Fin 4).val] := by decide +kernel
@[sl_canon] theorem canon_14 (t : Fin grid0.N) (h0 : cond0_0 (grid0.coords t)) :
    (cc0_scratch1.slice (Rect.unit (s := S3x4) ![1, 0] S1x1.size inb_S3x4_S1x1_1_0)).squeeze S_ squeezes_S1x1_S_ = cellA (Ring.sl 3 (t.val + 1)) 0 :=
  congrArg (fun A : DmaSems sig S1x1 => A.squeeze S_ squeezes_S1x1_S_) (SemArray.slice_unit_congr _ (coff_14 t h0) _ _)
@[sl_canon] theorem canon_14' (t : Fin grid0.N) (h0 : cond0_0 (grid0.coords t)) :
    (cc0_scratch1.slice (Rect.unit (s := S3x4) ![1, 0] ![1, 1] inb_S3x4_S1x1_1_0)).squeeze S_ squeezes_S1x1_S_ = cellA (Ring.sl 3 (t.val + 1)) 0 :=
  canon_14 t h0
set_option synthInstance.maxSize 4096 in
theorem coff_15 : ∀ t : Fin grid0.N, cond0_0 (grid0.coords t) → (![1, 0, 0] : Fin 3 → Nat) = ![(Ring.bk 16 (t.val + 1)).val, 384 * ((0 : Fin 4).val), 0] := by decide +kernel
@[sl_canon] theorem canon_15 (t : Fin grid0.N) (h0 : cond0_0 (grid0.coords t)) :
    (hbM0_0.slice (Rect.unit (s := S16x1536x128) ![1, 0, 0] S1x384x128.size inb_S16x1536x128_S1x384x128_1_0_0) (fun _ => rfl)).squeeze S384x128 squeezes_S1x384x128_S384x128 = srcB 0 (Ring.bk 16 (t.val + 1)) :=
  congrArg (fun M : Memref sig .tc .hbm S1x384x128 .f32 => M.squeeze S384x128 squeezes_S1x384x128_S384x128) (Memref.slice_unit_congr _ (coff_15 t h0) _ _ (fun _ => rfl) (fun _ => rfl))
@[sl_canon] theorem canon_15' (t : Fin grid0.N) (h0 : cond0_0 (grid0.coords t)) :
    (hbM0_0.slice (Rect.unit (s := S16x1536x128) ![1, 0, 0] ![1, 384, 128] inb_S16x1536x128_S1x384x128_1_0_0) (fun _ => rfl)).squeeze S384x128 squeezes_S1x384x128_S384x128 = srcB 0 (Ring.bk 16 (t.val + 1)) :=
  canon_15 t h0
set_option synthInstance.maxSize 4096 in
theorem coff_16 : ∀ t : Fin grid0.N, cond0_0 (grid0.coords t) → (![1, 384, 0] : Fin 3 → Nat) = ![(Ring.sl 3 (t.val + 1)).val, 384 * ((1 : Fin 4).val), 0] := by decide +kernel
@[sl_canon] theorem canon_16 (t : Fin grid0.N) (h0 : cond0_0 (grid0.coords t)) :
    (scM0_0.slice (Rect.unit (s := S3x1536x128) ![1, 384, 0] S1x384x128.size inb_S3x1536x128_S1x384x128_1_384_0) (fun _ => rfl)).squeeze S384x128 squeezes_S1x384x128_S384x128 = rwin 1 (Ring.sl 3 (t.val + 1)) :=
  congrArg (fun M : Memref sig .tc .vmem S1x384x128 .f32 => M.squeeze S384x128 squeezes_S1x384x128_S384x128) (Memref.slice_unit_congr _ (coff_16 t h0) _ _ (fun _ => rfl) (fun _ => rfl))
@[sl_canon] theorem canon_16' (t : Fin grid0.N) (h0 : cond0_0 (grid0.coords t)) :
    (scM0_0.slice (Rect.unit (s := S3x1536x128) ![1, 384, 0] ![1, 384, 128] inb_S3x1536x128_S1x384x128_1_384_0) (fun _ => rfl)).squeeze S384x128 squeezes_S1x384x128_S384x128 = rwin 1 (Ring.sl 3 (t.val + 1)) :=
  canon_16 t h0
set_option synthInstance.maxSize 4096 in
theorem coff_17 : ∀ t : Fin grid0.N, cond0_0 (grid0.coords t) → (![1, 1] : Fin 2 → Nat) = ![(Ring.sl 3 (t.val + 1)).val, (1 : Fin 4).val] := by decide +kernel
@[sl_canon] theorem canon_17 (t : Fin grid0.N) (h0 : cond0_0 (grid0.coords t)) :
    (cc0_scratch1.slice (Rect.unit (s := S3x4) ![1, 1] S1x1.size inb_S3x4_S1x1_1_1)).squeeze S_ squeezes_S1x1_S_ = cellA (Ring.sl 3 (t.val + 1)) 1 :=
  congrArg (fun A : DmaSems sig S1x1 => A.squeeze S_ squeezes_S1x1_S_) (SemArray.slice_unit_congr _ (coff_17 t h0) _ _)
@[sl_canon] theorem canon_17' (t : Fin grid0.N) (h0 : cond0_0 (grid0.coords t)) :
    (cc0_scratch1.slice (Rect.unit (s := S3x4) ![1, 1] ![1, 1] inb_S3x4_S1x1_1_1)).squeeze S_ squeezes_S1x1_S_ = cellA (Ring.sl 3 (t.val + 1)) 1 :=
  canon_17 t h0
set_option synthInstance.maxSize 4096 in
theorem coff_18 : ∀ t : Fin grid0.N, cond0_0 (grid0.coords t) → (![1, 384, 0] : Fin 3 → Nat) = ![(Ring.bk 16 (t.val + 1)).val, 384 * ((1 : Fin 4).val), 0] := by decide +kernel
@[sl_canon] theorem canon_18 (t : Fin grid0.N) (h0 : cond0_0 (grid0.coords t)) :
    (hbM0_0.slice (Rect.unit (s := S16x1536x128) ![1, 384, 0] S1x384x128.size inb_S16x1536x128_S1x384x128_1_384_0) (fun _ => rfl)).squeeze S384x128 squeezes_S1x384x128_S384x128 = srcB 1 (Ring.bk 16 (t.val + 1)) :=
  congrArg (fun M : Memref sig .tc .hbm S1x384x128 .f32 => M.squeeze S384x128 squeezes_S1x384x128_S384x128) (Memref.slice_unit_congr _ (coff_18 t h0) _ _ (fun _ => rfl) (fun _ => rfl))
@[sl_canon] theorem canon_18' (t : Fin grid0.N) (h0 : cond0_0 (grid0.coords t)) :
    (hbM0_0.slice (Rect.unit (s := S16x1536x128) ![1, 384, 0] ![1, 384, 128] inb_S16x1536x128_S1x384x128_1_384_0) (fun _ => rfl)).squeeze S384x128 squeezes_S1x384x128_S384x128 = srcB 1 (Ring.bk 16 (t.val + 1)) :=
  canon_18 t h0
set_option synthInstance.maxSize 4096 in
theorem coff_19 : ∀ t : Fin grid0.N, cond0_0 (grid0.coords t) → (![1, 768, 0] : Fin 3 → Nat) = ![(Ring.sl 3 (t.val + 1)).val, 384 * ((2 : Fin 4).val), 0] := by decide +kernel
@[sl_canon] theorem canon_19 (t : Fin grid0.N) (h0 : cond0_0 (grid0.coords t)) :
    (scM0_0.slice (Rect.unit (s := S3x1536x128) ![1, 768, 0] S1x384x128.size inb_S3x1536x128_S1x384x128_1_768_0) (fun _ => rfl)).squeeze S384x128 squeezes_S1x384x128_S384x128 = rwin 2 (Ring.sl 3 (t.val + 1)) :=
  congrArg (fun M : Memref sig .tc .vmem S1x384x128 .f32 => M.squeeze S384x128 squeezes_S1x384x128_S384x128) (Memref.slice_unit_congr _ (coff_19 t h0) _ _ (fun _ => rfl) (fun _ => rfl))
@[sl_canon] theorem canon_19' (t : Fin grid0.N) (h0 : cond0_0 (grid0.coords t)) :
    (scM0_0.slice (Rect.unit (s := S3x1536x128) ![1, 768, 0] ![1, 384, 128] inb_S3x1536x128_S1x384x128_1_768_0) (fun _ => rfl)).squeeze S384x128 squeezes_S1x384x128_S384x128 = rwin 2 (Ring.sl 3 (t.val + 1)) :=
  canon_19 t h0
set_option synthInstance.maxSize 4096 in
theorem coff_20 : ∀ t : Fin grid0.N, cond0_0 (grid0.coords t) → (![1, 2] : Fin 2 → Nat) = ![(Ring.sl 3 (t.val + 1)).val, (2 : Fin 4).val] := by decide +kernel
@[sl_canon] theorem canon_20 (t : Fin grid0.N) (h0 : cond0_0 (grid0.coords t)) :
    (cc0_scratch1.slice (Rect.unit (s := S3x4) ![1, 2] S1x1.size inb_S3x4_S1x1_1_2)).squeeze S_ squeezes_S1x1_S_ = cellA (Ring.sl 3 (t.val + 1)) 2 :=
  congrArg (fun A : DmaSems sig S1x1 => A.squeeze S_ squeezes_S1x1_S_) (SemArray.slice_unit_congr _ (coff_20 t h0) _ _)
@[sl_canon] theorem canon_20' (t : Fin grid0.N) (h0 : cond0_0 (grid0.coords t)) :
    (cc0_scratch1.slice (Rect.unit (s := S3x4) ![1, 2] ![1, 1] inb_S3x4_S1x1_1_2)).squeeze S_ squeezes_S1x1_S_ = cellA (Ring.sl 3 (t.val + 1)) 2 :=
  canon_20 t h0
set_option synthInstance.maxSize 4096 in
theorem coff_21 : ∀ t : Fin grid0.N, cond0_0 (grid0.coords t) → (![1, 768, 0] : Fin 3 → Nat) = ![(Ring.bk 16 (t.val + 1)).val, 384 * ((2 : Fin 4).val), 0] := by decide +kernel
@[sl_canon] theorem canon_21 (t : Fin grid0.N) (h0 : cond0_0 (grid0.coords t)) :
    (hbM0_0.slice (Rect.unit (s := S16x1536x128) ![1, 768, 0] S1x384x128.size inb_S16x1536x128_S1x384x128_1_768_0) (fun _ => rfl)).squeeze S384x128 squeezes_S1x384x128_S384x128 = srcB 2 (Ring.bk 16 (t.val + 1)) :=
  congrArg (fun M : Memref sig .tc .hbm S1x384x128 .f32 => M.squeeze S384x128 squeezes_S1x384x128_S384x128) (Memref.slice_unit_congr _ (coff_21 t h0) _ _ (fun _ => rfl) (fun _ => rfl))
@[sl_canon] theorem canon_21' (t : Fin grid0.N) (h0 : cond0_0 (grid0.coords t)) :
    (hbM0_0.slice (Rect.unit (s := S16x1536x128) ![1, 768, 0] ![1, 384, 128] inb_S16x1536x128_S1x384x128_1_768_0) (fun _ => rfl)).squeeze S384x128 squeezes_S1x384x128_S384x128 = srcB 2 (Ring.bk 16 (t.val + 1)) :=
  canon_21 t h0
set_option synthInstance.maxSize 4096 in
theorem coff_22 : ∀ t : Fin grid0.N, cond0_0 (grid0.coords t) → (![1, 1152, 0] : Fin 3 → Nat) = ![(Ring.sl 3 (t.val + 1)).val, 384 * ((3 : Fin 4).val), 0] := by decide +kernel
@[sl_canon] theorem canon_22 (t : Fin grid0.N) (h0 : cond0_0 (grid0.coords t)) :
    (scM0_0.slice (Rect.unit (s := S3x1536x128) ![1, 1152, 0] S1x384x128.size inb_S3x1536x128_S1x384x128_1_1152_0) (fun _ => rfl)).squeeze S384x128 squeezes_S1x384x128_S384x128 = rwin 3 (Ring.sl 3 (t.val + 1)) :=
  congrArg (fun M : Memref sig .tc .vmem S1x384x128 .f32 => M.squeeze S384x128 squeezes_S1x384x128_S384x128) (Memref.slice_unit_congr _ (coff_22 t h0) _ _ (fun _ => rfl) (fun _ => rfl))
@[sl_canon] theorem canon_22' (t : Fin grid0.N) (h0 : cond0_0 (grid0.coords t)) :
    (scM0_0.slice (Rect.unit (s := S3x1536x128) ![1, 1152, 0] ![1, 384, 128] inb_S3x1536x128_S1x384x128_1_1152_0) (fun _ => rfl)).squeeze S384x128 squeezes_S1x384x128_S384x128 = rwin 3 (Ring.sl 3 (t.val + 1)) :=
  canon_22 t h0
set_option synthInstance.maxSize 4096 in
theorem coff_23 : ∀ t : Fin grid0.N, cond0_0 (grid0.coords t) → (![1, 3] : Fin 2 → Nat) = ![(Ring.sl 3 (t.val + 1)).val, (3 : Fin 4).val] := by decide +kernel
@[sl_canon] theorem canon_23 (t : Fin grid0.N) (h0 : cond0_0 (grid0.coords t)) :
    (cc0_scratch1.slice (Rect.unit (s := S3x4) ![1, 3] S1x1.size inb_S3x4_S1x1_1_3)).squeeze S_ squeezes_S1x1_S_ = cellA (Ring.sl 3 (t.val + 1)) 3 :=
  congrArg (fun A : DmaSems sig S1x1 => A.squeeze S_ squeezes_S1x1_S_) (SemArray.slice_unit_congr _ (coff_23 t h0) _ _)
@[sl_canon] theorem canon_23' (t : Fin grid0.N) (h0 : cond0_0 (grid0.coords t)) :
    (cc0_scratch1.slice (Rect.unit (s := S3x4) ![1, 3] ![1, 1] inb_S3x4_S1x1_1_3)).squeeze S_ squeezes_S1x1_S_ = cellA (Ring.sl 3 (t.val + 1)) 3 :=
  canon_23 t h0
set_option synthInstance.maxSize 4096 in
theorem coff_24 : ∀ t : Fin grid0.N, cond0_0 (grid0.coords t) → (![1, 1152, 0] : Fin 3 → Nat) = ![(Ring.bk 16 (t.val + 1)).val, 384 * ((3 : Fin 4).val), 0] := by decide +kernel
@[sl_canon] theorem canon_24 (t : Fin grid0.N) (h0 : cond0_0 (grid0.coords t)) :
    (hbM0_0.slice (Rect.unit (s := S16x1536x128) ![1, 1152, 0] S1x384x128.size inb_S16x1536x128_S1x384x128_1_1152_0) (fun _ => rfl)).squeeze S384x128 squeezes_S1x384x128_S384x128 = srcB 3 (Ring.bk 16 (t.val + 1)) :=
  congrArg (fun M : Memref sig .tc .hbm S1x384x128 .f32 => M.squeeze S384x128 squeezes_S1x384x128_S384x128) (Memref.slice_unit_congr _ (coff_24 t h0) _ _ (fun _ => rfl) (fun _ => rfl))
@[sl_canon] theorem canon_24' (t : Fin grid0.N) (h0 : cond0_0 (grid0.coords t)) :
    (hbM0_0.slice (Rect.unit (s := S16x1536x128) ![1, 1152, 0] ![1, 384, 128] inb_S16x1536x128_S1x384x128_1_1152_0) (fun _ => rfl)).squeeze S384x128 squeezes_S1x384x128_S384x128 = srcB 3 (Ring.bk 16 (t.val + 1)) :=
  canon_24 t h0
set_option synthInstance.maxSize 4096 in
theorem coff_25 : ∀ t : Fin grid0.N, cond0_1 (grid0.coords t) → k0_off1 (grid0.coords t) = ![(Ring.sl 3 (t.val + 2)).val, (0 : Fin 4).val] := by decide +kernel
@[sl_canon] theorem canon_25 (t : Fin grid0.N) (h1 : cond0_1 (grid0.coords t)) :
    (cc0_scratch1.slice (Rect.unit (s := S3x4) (k0_off1 (grid0.coords t)) S1x1.size (k0_off1_inb (grid0.coords t) h1))).squeeze S_ squeezes_S1x1_S_ = cellA (Ring.sl 3 (t.val + 2)) 0 :=
  congrArg (fun A : DmaSems sig S1x1 => A.squeeze S_ squeezes_S1x1_S_) (SemArray.slice_unit_congr _ (coff_25 t h1) _ _)
@[sl_canon] theorem canon_25' (t : Fin grid0.N) (h1 : cond0_1 (grid0.coords t)) :
    (cc0_scratch1.slice (Rect.unit (s := S3x4) (k0_off1 (grid0.coords t)) ![1, 1] (k0_off1_inb (grid0.coords t) h1))).squeeze S_ squeezes_S1x1_S_ = cellA (Ring.sl 3 (t.val + 2)) 0 :=
  canon_25 t h1
set_option synthInstance.maxSize 4096 in
theorem coff_26 : ∀ t : Fin grid0.N, cond0_1 (grid0.coords t) → k0_off2 (grid0.coords t) = ![(Ring.sl 3 (t.val + 2)).val, 384 * ((0 : Fin 4).val), 0] := by decide +kernel
@[sl_canon] theorem canon_26 (t : Fin grid0.N) (h1 : cond0_1 (grid0.coords t)) :
    (scM0_0.slice (Rect.unit (s := S3x1536x128) (k0_off2 (grid0.coords t)) S1x384x128.size (k0_off2_inb (grid0.coords t) h1)) (fun _ => rfl)).squeeze S384x128 squeezes_S1x384x128_S384x128 = rwin 0 (Ring.sl 3 (t.val + 2)) :=
  congrArg (fun M : Memref sig .tc .vmem S1x384x128 .f32 => M.squeeze S384x128 squeezes_S1x384x128_S384x128) (Memref.slice_unit_congr _ (coff_26 t h1) _ _ (fun _ => rfl) (fun _ => rfl))
@[sl_canon] theorem canon_26' (t : Fin grid0.N) (h1 : cond0_1 (grid0.coords t)) :
    (scM0_0.slice (Rect.unit (s := S3x1536x128) (k0_off2 (grid0.coords t)) ![1, 384, 128] (k0_off2_inb (grid0.coords t) h1)) (fun _ => rfl)).squeeze S384x128 squeezes_S1x384x128_S384x128 = rwin 0 (Ring.sl 3 (t.val + 2)) :=
  canon_26 t h1
set_option synthInstance.maxSize 4096 in
theorem coff_27 : ∀ t : Fin grid0.N, cond0_1 (grid0.coords t) → k0_off3 (grid0.coords t) = ![(Ring.bk 16 (t.val + 2)).val, 384 * ((0 : Fin 4).val), 0] := by decide +kernel
@[sl_canon] theorem canon_27 (t : Fin grid0.N) (h1 : cond0_1 (grid0.coords t)) :
    (hbM0_0.slice (Rect.unit (s := S16x1536x128) (k0_off3 (grid0.coords t)) S1x384x128.size (k0_off3_inb (grid0.coords t) h1)) (fun _ => rfl)).squeeze S384x128 squeezes_S1x384x128_S384x128 = srcB 0 (Ring.bk 16 (t.val + 2)) :=
  congrArg (fun M : Memref sig .tc .hbm S1x384x128 .f32 => M.squeeze S384x128 squeezes_S1x384x128_S384x128) (Memref.slice_unit_congr _ (coff_27 t h1) _ _ (fun _ => rfl) (fun _ => rfl))
@[sl_canon] theorem canon_27' (t : Fin grid0.N) (h1 : cond0_1 (grid0.coords t)) :
    (hbM0_0.slice (Rect.unit (s := S16x1536x128) (k0_off3 (grid0.coords t)) ![1, 384, 128] (k0_off3_inb (grid0.coords t) h1)) (fun _ => rfl)).squeeze S384x128 squeezes_S1x384x128_S384x128 = srcB 0 (Ring.bk 16 (t.val + 2)) :=
  canon_27 t h1
set_option synthInstance.maxSize 4096 in
theorem coff_28 : ∀ t : Fin grid0.N, cond0_1 (grid0.coords t) → k0_off4 (grid0.coords t) = ![(Ring.sl 3 (t.val + 2)).val, (1 : Fin 4).val] := by decide +kernel
@[sl_canon] theorem canon_28 (t : Fin grid0.N) (h1 : cond0_1 (grid0.coords t)) :
    (cc0_scratch1.slice (Rect.unit (s := S3x4) (k0_off4 (grid0.coords t)) S1x1.size (k0_off4_inb (grid0.coords t) h1))).squeeze S_ squeezes_S1x1_S_ = cellA (Ring.sl 3 (t.val + 2)) 1 :=
  congrArg (fun A : DmaSems sig S1x1 => A.squeeze S_ squeezes_S1x1_S_) (SemArray.slice_unit_congr _ (coff_28 t h1) _ _)
@[sl_canon] theorem canon_28' (t : Fin grid0.N) (h1 : cond0_1 (grid0.coords t)) :
    (cc0_scratch1.slice (Rect.unit (s := S3x4) (k0_off4 (grid0.coords t)) ![1, 1] (k0_off4_inb (grid0.coords t) h1))).squeeze S_ squeezes_S1x1_S_ = cellA (Ring.sl 3 (t.val + 2)) 1 :=
  canon_28 t h1
set_option synthInstance.maxSize 4096 in
theorem coff_29 : ∀ t : Fin grid0.N, cond0_1 (grid0.coords t) → k0_off5 (grid0.coords t) = ![(Ring.sl 3 (t.val + 2)).val, 384 * ((1 : Fin 4).val), 0] := by decide +kernel
@[sl_canon] theorem canon_29 (t : Fin grid0.N) (h1 : cond0_1 (grid0.coords t)) :
    (scM0_0.slice (Rect.unit (s := S3x1536x128) (k0_off5 (grid0.coords t)) S1x384x128.size (k0_off5_inb (grid0.coords t) h1)) (fun _ => rfl)).squeeze S384x128 squeezes_S1x384x128_S384x128 = rwin 1 (Ring.sl 3 (t.val + 2)) :=
  congrArg (fun M : Memref sig .tc .vmem S1x384x128 .f32 => M.squeeze S384x128 squeezes_S1x384x128_S384x128) (Memref.slice_unit_congr _ (coff_29 t h1) _ _ (fun _ => rfl) (fun _ => rfl))
@[sl_canon] theorem canon_29' (t : Fin grid0.N) (h1 : cond0_1 (grid0.coords t)) :
    (scM0_0.slice (Rect.unit (s := S3x1536x128) (k0_off5 (grid0.coords t)) ![1, 384, 128] (k0_off5_inb (grid0.coords t) h1)) (fun _ => rfl)).squeeze S384x128 squeezes_S1x384x128_S384x128 = rwin 1 (Ring.sl 3 (t.val + 2)) :=
  canon_29 t h1
set_option synthInstance.maxSize 4096 in
theorem coff_30 : ∀ t : Fin grid0.N, cond0_1 (grid0.coords t) → k0_off6 (grid0.coords t) = ![(Ring.bk 16 (t.val + 2)).val, 384 * ((1 : Fin 4).val), 0] := by decide +kernel
@[sl_canon] theorem canon_30 (t : Fin grid0.N) (h1 : cond0_1 (grid0.coords t)) :
    (hbM0_0.slice (Rect.unit (s := S16x1536x128) (k0_off6 (grid0.coords t)) S1x384x128.size (k0_off6_inb (grid0.coords t) h1)) (fun _ => rfl)).squeeze S384x128 squeezes_S1x384x128_S384x128 = srcB 1 (Ring.bk 16 (t.val + 2)) :=
  congrArg (fun M : Memref sig .tc .hbm S1x384x128 .f32 => M.squeeze S384x128 squeezes_S1x384x128_S384x128) (Memref.slice_unit_congr _ (coff_30 t h1) _ _ (fun _ => rfl) (fun _ => rfl))
@[sl_canon] theorem canon_30' (t : Fin grid0.N) (h1 : cond0_1 (grid0.coords t)) :
    (hbM0_0.slice (Rect.unit (s := S16x1536x128) (k0_off6 (grid0.coords t)) ![1, 384, 128] (k0_off6_inb (grid0.coords t) h1)) (fun _ => rfl)).squeeze S384x128 squeezes_S1x384x128_S384x128 = srcB 1 (Ring.bk 16 (t.val + 2)) :=
  canon_30 t h1
set_option synthInstance.maxSize 4096 in
theorem coff_31 : ∀ t : Fin grid0.N, cond0_1 (grid0.coords t) → k0_off7 (grid0.coords t) = ![(Ring.sl 3 (t.val + 2)).val, (2 : Fin 4).val] := by decide +kernel
@[sl_canon] theorem canon_31 (t : Fin grid0.N) (h1 : cond0_1 (grid0.coords t)) :
    (cc0_scratch1.slice (Rect.unit (s := S3x4) (k0_off7 (grid0.coords t)) S1x1.size (k0_off7_inb (grid0.coords t) h1))).squeeze S_ squeezes_S1x1_S_ = cellA (Ring.sl 3 (t.val + 2)) 2 :=
  congrArg (fun A : DmaSems sig S1x1 => A.squeeze S_ squeezes_S1x1_S_) (SemArray.slice_unit_congr _ (coff_31 t h1) _ _)
@[sl_canon] theorem canon_31' (t : Fin grid0.N) (h1 : cond0_1 (grid0.coords t)) :
    (cc0_scratch1.slice (Rect.unit (s := S3x4) (k0_off7 (grid0.coords t)) ![1, 1] (k0_off7_inb (grid0.coords t) h1))).squeeze S_ squeezes_S1x1_S_ = cellA (Ring.sl 3 (t.val + 2)) 2 :=
  canon_31 t h1
set_option synthInstance.maxSize 4096 in
theorem coff_32 : ∀ t : Fin grid0.N, cond0_1 (grid0.coords t) → k0_off8 (grid0.coords t) = ![(Ring.sl 3 (t.val + 2)).val, 384 * ((2 : Fin 4).val), 0] := by decide +kernel
@[sl_canon] theorem canon_32 (t : Fin grid0.N) (h1 : cond0_1 (grid0.coords t)) :
    (scM0_0.slice (Rect.unit (s := S3x1536x128) (k0_off8 (grid0.coords t)) S1x384x128.size (k0_off8_inb (grid0.coords t) h1)) (fun _ => rfl)).squeeze S384x128 squeezes_S1x384x128_S384x128 = rwin 2 (Ring.sl 3 (t.val + 2)) :=
  congrArg (fun M : Memref sig .tc .vmem S1x384x128 .f32 => M.squeeze S384x128 squeezes_S1x384x128_S384x128) (Memref.slice_unit_congr _ (coff_32 t h1) _ _ (fun _ => rfl) (fun _ => rfl))
@[sl_canon] theorem canon_32' (t : Fin grid0.N) (h1 : cond0_1 (grid0.coords t)) :
    (scM0_0.slice (Rect.unit (s := S3x1536x128) (k0_off8 (grid0.coords t)) ![1, 384, 128] (k0_off8_inb (grid0.coords t) h1)) (fun _ => rfl)).squeeze S384x128 squeezes_S1x384x128_S384x128 = rwin 2 (Ring.sl 3 (t.val + 2)) :=
  canon_32 t h1
set_option synthInstance.maxSize 4096 in
theorem coff_33 : ∀ t : Fin grid0.N, cond0_1 (grid0.coords t) → k0_off9 (grid0.coords t) = ![(Ring.bk 16 (t.val + 2)).val, 384 * ((2 : Fin 4).val), 0] := by decide +kernel
@[sl_canon] theorem canon_33 (t : Fin grid0.N) (h1 : cond0_1 (grid0.coords t)) :
    (hbM0_0.slice (Rect.unit (s := S16x1536x128) (k0_off9 (grid0.coords t)) S1x384x128.size (k0_off9_inb (grid0.coords t) h1)) (fun _ => rfl)).squeeze S384x128 squeezes_S1x384x128_S384x128 = srcB 2 (Ring.bk 16 (t.val + 2)) :=
  congrArg (fun M : Memref sig .tc .hbm S1x384x128 .f32 => M.squeeze S384x128 squeezes_S1x384x128_S384x128) (Memref.slice_unit_congr _ (coff_33 t h1) _ _ (fun _ => rfl) (fun _ => rfl))
@[sl_canon] theorem canon_33' (t : Fin grid0.N) (h1 : cond0_1 (grid0.coords t)) :
    (hbM0_0.slice (Rect.unit (s := S16x1536x128) (k0_off9 (grid0.coords t)) ![1, 384, 128] (k0_off9_inb (grid0.coords t) h1)) (fun _ => rfl)).squeeze S384x128 squeezes_S1x384x128_S384x128 = srcB 2 (Ring.bk 16 (t.val + 2)) :=
  canon_33 t h1
set_option synthInstance.maxSize 4096 in
theorem coff_34 : ∀ t : Fin grid0.N, cond0_1 (grid0.coords t) → k0_off10 (grid0.coords t) = ![(Ring.sl 3 (t.val + 2)).val, (3 : Fin 4).val] := by decide +kernel
@[sl_canon] theorem canon_34 (t : Fin grid0.N) (h1 : cond0_1 (grid0.coords t)) :
    (cc0_scratch1.slice (Rect.unit (s := S3x4) (k0_off10 (grid0.coords t)) S1x1.size (k0_off10_inb (grid0.coords t) h1))).squeeze S_ squeezes_S1x1_S_ = cellA (Ring.sl 3 (t.val + 2)) 3 :=
  congrArg (fun A : DmaSems sig S1x1 => A.squeeze S_ squeezes_S1x1_S_) (SemArray.slice_unit_congr _ (coff_34 t h1) _ _)
@[sl_canon] theorem canon_34' (t : Fin grid0.N) (h1 : cond0_1 (grid0.coords t)) :
    (cc0_scratch1.slice (Rect.unit (s := S3x4) (k0_off10 (grid0.coords t)) ![1, 1] (k0_off10_inb (grid0.coords t) h1))).squeeze S_ squeezes_S1x1_S_ = cellA (Ring.sl 3 (t.val + 2)) 3 :=
  canon_34 t h1
set_option synthInstance.maxSize 4096 in
theorem coff_35 : ∀ t : Fin grid0.N, cond0_1 (grid0.coords t) → k0_off11 (grid0.coords t) = ![(Ring.sl 3 (t.val + 2)).val, 384 * ((3 : Fin 4).val), 0] := by decide +kernel
@[sl_canon] theorem canon_35 (t : Fin grid0.N) (h1 : cond0_1 (grid0.coords t)) :
    (scM0_0.slice (Rect.unit (s := S3x1536x128) (k0_off11 (grid0.coords t)) S1x384x128.size (k0_off11_inb (grid0.coords t) h1)) (fun _ => rfl)).squeeze S384x128 squeezes_S1x384x128_S384x128 = rwin 3 (Ring.sl 3 (t.val + 2)) :=
  congrArg (fun M : Memref sig .tc .vmem S1x384x128 .f32 => M.squeeze S384x128 squeezes_S1x384x128_S384x128) (Memref.slice_unit_congr _ (coff_35 t h1) _ _ (fun _ => rfl) (fun _ => rfl))
@[sl_canon] theorem canon_35' (t : Fin grid0.N) (h1 : cond0_1 (grid0.coords t)) :
    (scM0_0.slice (Rect.unit (s := S3x1536x128) (k0_off11 (grid0.coords t)) ![1, 384, 128] (k0_off11_inb (grid0.coords t) h1)) (fun _ => rfl)).squeeze S384x128 squeezes_S1x384x128_S384x128 = rwin 3 (Ring.sl 3 (t.val + 2)) :=
  canon_35 t h1
set_option synthInstance.maxSize 4096 in
theorem coff_36 : ∀ t : Fin grid0.N, cond0_1 (grid0.coords t) → k0_off12 (grid0.coords t) = ![(Ring.bk 16 (t.val + 2)).val, 384 * ((3 : Fin 4).val), 0] := by decide +kernel
@[sl_canon] theorem canon_36 (t : Fin grid0.N) (h1 : cond0_1 (grid0.coords t)) :
    (hbM0_0.slice (Rect.unit (s := S16x1536x128) (k0_off12 (grid0.coords t)) S1x384x128.size (k0_off12_inb (grid0.coords t) h1)) (fun _ => rfl)).squeeze S384x128 squeezes_S1x384x128_S384x128 = srcB 3 (Ring.bk 16 (t.val + 2)) :=
  congrArg (fun M : Memref sig .tc .hbm S1x384x128 .f32 => M.squeeze S384x128 squeezes_S1x384x128_S384x128) (Memref.slice_unit_congr _ (coff_36 t h1) _ _ (fun _ => rfl) (fun _ => rfl))
@[sl_canon] theorem canon_36' (t : Fin grid0.N) (h1 : cond0_1 (grid0.coords t)) :
    (hbM0_0.slice (Rect.unit (s := S16x1536x128) (k0_off12 (grid0.coords t)) ![1, 384, 128] (k0_off12_inb (grid0.coords t) h1)) (fun _ => rfl)).squeeze S384x128 squeezes_S1x384x128_S384x128 = srcB 3 (Ring.bk 16 (t.val + 2)) :=
  canon_36 t h1
set_option synthInstance.maxSize 4096 in
theorem coff_37 : ∀ t : Fin grid0.N, k0_off13 (grid0.coords t) = ![(Ring.sl 3 t.val).val, (0 : Fin 4).val] := by decide +kernel
@[sl_canon] theorem canon_37 (t : Fin grid0.N)  :
    (cc0_scratch1.slice (Rect.unit (s := S3x4) (k0_off13 (grid0.coords t)) S1x1.size (k0_off13_inb (grid0.coords t)))).squeeze S_ squeezes_S1x1_S_ = cellA (Ring.sl 3 t.val) 0 :=
  congrArg (fun A : DmaSems sig S1x1 => A.squeeze S_ squeezes_S1x1_S_) (SemArray.slice_unit_congr _ (coff_37 t ) _ _)
@[sl_canon] theorem canon_37' (t : Fin grid0.N)  :
    (cc0_scratch1.slice (Rect.unit (s := S3x4) (k0_off13 (grid0.coords t)) ![1, 1] (k0_off13_inb (grid0.coords t)))).squeeze S_ squeezes_S1x1_S_ = cellA (Ring.sl 3 t.val) 0 :=
  canon_37 t
set_option synthInstance.maxSize 4096 in
theorem coff_38 : ∀ t : Fin grid0.N, k0_off14 (grid0.coords t) = ![(Ring.sl 3 t.val).val, 384 * ((0 : Fin 4).val), 0] := by decide +kernel
@[sl_canon] theorem canon_38 (t : Fin grid0.N)  :
    (scM0_0.slice (Rect.unit (s := S3x1536x128) (k0_off14 (grid0.coords t)) S1x384x128.size (k0_off14_inb (grid0.coords t))) (fun _ => rfl)).squeeze S384x128 squeezes_S1x384x128_S384x128 = rwin 0 (Ring.sl 3 t.val) :=
  congrArg (fun M : Memref sig .tc .vmem S1x384x128 .f32 => M.squeeze S384x128 squeezes_S1x384x128_S384x128) (Memref.slice_unit_congr _ (coff_38 t ) _ _ (fun _ => rfl) (fun _ => rfl))
@[sl_canon] theorem canon_38' (t : Fin grid0.N)  :
    (scM0_0.slice (Rect.unit (s := S3x1536x128) (k0_off14 (grid0.coords t)) ![1, 384, 128] (k0_off14_inb (grid0.coords t))) (fun _ => rfl)).squeeze S384x128 squeezes_S1x384x128_S384x128 = rwin 0 (Ring.sl 3 t.val) :=
  canon_38 t
set_option synthInstance.maxSize 4096 in
theorem coff_39 : ∀ t : Fin grid0.N, k0_off15 (grid0.coords t) = ![(Ring.bk 16 t.val).val, 384 * ((0 : Fin 4).val), 0] := by decide +kernel
@[sl_canon] theorem canon_39 (t : Fin grid0.N)  :
    (hbM0_0.slice (Rect.unit (s := S16x1536x128) (k0_off15 (grid0.coords t)) S1x384x128.size (k0_off15_inb (grid0.coords t))) (fun _ => rfl)).squeeze S384x128 squeezes_S1x384x128_S384x128 = srcB 0 (Ring.bk 16 t.val) :=
  congrArg (fun M : Memref sig .tc .hbm S1x384x128 .f32 => M.squeeze S384x128 squeezes_S1x384x128_S384x128) (Memref.slice_unit_congr _ (coff_39 t ) _ _ (fun _ => rfl) (fun _ => rfl))
@[sl_canon] theorem canon_39' (t : Fin grid0.N)  :
    (hbM0_0.slice (Rect.unit (s := S16x1536x128) (k0_off15 (grid0.coords t)) ![1, 384, 128] (k0_off15_inb (grid0.coords t))) (fun _ => rfl)).squeeze S384x128 squeezes_S1x384x128_S384x128 = srcB 0 (Ring.bk 16 t.val) :=
  canon_39 t
set_option synthInstance.maxSize 4096 in
theorem coff_40 : ∀ t : Fin grid0.N, k0_off16 (grid0.coords t) = ![(Ring.sl 3 t.val).val, (1 : Fin 4).val] := by decide +kernel
@[sl_canon] theorem canon_40 (t : Fin grid0.N)  :
    (cc0_scratch1.slice (Rect.unit (s := S3x4) (k0_off16 (grid0.coords t)) S1x1.size (k0_off16_inb (grid0.coords t)))).squeeze S_ squeezes_S1x1_S_ = cellA (Ring.sl 3 t.val) 1 :=
  congrArg (fun A : DmaSems sig S1x1 => A.squeeze S_ squeezes_S1x1_S_) (SemArray.slice_unit_congr _ (coff_40 t ) _ _)
@[sl_canon] theorem canon_40' (t : Fin grid0.N)  :
    (cc0_scratch1.slice (Rect.unit (s := S3x4) (k0_off16 (grid0.coords t)) ![1, 1] (k0_off16_inb (grid0.coords t)))).squeeze S_ squeezes_S1x1_S_ = cellA (Ring.sl 3 t.val) 1 :=
  canon_40 t
set_option synthInstance.maxSize 4096 in
theorem coff_41 : ∀ t : Fin grid0.N, k0_off17 (grid0.coords t) = ![(Ring.sl 3 t.val).val, 384 * ((1 : Fin 4).val), 0] := by decide +kernel
@[sl_canon] theorem canon_41 (t : Fin grid0.N)  :
    (scM0_0.slice (Rect.unit (s := S3x1536x128) (k0_off17 (grid0.coords t)) S1x384x128.size (k0_off17_inb (grid0.coords t))) (fun _ => rfl)).squeeze S384x128 squeezes_S1x384x128_S384x128 = rwin 1 (Ring.sl 3 t.val) :=
  congrArg (fun M : Memref sig .tc .vmem S1x384x128 .f32 => M.squeeze S384x128 squeezes_S1x384x128_S384x128) (Memref.slice_unit_congr _ (coff_41 t ) _ _ (fun _ => rfl) (fun _ => rfl))
@[sl_canon] theorem canon_41' (t : Fin grid0.N)  :
    (scM0_0.slice (Rect.unit (s := S3x1536x128) (k0_off17 (grid0.coords t)) ![1, 384, 128] (k0_off17_inb (grid0.coords t))) (fun _ => rfl)).squeeze S384x128 squeezes_S1x384x128_S384x128 = rwin 1 (Ring.sl 3 t.val) :=
  canon_41 t
set_option synthInstance.maxSize 4096 in
theorem coff_42 : ∀ t : Fin grid0.N, k0_off18 (grid0.coords t) = ![(Ring.bk 16 t.val).val, 384 * ((1 : Fin 4).val), 0] := by decide +kernel
@[sl_canon] theorem canon_42 (t : Fin grid0.N)  :
    (hbM0_0.slice (Rect.unit (s := S16x1536x128) (k0_off18 (grid0.coords t)) S1x384x128.size (k0_off18_inb (grid0.coords t))) (fun _ => rfl)).squeeze S384x128 squeezes_S1x384x128_S384x128 = srcB 1 (Ring.bk 16 t.val) :=
  congrArg (fun M : Memref sig .tc .hbm S1x384x128 .f32 => M.squeeze S384x128 squeezes_S1x384x128_S384x128) (Memref.slice_unit_congr _ (coff_42 t ) _ _ (fun _ => rfl) (fun _ => rfl))
@[sl_canon] theorem canon_42' (t : Fin grid0.N)  :
    (hbM0_0.slice (Rect.unit (s := S16x1536x128) (k0_off18 (grid0.coords t)) ![1, 384, 128] (k0_off18_inb (grid0.coords t))) (fun _ => rfl)).squeeze S384x128 squeezes_S1x384x128_S384x128 = srcB 1 (Ring.bk 16 t.val) :=
  canon_42 t
set_option synthInstance.maxSize 4096 in
theorem coff_43 : ∀ t : Fin grid0.N, k0_off19 (grid0.coords t) = ![(Ring.sl 3 t.val).val, (2 : Fin 4).val] := by decide +kernel
@[sl_canon] theorem canon_43 (t : Fin grid0.N)  :
    (cc0_scratch1.slice (Rect.unit (s := S3x4) (k0_off19 (grid0.coords t)) S1x1.size (k0_off19_inb (grid0.coords t)))).squeeze S_ squeezes_S1x1_S_ = cellA (Ring.sl 3 t.val) 2 :=
  congrArg (fun A : DmaSems sig S1x1 => A.squeeze S_ squeezes_S1x1_S_) (SemArray.slice_unit_congr _ (coff_43 t ) _ _)
@[sl_canon] theorem canon_43' (t : Fin grid0.N)  :
    (cc0_scratch1.slice (Rect.unit (s := S3x4) (k0_off19 (grid0.coords t)) ![1, 1] (k0_off19_inb (grid0.coords t)))).squeeze S_ squeezes_S1x1_S_ = cellA (Ring.sl 3 t.val) 2 :=
  canon_43 t
set_option synthInstance.maxSize 4096 in
theorem coff_44 : ∀ t : Fin grid0.N, k0_off20 (grid0.coords t) = ![(Ring.sl 3 t.val).val, 384 * ((2 : Fin 4).val), 0] := by decide +kernel
@[sl_canon] theorem canon_44 (t : Fin grid0.N)  :
    (scM0_0.slice (Rect.unit (s := S3x1536x128) (k0_off20 (grid0.coords t)) S1x384x128.size (k0_off20_inb (grid0.coords t))) (fun _ => rfl)).squeeze S384x128 squeezes_S1x384x128_S384x128 = rwin 2 (Ring.sl 3 t.val) :=
  congrArg (fun M : Memref sig .tc .vmem S1x384x128 .f32 => M.squeeze S384x128 squeezes_S1x384x128_S384x128) (Memref.slice_unit_congr _ (coff_44 t ) _ _ (fun _ => rfl) (fun _ => rfl))
@[sl_canon] theorem canon_44' (t : Fin grid0.N)  :
    (scM0_0.slice (Rect.unit (s := S3x1536x128) (k0_off20 (grid0.coords t)) ![1, 384, 128] (k0_off20_inb (grid0.coords t))) (fun _ => rfl)).squeeze S384x128 squeezes_S1x384x128_S384x128 = rwin 2 (Ring.sl 3 t.val) :=
  canon_44 t
set_option synthInstance.maxSize 4096 in
theorem coff_45 : ∀ t : Fin grid0.N, k0_off21 (grid0.coords t) = ![(Ring.bk 16 t.val).val, 384 * ((2 : Fin 4).val), 0] := by decide +kernel
@[sl_canon] theorem canon_45 (t : Fin grid0.N)  :
    (hbM0_0.slice (Rect.unit (s := S16x1536x128) (k0_off21 (grid0.coords t)) S1x384x128.size (k0_off21_inb (grid0.coords t))) (fun _ => rfl)).squeeze S384x128 squeezes_S1x384x128_S384x128 = srcB 2 (Ring.bk 16 t.val) :=
  congrArg (fun M : Memref sig .tc .hbm S1x384x128 .f32 => M.squeeze S384x128 squeezes_S1x384x128_S384x128) (Memref.slice_unit_congr _ (coff_45 t ) _ _ (fun _ => rfl) (fun _ => rfl))
@[sl_canon] theorem canon_45' (t : Fin grid0.N)  :
    (hbM0_0.slice (Rect.unit (s := S16x1536x128) (k0_off21 (grid0.coords t)) ![1, 384, 128] (k0_off21_inb (grid0.coords t))) (fun _ => rfl)).squeeze S384x128 squeezes_S1x384x128_S384x128 = srcB 2 (Ring.bk 16 t.val) :=
  canon_45 t
set_option synthInstance.maxSize 4096 in
theorem coff_46 : ∀ t : Fin grid0.N, k0_off22 (grid0.coords t) = ![(Ring.sl 3 t.val).val, (3 : Fin 4).val] := by decide +kernel
@[sl_canon] theorem canon_46 (t : Fin grid0.N)  :
    (cc0_scratch1.slice (Rect.unit (s := S3x4) (k0_off22 (grid0.coords t)) S1x1.size (k0_off22_inb (grid0.coords t)))).squeeze S_ squeezes_S1x1_S_ = cellA (Ring.sl 3 t.val) 3 :=
  congrArg (fun A : DmaSems sig S1x1 => A.squeeze S_ squeezes_S1x1_S_) (SemArray.slice_unit_congr _ (coff_46 t ) _ _)
@[sl_canon] theorem canon_46' (t : Fin grid0.N)  :
    (cc0_scratch1.slice (Rect.unit (s := S3x4) (k0_off22 (grid0.coords t)) ![1, 1] (k0_off22_inb (grid0.coords t)))).squeeze S_ squeezes_S1x1_S_ = cellA (Ring.sl 3 t.val) 3 :=
  canon_46 t
set_option synthInstance.maxSize 4096 in
theorem coff_47 : ∀ t : Fin grid0.N, k0_off23 (grid0.coords t) = ![(Ring.sl 3 t.val).val, 384 * ((3 : Fin 4).val), 0] := by decide +kernel
@[sl_canon] theorem canon_47 (t : Fin grid0.N)  :
    (scM0_0.slice (Rect.unit (s := S3x1536x128) (k0_off23 (grid0.coords t)) S1x384x128.size (k0_off23_inb (grid0.coords t))) (fun _ => rfl)).squeeze S384x128 squeezes_S1x384x128_S384x128 = rwin 3 (Ring.sl 3 t.val) :=
  congrArg (fun M : Memref sig .tc .vmem S1x384x128 .f32 => M.squeeze S384x128 squeezes_S1x384x128_S384x128) (Memref.slice_unit_congr _ (coff_47 t ) _ _ (fun _ => rfl) (fun _ => rfl))
@[sl_canon] theorem canon_47' (t : Fin grid0.N)  :
    (scM0_0.slice (Rect.unit (s := S3x1536x128) (k0_off23 (grid0.coords t)) ![1, 384, 128] (k0_off23_inb (grid0.coords t))) (fun _ => rfl)).squeeze S384x128 squeezes_S1x384x128_S384x128 = rwin 3 (Ring.sl 3 t.val) :=
  canon_47 t
set_option synthInstance.maxSize 4096 in
theorem coff_48 : ∀ t : Fin grid0.N, k0_off24 (grid0.coords t) = ![(Ring.bk 16 t.val).val, 384 * ((3 : Fin 4).val), 0] := by decide +kernel
@[sl_canon] theorem canon_48 (t : Fin grid0.N)  :
    (hbM0_0.slice (Rect.unit (s := S16x1536x128) (k0_off24 (grid0.coords t)) S1x384x128.size (k0_off24_inb (grid0.coords t))) (fun _ => rfl)).squeeze S384x128 squeezes_S1x384x128_S384x128 = srcB 3 (Ring.bk 16 t.val) :=
  congrArg (fun M : Memref sig .tc .hbm S1x384x128 .f32 => M.squeeze S384x128 squeezes_S1x384x128_S384x128) (Memref.slice_unit_congr _ (coff_48 t ) _ _ (fun _ => rfl) (fun _ => rfl))
@[sl_canon] theorem canon_48' (t : Fin grid0.N)  :
    (hbM0_0.slice (Rect.unit (s := S16x1536x128) (k0_off24 (grid0.coords t)) ![1, 384, 128] (k0_off24_inb (grid0.coords t))) (fun _ => rfl)).squeeze S384x128 squeezes_S1x384x128_S384x128 = srcB 3 (Ring.bk 16 t.val) :=
  canon_48 t
/-- The load's box is the slot this point waited for. -/
theorem coff_load : ∀ t : Fin grid0.N, k0_off25 (grid0.coords t) = ![(Ring.sl 3 t.val).val, 0, 0] := by decide +kernel
instance (priority := high) closedOff_load (t : Fin grid0.N) : ClosedOff (k0_off25 (grid0.coords t)) := ⟨![(Ring.sl 3 t.val).val, 0, 0], coff_load t⟩
theorem load_sub (t : Fin grid0.N) (h : ∀ a, k0_off25 (grid0.coords t) a + S1x1536x128.size a ≤ S3x1536x128.size a) :
    (scM0_0.access (Rect.unit (s := S3x1536x128) (k0_off25 (grid0.coords t)) S1x1536x128.size h)).set ⊆ (rslot (Ring.sl 3 t.val)).view.set := by
  have e : (scM0_0.access (Rect.unit (s := S3x1536x128) (k0_off25 (grid0.coords t)) S1x1536x128.size h)).set
      = (Rect.unit (s := S3x1536x128) (k0_off25 (grid0.coords t)) S1x1536x128.size h).set := View.set_slice_whole _ _
  rw [e, slotSet_eq]
  intro x hx
  have h0 := (Rect.mem_set_unit.mp hx) 0
  rw [coff_load] at h0
  have h1 : (Ring.sl 3 t.val).val ≤ (x 0).val ∧ (x 0).val < (Ring.sl 3 t.val).val + 1 := h0
  exact (mem_slotSet _ _).mpr (by omega)
end Canon

end Cert.KernelIdeal.Ring3
-- ==== Proof.RunA3.lean ====
/- The body run at the first point: the first two blocks and the third are started, the first is waited for. -/
module

public import proofs.«01_k».proof.Proof.Ring3

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- What the body leaves in each output's buffer, as the list of its stores, with the proof that it runs. -/
noncomputable def run_A (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : cond0_0 (grid0.coords t)) (hc1 : cond0_1 (grid0.coords t))
    (x0 : Vec F S256x1540 .f32) (fh0 : HbBuf0 (F := F) c hbM0_0) :
    Σ' (L1 : List (View.Piece (Elt F) S1x1536x128 .f32)), Σ' (L2 : List (View.Piece (Elt F) S1x16x128 .f32)), Σ' (L3 : List (View.Piece (Elt F) S1x16x128 .f32)), Σ' (L4 : List (View.Piece (Elt F) S1x16x128 .f32)), Σ' (L5 : List (View.Piece (Elt F) S1x16x128 .f32)), Σ' (L6 : List (View.Piece (Elt F) S1x1x1 .f32)), { L7 : List (View.Piece (Elt F) S1x1x1 .f32) //
      ∀ (W : Waits sig Unit) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ Ring.free (cellP c) (slotW c fh0) (Ring.sl 3 t.val) ∗ Ring.free (cellP c) (slotW c fh0) (Ring.sl 3 (t.val + 1)) ∗ Ring.free (cellP c) (slotW c fh0) (Ring.sl 3 (t.val + 2)) ∗ owes (c : Thread nD τ) 0 W
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ Ring.inflight (flightW c fh0) (Ring.sl 3 (t.val + 1)) (Ring.bk 16 (t.val + 1)) ∗ Ring.inflight (flightW c fh0) (Ring.sl 3 (t.val + 2)) (Ring.bk 16 (t.val + 2)) ∗ Ring.free (cellP c) (slotW c fh0) (Ring.sl 3 t.val) ∗ (∃ W', owes (c : Thread nD τ) 0 W')) -∗ K ⟨⟩))
          ⊢ wp frame (wpE (defs₀ (F := F)) Variants.none c none) Set.univ (cc0__body (grid0.coords t) (Memref.whole main_v0) (Memref.isWhole_whole _) arg2 harg2 arg3 harg3 arg4 harg4 arg5 harg5 arg6 harg6 arg7 harg7 arg8 harg8 arg9 harg9 scM0_0 (Memref.isWhole_whole _) cc0_scratch1) K } := by
  refine ⟨?_, ?_, ?_, ?_, ?_, ?_, ?_, fun W K => ?run⟩
  case run =>
    haveI : Fact (cond0_0 (grid0.coords t)) := ⟨hc0⟩
    haveI : Fact (cond0_1 (grid0.coords t)) := ⟨hc1⟩
    have hslot : ∀ h, ((Memref.whole cc0_scratch0 : Memref sig .tc .vmem S3x1536x128 .f32).access (Rect.unit (s := S3x1536x128) (k0_off25 (grid0.coords t)) S1x1536x128.size h)).set ⊆ (rslot (Ring.sl 3 t.val)).view.set := fun h =>
      load_sub t h
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    have hcanon2 := canon_1 t hc0
    have hcanon3 := canon_1' t hc0
    have hcanon4 := canon_2 t hc0
    have hcanon5 := canon_2' t hc0
    have hcanon6 := canon_3 t hc0
    have hcanon7 := canon_3' t hc0
    have hcanon8 := canon_4 t hc0
    have hcanon9 := canon_4' t hc0
    have hcanon10 := canon_5 t hc0
    have hcanon11 := canon_5' t hc0
    have hcanon12 := canon_6 t hc0
    have hcanon13 := canon_6' t hc0
    have hcanon14 := canon_7 t hc0
    have hcanon15 := canon_7' t hc0
    have hcanon16 := canon_8 t hc0
    have hcanon17 := canon_8' t hc0
    have hcanon18 := canon_9 t hc0
    have hcanon19 := canon_9' t hc0
    have hcanon20 := canon_10 t hc0
    have hcanon21 := canon_10' t hc0
    have hcanon22 := canon_11 t hc0
    have hcanon23 := canon_11' t hc0
    have hcanon24 := canon_12 t hc0
    have hcanon25 := canon_12' t hc0
    have hcanon26 := canon_13 t hc0
    have hcanon27 := canon_13' t hc0
    have hcanon28 := canon_14 t hc0
    have hcanon29 := canon_14' t hc0
    have hcanon30 := canon_15 t hc0
    have hcanon31 := canon_15' t hc0
    have hcanon32 := canon_16 t hc0
    have hcanon33 := canon_16' t hc0
    have hcanon34 := canon_17 t hc0
    have hcanon35 := canon_17' t hc0
    have hcanon36 := canon_18 t hc0
    have hcanon37 := canon_18' t hc0
    have hcanon38 := canon_19 t hc0
    have hcanon39 := canon_19' t hc0
    have hcanon40 := canon_20 t hc0
    have hcanon41 := canon_20' t hc0
    have hcanon42 := canon_21 t hc0
    have hcanon43 := canon_21' t hc0
    have hcanon44 := canon_22 t hc0
    have hcanon45 := canon_22' t hc0
    have hcanon46 := canon_23 t hc0
    have hcanon47 := canon_23' t hc0
    have hcanon48 := canon_24 t hc0
    have hcanon49 := canon_24' t hc0
    unfold owns Ring.free Ring.inflight
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨⟨Hc00, Hc01, Hc02, Hc03⟩, ⟨%fs0, ⟨Hs00, Hs01, Hs02, Hs03⟩, Hw00, Hw01, Hw02, Hw03⟩⟩, ⟨⟨Hc10, Hc11, Hc12, Hc13⟩, ⟨%fs1, ⟨Hs10, Hs11, Hs12, Hs13⟩, Hw10, Hw11, Hw12, Hw13⟩⟩, ⟨⟨Hc20, Hc21, Hc22, Hc23⟩, ⟨%fs2, ⟨Hs20, Hs21, Hs22, Hs23⟩, Hw20, Hw21, Hw22, Hw23⟩⟩, HW, Hk⟩
    ihave G := (src_0_split c fh0 (Ring.sl 3 t.val) (Ring.bk 16 t.val)).1 $$ Hw00
    icases G with ⟨Hh00, Hr00⟩
    ihave G := (src_1_split c fh0 (Ring.sl 3 t.val) (Ring.bk 16 t.val)).1 $$ Hw01
    icases G with ⟨Hh01, Hr01⟩
    ihave G := (src_2_split c fh0 (Ring.sl 3 t.val) (Ring.bk 16 t.val)).1 $$ Hw02
    icases G with ⟨Hh02, Hr02⟩
    ihave G := (src_3_split c fh0 (Ring.sl 3 t.val) (Ring.bk 16 t.val)).1 $$ Hw03
    icases G with ⟨Hh03, Hr03⟩
    ihave G := (src_0_split c fh0 (Ring.sl 3 (t.val + 1)) (Ring.bk 16 (t.val + 1))).1 $$ Hw10
    icases G with ⟨Hh10, Hr10⟩
    ihave G := (src_1_split c fh0 (Ring.sl 3 (t.val + 1)) (Ring.bk 16 (t.val + 1))).1 $$ Hw11
    icases G with ⟨Hh11, Hr11⟩
    ihave G := (src_2_split c fh0 (Ring.sl 3 (t.val + 1)) (Ring.bk 16 (t.val + 1))).1 $$ Hw12
    icases G with ⟨Hh12, Hr12⟩
    ihave G := (src_3_split c fh0 (Ring.sl 3 (t.val + 1)) (Ring.bk 16 (t.val + 1))).1 $$ Hw13
    icases G with ⟨Hh13, Hr13⟩
    ihave G := (src_0_split c fh0 (Ring.sl 3 (t.val + 2)) (Ring.bk 16 (t.val + 2))).1 $$ Hw20
    icases G with ⟨Hh20, Hr20⟩
    ihave G := (src_1_split c fh0 (Ring.sl 3 (t.val + 2)) (Ring.bk 16 (t.val + 2))).1 $$ Hw21
    icases G with ⟨Hh21, Hr21⟩
    ihave G := (src_2_split c fh0 (Ring.sl 3 (t.val + 2)) (Ring.bk 16 (t.val + 2))).1 $$ Hw22
    icases G with ⟨Hh22, Hr22⟩
    ihave G := (src_3_split c fh0 (Ring.sl 3 (t.val + 2)) (Ring.bk 16 (t.val + 2))).1 $$ Hw23
    icases G with ⟨Hh23, Hr23⟩
    obtain rfl := harg2.eq_unread hf0
    sl_exec (disch := first | sl_exact hc0 | sl_exact hc1)
    ihave HL := (slot_of_landed c fh0 (Ring.sl 3 t.val) (Ring.bk 16 t.val) fs0) $$ [Hs00 Hs01 Hs02 Hs03]
    · isplitl [Hs00]; · iexact Hs00
      isplitl [Hs01]; · iexact Hs01
      isplitl [Hs02]; · iexact Hs02
      iexact Hs03
    sl_exec (disch := first | sl_exact hc0 | sl_exact hc1)
    sl_step
    ihave HP := (slot_parts c (Ring.sl 3 t.val) (slotL c fh0 (Ring.bk 16 t.val))).1 $$ HL
    icases HP with ⟨P0, P1, P2, P3⟩
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hc10 Hc11 Hc12 Hc13 Hr10 Hr11 Hr12 Hr13]
    · iexists fs1; isplitl [Hc10 Hc11 Hc12 Hc13]
      · isplitl [Hc10]; · iexact Hc10
        isplitl [Hc11]; · iexact Hc11
        isplitl [Hc12]; · iexact Hc12
        iexact Hc13
      isplitl [Hr10]; · iexact Hr10
      isplitl [Hr11]; · iexact Hr11
      isplitl [Hr12]; · iexact Hr12
      iexact Hr13
    isplitl [Hc20 Hc21 Hc22 Hc23 Hr20 Hr21 Hr22 Hr23]
    · iexists fs2; isplitl [Hc20 Hc21 Hc22 Hc23]
      · isplitl [Hc20]; · iexact Hc20
        isplitl [Hc21]; · iexact Hc21
        isplitl [Hc22]; · iexact Hc22
        iexact Hc23
      isplitl [Hr20]; · iexact Hr20
      isplitl [Hr21]; · iexact Hr21
      isplitl [Hr22]; · iexact Hr22
      iexact Hr23
    isplitl [Hc00 Hc01 Hc02 Hc03 P0 P1 P2 P3 Hh00 Hh01 Hh02 Hh03 Hr00 Hr01 Hr02 Hr03]
    · isplitl [Hc00 Hc01 Hc02 Hc03]
      · isplitl [Hc00]; · iexact Hc00
        isplitl [Hc01]; · iexact Hc01
        isplitl [Hc02]; · iexact Hc02
        iexact Hc03
      iexists (fun _ => slotL c fh0 (Ring.bk 16 t.val)); isplitl [P0 P1 P2 P3]
      · isplitl [P0]; · iexact P0
        isplitl [P1]; · iexact P1
        isplitl [P2]; · iexact P2
        iexact P3
      isplitl [Hh00 Hr00]
      · iapply (src_0_split c fh0 (Ring.sl 3 t.val) (Ring.bk 16 t.val)).2; isplitl [Hh00]; · iexact Hh00
        iexact Hr00
      isplitl [Hh01 Hr01]
      · iapply (src_1_split c fh0 (Ring.sl 3 t.val) (Ring.bk 16 t.val)).2; isplitl [Hh01]; · iexact Hh01
        iexact Hr01
      isplitl [Hh02 Hr02]
      · iapply (src_2_split c fh0 (Ring.sl 3 t.val) (Ring.bk 16 t.val)).2; isplitl [Hh02]; · iexact Hh02
        iexact Hr02
      iapply (src_3_split c fh0 (Ring.sl 3 t.val) (Ring.bk 16 t.val)).2; isplitl [Hh03]; · iexact Hh03
      iexact Hr03
    iexists _; iexact HW

end Cert.KernelIdeal.Ring3
-- ==== Proof.Res3.lean ====
/- What a point computes of its block and the constant operand: the chain of its values, and the seven blocks it stores. -/
module

public import proofs.«01_k».proof.Proof.Ring3

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- Block `b` of an array of blocks. -/
def blk (W0 : S16x1536x128.Idx → Elt F .f32) (b : Fin 16) : Vec F S1x1536x128 .f32 := fun y => W0 (fun a => ⟨(![b.val, (y 1).val, (y 2).val] : Fin 3 → ℕ) a, by
    have h0 := b.isLt; have h1 : (y 1).val < 1536 := (y 1).isLt; have h2 : (y 2).val < 128 := (y 2).isLt
    fin_cases a; exacts [h0, h1, h2]⟩)

def d0 (xb : Vec F S1x1536x128 .f32) : FVec F S96x16x128 FTy.f32 :=
  Gen.k0_pay5 xb
def d1 (xb : Vec F S1x1536x128 .f32) : FVec F S16x128 FTy.f32 :=
  Gen.k0_pay6 xb
def d2 (xb : Vec F S1x1536x128 .f32) : FVec F S16x128 FTy.f32 :=
  Gen.k0_pay7 xb
def d3 (xb : Vec F S1x1536x128 .f32) : F FTy.f32 :=
  Gen.k0_pay8 xb
def d4 (xb : Vec F S1x1536x128 .f32) : FVec F S1x16x128 FTy.f32 :=
  Gen.k0_pay9 xb
def d5 (xb : Vec F S1x1536x128 .f32) : F FTy.f32 :=
  Gen.k0_pay11 (d3 xb) (d4 xb)
def d6 (xb : Vec F S1x1536x128 .f32) : FVec F S16x128 FTy.f32 :=
  Gen.k0_pay12 (d1 xb) (d3 xb) (d4 xb)
def d7 (xb : Vec F S1x1536x128 .f32) : FVec F S16x128 FTy.f32 :=
  Gen.k0_pay13 (d1 xb) (d2 xb) (d3 xb) (d4 xb)
def d8 (xb : Vec F S1x1536x128 .f32) : FVec F S16x128 FTy.f32 :=
  Gen.k0_pay14 (d1 xb) (d2 xb) (d3 xb) (d4 xb)
def d9 (x0 : Vec F S256x1540 .f32) (xb : Vec F S1x1536x128 .f32) : FVec F S16x16x128 FTy.f32 :=
  Gen.k0_pay15 (View.ld x0 (Rect.unit (s := S256x1540) ![0, 0] S256x1536.size Gen.inb_S256x1540_S256x1536_0_0)) xb
def d10 (x0 : Vec F S256x1540 .f32) (xb : Vec F S1x1536x128 .f32) : FVec F S16x128 FTy.f32 :=
  Gen.k0_pay16 (View.ld x0 (Rect.unit (s := S256x1540) ![0, 0] S256x1536.size Gen.inb_S256x1540_S256x1536_0_0)) xb
def d11 (x0 : Vec F S256x1540 .f32) (xb : Vec F S1x1536x128 .f32) : FVec F S16x128 FTy.f32 :=
  Gen.k0_pay23 (d1 xb) (d8 xb) (d9 x0 xb) (d10 x0 xb) (View.ld x0 (Rect.unit (s := S256x1540) ![0, 1539] S1x1.size Gen.inb_S256x1540_S1x1_0_1539)) (View.ld x0 (Rect.unit (s := S256x1540) ![0, 1536] S1x1.size Gen.inb_S256x1540_S1x1_0_1536)) (View.ld x0 (Rect.unit (s := S256x1540) ![16, 1539] S1x1.size Gen.inb_S256x1540_S1x1_16_1539)) (View.ld x0 (Rect.unit (s := S256x1540) ![16, 1536] S1x1.size Gen.inb_S256x1540_S1x1_16_1536)) (View.ld x0 (Rect.unit (s := S256x1540) ![32, 1539] S1x1.size Gen.inb_S256x1540_S1x1_32_1539)) (View.ld x0 (Rect.unit (s := S256x1540) ![32, 1536] S1x1.size Gen.inb_S256x1540_S1x1_32_1536))
def d12 (x0 : Vec F S256x1540 .f32) (xb : Vec F S1x1536x128 .f32) : IVec S16x128 32 :=
  Gen.k0_pay24 (d1 xb) (d8 xb) (d9 x0 xb) (d10 x0 xb) (View.ld x0 (Rect.unit (s := S256x1540) ![0, 1539] S1x1.size Gen.inb_S256x1540_S1x1_0_1539)) (View.ld x0 (Rect.unit (s := S256x1540) ![0, 1536] S1x1.size Gen.inb_S256x1540_S1x1_0_1536)) (View.ld x0 (Rect.unit (s := S256x1540) ![16, 1539] S1x1.size Gen.inb_S256x1540_S1x1_16_1539)) (View.ld x0 (Rect.unit (s := S256x1540) ![16, 1536] S1x1.size Gen.inb_S256x1540_S1x1_16_1536)) (View.ld x0 (Rect.unit (s := S256x1540) ![32, 1539] S1x1.size Gen.inb_S256x1540_S1x1_32_1539)) (View.ld x0 (Rect.unit (s := S256x1540) ![32, 1536] S1x1.size Gen.inb_S256x1540_S1x1_32_1536))
def d13 (x0 : Vec F S256x1540 .f32) (xb : Vec F S1x1536x128 .f32) : FVec F S16x128 FTy.f32 :=
  Gen.k0_pay25 (d9 x0 xb)
def d14 (x0 : Vec F S256x1540 .f32) (xb : Vec F S1x1536x128 .f32) : IVec S16x128 32 :=
  Gen.k0_pay32 (d1 xb) (d8 xb) (d9 x0 xb) (d11 x0 xb) (d12 x0 xb) (d13 x0 xb) (View.ld x0 (Rect.unit (s := S256x1540) ![48, 1539] S1x1.size Gen.inb_S256x1540_S1x1_48_1539)) (View.ld x0 (Rect.unit (s := S256x1540) ![48, 1536] S1x1.size Gen.inb_S256x1540_S1x1_48_1536)) (View.ld x0 (Rect.unit (s := S256x1540) ![64, 1539] S1x1.size Gen.inb_S256x1540_S1x1_64_1539)) (View.ld x0 (Rect.unit (s := S256x1540) ![64, 1536] S1x1.size Gen.inb_S256x1540_S1x1_64_1536))
def d15 (x0 : Vec F S256x1540 .f32) (xb : Vec F S1x1536x128 .f32) : IVec S16x128 1 :=
  Gen.k0_pay34 (d1 xb) (d8 xb) (d9 x0 xb) (d11 x0 xb) (d13 x0 xb) (View.ld x0 (Rect.unit (s := S256x1540) ![48, 1539] S1x1.size Gen.inb_S256x1540_S1x1_48_1539)) (View.ld x0 (Rect.unit (s := S256x1540) ![48, 1536] S1x1.size Gen.inb_S256x1540_S1x1_48_1536)) (View.ld x0 (Rect.unit (s := S256x1540) ![64, 1539] S1x1.size Gen.inb_S256x1540_S1x1_64_1539)) (View.ld x0 (Rect.unit (s := S256x1540) ![64, 1536] S1x1.size Gen.inb_S256x1540_S1x1_64_1536)) (View.ld x0 (Rect.unit (s := S256x1540) ![80, 1539] S1x1.size Gen.inb_S256x1540_S1x1_80_1539)) (View.ld x0 (Rect.unit (s := S256x1540) ![80, 1536] S1x1.size Gen.inb_S256x1540_S1x1_80_1536))
def d16 (x0 : Vec F S256x1540 .f32) (xb : Vec F S1x1536x128 .f32) : FVec F S16x128 FTy.f32 :=
  Gen.k0_pay35 (d1 xb) (d8 xb) (d9 x0 xb) (d11 x0 xb) (d13 x0 xb) (View.ld x0 (Rect.unit (s := S256x1540) ![48, 1539] S1x1.size Gen.inb_S256x1540_S1x1_48_1539)) (View.ld x0 (Rect.unit (s := S256x1540) ![48, 1536] S1x1.size Gen.inb_S256x1540_S1x1_48_1536)) (View.ld x0 (Rect.unit (s := S256x1540) ![64, 1539] S1x1.size Gen.inb_S256x1540_S1x1_64_1539)) (View.ld x0 (Rect.unit (s := S256x1540) ![64, 1536] S1x1.size Gen.inb_S256x1540_S1x1_64_1536)) (View.ld x0 (Rect.unit (s := S256x1540) ![80, 1539] S1x1.size Gen.inb_S256x1540_S1x1_80_1539)) (View.ld x0 (Rect.unit (s := S256x1540) ![80, 1536] S1x1.size Gen.inb_S256x1540_S1x1_80_1536))
def d17 (x0 : Vec F S256x1540 .f32) (xb : Vec F S1x1536x128 .f32) : FVec F S16x128 FTy.f32 :=
  Gen.k0_pay42 (d1 xb) (d8 xb) (d9 x0 xb) (d16 x0 xb) (View.ld x0 (Rect.unit (s := S256x1540) ![96, 1539] S1x1.size Gen.inb_S256x1540_S1x1_96_1539)) (View.ld x0 (Rect.unit (s := S256x1540) ![96, 1536] S1x1.size Gen.inb_S256x1540_S1x1_96_1536)) (View.ld x0 (Rect.unit (s := S256x1540) ![112, 1539] S1x1.size Gen.inb_S256x1540_S1x1_112_1539)) (View.ld x0 (Rect.unit (s := S256x1540) ![112, 1536] S1x1.size Gen.inb_S256x1540_S1x1_112_1536))
def d18 (x0 : Vec F S256x1540 .f32) (xb : Vec F S1x1536x128 .f32) : IVec S16x128 32 :=
  Gen.k0_pay43 (d1 xb) (d8 xb) (d9 x0 xb) (d14 x0 xb) (d15 x0 xb) (d16 x0 xb) Gen.k0_pay36 (View.ld x0 (Rect.unit (s := S256x1540) ![96, 1539] S1x1.size Gen.inb_S256x1540_S1x1_96_1539)) (View.ld x0 (Rect.unit (s := S256x1540) ![96, 1536] S1x1.size Gen.inb_S256x1540_S1x1_96_1536)) (View.ld x0 (Rect.unit (s := S256x1540) ![112, 1539] S1x1.size Gen.inb_S256x1540_S1x1_112_1539)) (View.ld x0 (Rect.unit (s := S256x1540) ![112, 1536] S1x1.size Gen.inb_S256x1540_S1x1_112_1536))
def d19 (x0 : Vec F S256x1540 .f32) (xb : Vec F S1x1536x128 .f32) : FVec F S16x128 FTy.f32 :=
  Gen.k0_pay44 (d1 xb) (d8 xb) (d9 x0 xb) (View.ld x0 (Rect.unit (s := S256x1540) ![128, 1539] S1x1.size Gen.inb_S256x1540_S1x1_128_1539)) (View.ld x0 (Rect.unit (s := S256x1540) ![128, 1536] S1x1.size Gen.inb_S256x1540_S1x1_128_1536))
def d20 (x0 : Vec F S256x1540 .f32) (xb : Vec F S1x1536x128 .f32) : IVec S16x128 1 :=
  Gen.k0_pay45 (d1 xb) (d8 xb) (d9 x0 xb) (d16 x0 xb) (View.ld x0 (Rect.unit (s := S256x1540) ![96, 1539] S1x1.size Gen.inb_S256x1540_S1x1_96_1539)) (View.ld x0 (Rect.unit (s := S256x1540) ![96, 1536] S1x1.size Gen.inb_S256x1540_S1x1_96_1536)) (View.ld x0 (Rect.unit (s := S256x1540) ![112, 1539] S1x1.size Gen.inb_S256x1540_S1x1_112_1539)) (View.ld x0 (Rect.unit (s := S256x1540) ![112, 1536] S1x1.size Gen.inb_S256x1540_S1x1_112_1536)) (View.ld x0 (Rect.unit (s := S256x1540) ![128, 1539] S1x1.size Gen.inb_S256x1540_S1x1_128_1539)) (View.ld x0 (Rect.unit (s := S256x1540) ![128, 1536] S1x1.size Gen.inb_S256x1540_S1x1_128_1536))
def d21 (x0 : Vec F S256x1540 .f32) (xb : Vec F S1x1536x128 .f32) : FVec F S16x128 FTy.f32 :=
  Gen.k0_pay52 (d1 xb) (d8 xb) (d9 x0 xb) (d17 x0 xb) (d19 x0 xb) (d20 x0 xb) (View.ld x0 (Rect.unit (s := S256x1540) ![144, 1539] S1x1.size Gen.inb_S256x1540_S1x1_144_1539)) (View.ld x0 (Rect.unit (s := S256x1540) ![144, 1536] S1x1.size Gen.inb_S256x1540_S1x1_144_1536)) (View.ld x0 (Rect.unit (s := S256x1540) ![160, 1539] S1x1.size Gen.inb_S256x1540_S1x1_160_1539)) (View.ld x0 (Rect.unit (s := S256x1540) ![160, 1536] S1x1.size Gen.inb_S256x1540_S1x1_160_1536))
def d22 (x0 : Vec F S256x1540 .f32) (xb : Vec F S1x1536x128 .f32) : IVec S16x128 32 :=
  Gen.k0_pay53 (d1 xb) (d8 xb) (d9 x0 xb) (d17 x0 xb) (d18 x0 xb) (d19 x0 xb) (d20 x0 xb) (View.ld x0 (Rect.unit (s := S256x1540) ![144, 1539] S1x1.size Gen.inb_S256x1540_S1x1_144_1539)) (View.ld x0 (Rect.unit (s := S256x1540) ![144, 1536] S1x1.size Gen.inb_S256x1540_S1x1_144_1536)) (View.ld x0 (Rect.unit (s := S256x1540) ![160, 1539] S1x1.size Gen.inb_S256x1540_S1x1_160_1539)) (View.ld x0 (Rect.unit (s := S256x1540) ![160, 1536] S1x1.size Gen.inb_S256x1540_S1x1_160_1536))
def d23 (x0 : Vec F S256x1540 .f32) (xb : Vec F S1x1536x128 .f32) : FVec F S16x128 FTy.f32 :=
  Gen.k0_pay54 (d1 xb) (d8 xb) (d9 x0 xb) (View.ld x0 (Rect.unit (s := S256x1540) ![176, 1539] S1x1.size Gen.inb_S256x1540_S1x1_176_1539))
def d24 (x0 : Vec F S256x1540 .f32) : F FTy.f32 :=
  Gen.k0_pay55 (View.ld x0 (Rect.unit (s := S256x1540) ![176, 1536] S1x1.size Gen.inb_S256x1540_S1x1_176_1536))
def d25 (x0 : Vec F S256x1540 .f32) (xb : Vec F S1x1536x128 .f32) : FVec F S16x128 FTy.f32 :=
  Gen.k0_pay64 (d1 xb) (d8 xb) (d9 x0 xb) (d21 x0 xb) (d23 x0 xb) (d24 x0) (View.ld x0 (Rect.unit (s := S256x1540) ![192, 1539] S1x1.size Gen.inb_S256x1540_S1x1_192_1539)) (View.ld x0 (Rect.unit (s := S256x1540) ![192, 1536] S1x1.size Gen.inb_S256x1540_S1x1_192_1536)) (View.ld x0 (Rect.unit (s := S256x1540) ![208, 1539] S1x1.size Gen.inb_S256x1540_S1x1_208_1539)) (View.ld x0 (Rect.unit (s := S256x1540) ![208, 1536] S1x1.size Gen.inb_S256x1540_S1x1_208_1536))
def d26 (x0 : Vec F S256x1540 .f32) (xb : Vec F S1x1536x128 .f32) : IVec S16x128 32 :=
  Gen.k0_pay65 (d1 xb) (d8 xb) (d9 x0 xb) (d21 x0 xb) (d22 x0 xb) (d23 x0 xb) (d24 x0) (View.ld x0 (Rect.unit (s := S256x1540) ![192, 1539] S1x1.size Gen.inb_S256x1540_S1x1_192_1539)) (View.ld x0 (Rect.unit (s := S256x1540) ![192, 1536] S1x1.size Gen.inb_S256x1540_S1x1_192_1536)) (View.ld x0 (Rect.unit (s := S256x1540) ![208, 1539] S1x1.size Gen.inb_S256x1540_S1x1_208_1539)) (View.ld x0 (Rect.unit (s := S256x1540) ![208, 1536] S1x1.size Gen.inb_S256x1540_S1x1_208_1536))
def d27 (x0 : Vec F S256x1540 .f32) (xb : Vec F S1x1536x128 .f32) : FVec F S16x128 FTy.f32 :=
  Gen.k0_pay66 (d1 xb) (d8 xb) (d9 x0 xb) (View.ld x0 (Rect.unit (s := S256x1540) ![224, 1539] S1x1.size Gen.inb_S256x1540_S1x1_224_1539))
def d28 (x0 : Vec F S256x1540 .f32) (xb : Vec F S1x1536x128 .f32) : IVec S16x128 32 :=
  Gen.k0_pay67 (d1 xb) (d8 xb) (d9 x0 xb) (d25 x0 xb) (d26 x0 xb) (d27 x0 xb) (View.ld x0 (Rect.unit (s := S256x1540) ![224, 1536] S1x1.size Gen.inb_S256x1540_S1x1_224_1536)) (View.ld x0 (Rect.unit (s := S256x1540) ![240, 1539] S1x1.size Gen.inb_S256x1540_S1x1_240_1539)) (View.ld x0 (Rect.unit (s := S256x1540) ![240, 1536] S1x1.size Gen.inb_S256x1540_S1x1_240_1536))
def d29 (x0 : Vec F S256x1540 .f32) (xb : Vec F S1x1536x128 .f32) : FVec F S16x128 FTy.f32 :=
  Gen.k0_pay69 (d1 xb) (d8 xb) (d9 x0 xb) (d25 x0 xb) (d26 x0 xb) (d27 x0 xb) (View.ld x0 (Rect.unit (s := S256x1540) ![224, 1536] S1x1.size Gen.inb_S256x1540_S1x1_224_1536)) (View.ld x0 (Rect.unit (s := S256x1540) ![240, 1539] S1x1.size Gen.inb_S256x1540_S1x1_240_1539)) (View.ld x0 (Rect.unit (s := S256x1540) ![240, 1536] S1x1.size Gen.inb_S256x1540_S1x1_240_1536)) (View.ld x0 (Rect.unit (s := S256x1540) ![0, 1537] S1x1.size Gen.inb_S256x1540_S1x1_0_1537)) (View.ld x0 (Rect.unit (s := S256x1540) ![16, 1537] S1x1.size Gen.inb_S256x1540_S1x1_16_1537))
def d30 (x0 : Vec F S256x1540 .f32) (xb : Vec F S1x1536x128 .f32) : FVec F S16x128 FTy.f32 :=
  Gen.k0_pay70 (d1 xb) (d8 xb) (d9 x0 xb) (d25 x0 xb) (d26 x0 xb) (d27 x0 xb) (View.ld x0 (Rect.unit (s := S256x1540) ![224, 1536] S1x1.size Gen.inb_S256x1540_S1x1_224_1536)) (View.ld x0 (Rect.unit (s := S256x1540) ![240, 1539] S1x1.size Gen.inb_S256x1540_S1x1_240_1539)) (View.ld x0 (Rect.unit (s := S256x1540) ![240, 1536] S1x1.size Gen.inb_S256x1540_S1x1_240_1536)) (View.ld x0 (Rect.unit (s := S256x1540) ![0, 1538] S1x1.size Gen.inb_S256x1540_S1x1_0_1538)) (View.ld x0 (Rect.unit (s := S256x1540) ![16, 1538] S1x1.size Gen.inb_S256x1540_S1x1_16_1538))
def d31 (x0 : Vec F S256x1540 .f32) (xb : Vec F S1x1536x128 .f32) : IVec S16x128 1 :=
  Gen.k0_pay71 (d1 xb) (d8 xb) (d9 x0 xb) (d25 x0 xb) (d26 x0 xb) (d27 x0 xb) (View.ld x0 (Rect.unit (s := S256x1540) ![224, 1536] S1x1.size Gen.inb_S256x1540_S1x1_224_1536)) (View.ld x0 (Rect.unit (s := S256x1540) ![240, 1539] S1x1.size Gen.inb_S256x1540_S1x1_240_1539)) (View.ld x0 (Rect.unit (s := S256x1540) ![240, 1536] S1x1.size Gen.inb_S256x1540_S1x1_240_1536))
def d32 (x0 : Vec F S256x1540 .f32) (xb : Vec F S1x1536x128 .f32) : FVec F S16x128 FTy.f32 :=
  Gen.k0_pay75 (d28 x0 xb) (d29 x0 xb) (d31 x0 xb) (View.ld x0 (Rect.unit (s := S256x1540) ![32, 1537] S1x1.size Gen.inb_S256x1540_S1x1_32_1537)) (View.ld x0 (Rect.unit (s := S256x1540) ![48, 1537] S1x1.size Gen.inb_S256x1540_S1x1_48_1537)) (View.ld x0 (Rect.unit (s := S256x1540) ![64, 1537] S1x1.size Gen.inb_S256x1540_S1x1_64_1537)) (View.ld x0 (Rect.unit (s := S256x1540) ![80, 1537] S1x1.size Gen.inb_S256x1540_S1x1_80_1537))
def d33 (x0 : Vec F S256x1540 .f32) (xb : Vec F S1x1536x128 .f32) : FVec F S16x128 FTy.f32 :=
  Gen.k0_pay76 (d28 x0 xb) (d30 x0 xb) (d31 x0 xb) (View.ld x0 (Rect.unit (s := S256x1540) ![32, 1538] S1x1.size Gen.inb_S256x1540_S1x1_32_1538)) (View.ld x0 (Rect.unit (s := S256x1540) ![48, 1538] S1x1.size Gen.inb_S256x1540_S1x1_48_1538)) (View.ld x0 (Rect.unit (s := S256x1540) ![64, 1538] S1x1.size Gen.inb_S256x1540_S1x1_64_1538)) (View.ld x0 (Rect.unit (s := S256x1540) ![80, 1538] S1x1.size Gen.inb_S256x1540_S1x1_80_1538))
def d34 (x0 : Vec F S256x1540 .f32) (xb : Vec F S1x1536x128 .f32) : IVec S16x128 1 :=
  Gen.k0_pay77 (d28 x0 xb)
def d35 (x0 : Vec F S256x1540 .f32) (xb : Vec F S1x1536x128 .f32) : FVec F S16x128 FTy.f32 :=
  Gen.k0_pay81 (d28 x0 xb) (d32 x0 xb) (d34 x0 xb) (View.ld x0 (Rect.unit (s := S256x1540) ![96, 1537] S1x1.size Gen.inb_S256x1540_S1x1_96_1537)) (View.ld x0 (Rect.unit (s := S256x1540) ![112, 1537] S1x1.size Gen.inb_S256x1540_S1x1_112_1537)) (View.ld x0 (Rect.unit (s := S256x1540) ![128, 1537] S1x1.size Gen.inb_S256x1540_S1x1_128_1537)) (View.ld x0 (Rect.unit (s := S256x1540) ![144, 1537] S1x1.size Gen.inb_S256x1540_S1x1_144_1537))
def d36 (x0 : Vec F S256x1540 .f32) (xb : Vec F S1x1536x128 .f32) : FVec F S16x128 FTy.f32 :=
  Gen.k0_pay82 (d28 x0 xb) (d33 x0 xb) (d34 x0 xb) (View.ld x0 (Rect.unit (s := S256x1540) ![96, 1538] S1x1.size Gen.inb_S256x1540_S1x1_96_1538)) (View.ld x0 (Rect.unit (s := S256x1540) ![112, 1538] S1x1.size Gen.inb_S256x1540_S1x1_112_1538)) (View.ld x0 (Rect.unit (s := S256x1540) ![128, 1538] S1x1.size Gen.inb_S256x1540_S1x1_128_1538)) (View.ld x0 (Rect.unit (s := S256x1540) ![144, 1538] S1x1.size Gen.inb_S256x1540_S1x1_144_1538))
def d37 (x0 : Vec F S256x1540 .f32) (xb : Vec F S1x1536x128 .f32) : IVec S16x128 1 :=
  Gen.k0_pay83 (d28 x0 xb)
def d38 (x0 : Vec F S256x1540 .f32) (xb : Vec F S1x1536x128 .f32) : FVec F S16x128 FTy.f32 :=
  Gen.k0_pay87 (d28 x0 xb) (d35 x0 xb) (d37 x0 xb) (View.ld x0 (Rect.unit (s := S256x1540) ![160, 1537] S1x1.size Gen.inb_S256x1540_S1x1_160_1537)) (View.ld x0 (Rect.unit (s := S256x1540) ![176, 1537] S1x1.size Gen.inb_S256x1540_S1x1_176_1537)) (View.ld x0 (Rect.unit (s := S256x1540) ![192, 1537] S1x1.size Gen.inb_S256x1540_S1x1_192_1537)) (View.ld x0 (Rect.unit (s := S256x1540) ![208, 1537] S1x1.size Gen.inb_S256x1540_S1x1_208_1537))
def d39 (x0 : Vec F S256x1540 .f32) (xb : Vec F S1x1536x128 .f32) : FVec F S16x128 FTy.f32 :=
  Gen.k0_pay88 (d28 x0 xb) (d36 x0 xb) (d37 x0 xb) (View.ld x0 (Rect.unit (s := S256x1540) ![160, 1538] S1x1.size Gen.inb_S256x1540_S1x1_160_1538)) (View.ld x0 (Rect.unit (s := S256x1540) ![176, 1538] S1x1.size Gen.inb_S256x1540_S1x1_176_1538)) (View.ld x0 (Rect.unit (s := S256x1540) ![192, 1538] S1x1.size Gen.inb_S256x1540_S1x1_192_1538)) (View.ld x0 (Rect.unit (s := S256x1540) ![208, 1538] S1x1.size Gen.inb_S256x1540_S1x1_208_1538))
def d40 (x0 : Vec F S256x1540 .f32) (xb : Vec F S1x1536x128 .f32) : IVec S16x128 1 :=
  Gen.k0_pay89 (d28 x0 xb)
def d41 (x0 : Vec F S256x1540 .f32) (xb : Vec F S1x1536x128 .f32) : FVec F S16x128 FTy.f32 :=
  Gen.k0_pay91 (d28 x0 xb) (d38 x0 xb) (d40 x0 xb) (View.ld x0 (Rect.unit (s := S256x1540) ![224, 1537] S1x1.size Gen.inb_S256x1540_S1x1_224_1537)) (View.ld x0 (Rect.unit (s := S256x1540) ![240, 1537] S1x1.size Gen.inb_S256x1540_S1x1_240_1537))
def d42 (x0 : Vec F S256x1540 .f32) (xb : Vec F S1x1536x128 .f32) : FVec F S16x128 FTy.f32 :=
  Gen.k0_pay92 (d28 x0 xb) (d39 x0 xb) (d40 x0 xb) (View.ld x0 (Rect.unit (s := S256x1540) ![224, 1538] S1x1.size Gen.inb_S256x1540_S1x1_224_1538)) (View.ld x0 (Rect.unit (s := S256x1540) ![240, 1538] S1x1.size Gen.inb_S256x1540_S1x1_240_1538))
/-- The block result 1 gets at a point. -/
def res1 (x0 : Vec F S256x1540 .f32) (xb : Vec F S1x1536x128 .f32) : Vec F S1x1536x128 .f32 :=
  Gen.k0_pay93 (d0 xb) (d1 xb) (d8 xb) (d28 x0 xb) (d38 x0 xb) (d39 x0 xb) (d40 x0 xb) (View.ld x0 (Rect.unit (s := S256x1540) ![224, 1537] S1x1.size Gen.inb_S256x1540_S1x1_224_1537)) (View.ld x0 (Rect.unit (s := S256x1540) ![224, 1538] S1x1.size Gen.inb_S256x1540_S1x1_224_1538)) (View.ld x0 (Rect.unit (s := S256x1540) ![240, 1537] S1x1.size Gen.inb_S256x1540_S1x1_240_1537)) (View.ld x0 (Rect.unit (s := S256x1540) ![240, 1538] S1x1.size Gen.inb_S256x1540_S1x1_240_1538))
/-- The block result 2 gets at a point. -/
def res2 (x0 : Vec F S256x1540 .f32) (xb : Vec F S1x1536x128 .f32) : Vec F S1x16x128 .f32 :=
  Gen.k0_pay94 (d6 xb)
/-- The block result 3 gets at a point. -/
def res3 (x0 : Vec F S256x1540 .f32) (xb : Vec F S1x1536x128 .f32) : Vec F S1x16x128 .f32 :=
  Gen.k0_pay95 (d7 xb)
/-- The block result 4 gets at a point. -/
def res4 (x0 : Vec F S256x1540 .f32) (xb : Vec F S1x1536x128 .f32) : Vec F S1x16x128 .f32 :=
  Gen.k0_pay1 (d41 x0 xb)
/-- The block result 5 gets at a point. -/
def res5 (x0 : Vec F S256x1540 .f32) (xb : Vec F S1x1536x128 .f32) : Vec F S1x16x128 .f32 :=
  Gen.k0_pay2 (d42 x0 xb)
/-- The block result 6 gets at a point. -/
def res6 (x0 : Vec F S256x1540 .f32) (xb : Vec F S1x1536x128 .f32) : Vec F S1x1x1 .f32 :=
  Gen.k0_pay3 (d3 xb)
/-- The block result 7 gets at a point. -/
def res7 (x0 : Vec F S256x1540 .f32) (xb : Vec F S1x1536x128 .f32) : Vec F S1x1x1 .f32 :=
  Gen.k0_pay4 (d5 xb)

omit [FloatOps F] in
theorem load_blk (c : Dev nD) (t : Fin grid0.N) (W0 : HbBuf0 (F := F) c hbM0_0) (b : Fin 16) :
    View.readAt (Elt F) scM0_0.view (Rect.unit (s := S3x1536x128) (k0_off25 (grid0.coords t)) S1x1536x128.size (Gen.k0_off25_inb (grid0.coords t))).toLoadRect (slotL c W0 b) = blk W0 b := by
  funext y
  refine congrArg (W0 : S16x1536x128.Idx → Elt F .f32) (funext fun a => Fin.ext ?_)
  have e : ∀ a, ((Rect.unit (s := S3x1536x128) (k0_off25 (grid0.coords t)) S1x1536x128.size (Gen.k0_off25_inb (grid0.coords t))).emb y a).val = k0_off25 (grid0.coords t) a + (y a).val := fun a => ValueKit.rect_emb_unit_val _ _ _ _ a
  have hk1 : k0_off25 (grid0.coords t) 1 = 0 := congrFun (coff_load t) 1
  have hk2 : k0_off25 (grid0.coords t) 2 = 0 := congrFun (coff_load t) 2
  fin_cases a
  · rfl
  · exact (e 1).trans (by rw [hk1, Nat.zero_add]; rfl)
  · exact (e 2).trans (by rw [hk2, Nat.zero_add]; rfl)
omit [FloatOps F] in
theorem ld_arg (m : Memref sig .tc .vmem S256x1540 .f32) (h : m.IsWhole) (x0 : Vec F S256x1540 .f32) (r : Rect S256x1540) :
    View.readAt (Elt F) m.view r.toLoadRect (h.unread x0) = View.ld x0 r := by
  rw [View.readAt_eq_ld, h.read_unread]
omit [FloatOps F] in
/-- One store over the whole of a buffer is what it reads. -/
theorem read_store {s : Shape} (v : View sig .tc .vmem s .f32) (f : v.ty.Contents (Elt F)) {off : Fin s.rank → ℕ} (h0 : ∀ a, off a = 0) (inb : ∀ a, off a + s.size a ≤ s.size a) (w : s.Idx → Elt F .f32) :
    v.read (Elt F) (v.writes (Elt F) f [⟨Rect.unit off s.size inb, w⟩]) = w := by
  funext y
  have h := View.read_writes_cons_emb (Val := Elt F) v f (Rect.unit off s.size inb) w [] y
  rwa [show (Rect.unit off s.size inb).emb y = y from funext fun a => Fin.ext ((ValueKit.rect_emb_unit_val _ _ _ _ a).trans (by rw [h0, Nat.zero_add]))] at h

omit [FloatOps F] in
theorem read_store' {s : Shape} (v : View sig .tc .vmem s .f32) (f : v.ty.Contents (Elt F)) {off : Fin s.rank → ℕ} (h0 : ∀ a, off a = 0) (inb : ∀ a, off a + s.size a ≤ s.size a) (w : s.Idx → Elt F .f32)
    {L : List (View.Piece (Elt F) s .f32)} (hL : L = [⟨Rect.unit off s.size inb, w⟩]) : v.read (Elt F) (v.writes (Elt F) f L) = w := by
  rw [hL]; exact read_store v f h0 inb w

end Cert.KernelIdeal.Ring3
-- ==== Proof.ResA3.lean ====
/- What the stores of this run hold, by the point's chain of values. -/
module

public import proofs.«01_k».proof.Proof.RunA3
public import proofs.«01_k».proof.Proof.Res3

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem A_v52 (c : Dev nD) (t : Fin cfg0.N) (fh0 : HbBuf0 (F := F) c hbM0_0) : run_A.sl.v52 c t fh0 = blk fh0 (Ring.bk 16 t.val) := load_blk c t fh0 _
theorem A_d0 (c : Dev nD) (t : Fin cfg0.N) (fh0 : HbBuf0 (F := F) c hbM0_0) : run_A.sl.r c t fh0 = d0 (blk fh0 (Ring.bk 16 t.val)) := by
  unfold run_A.sl.r d0; simp only [A_v52]
theorem A_d1 (c : Dev nD) (t : Fin cfg0.N) (fh0 : HbBuf0 (F := F) c hbM0_0) : run_A.sl.r_1 c t fh0 = d1 (blk fh0 (Ring.bk 16 t.val)) := by
  unfold run_A.sl.r_1 d1; simp only [A_v52]
theorem A_d2 (c : Dev nD) (t : Fin cfg0.N) (fh0 : HbBuf0 (F := F) c hbM0_0) : run_A.sl.r_2 c t fh0 = d2 (blk fh0 (Ring.bk 16 t.val)) := by
  unfold run_A.sl.r_2 d2; simp only [A_v52]
theorem A_d3 (c : Dev nD) (t : Fin cfg0.N) (fh0 : HbBuf0 (F := F) c hbM0_0) : run_A.sl.r_3 c t fh0 = d3 (blk fh0 (Ring.bk 16 t.val)) := by
  unfold run_A.sl.r_3 d3; simp only [A_v52]
theorem A_d4 (c : Dev nD) (t : Fin cfg0.N) (fh0 : HbBuf0 (F := F) c hbM0_0) : run_A.sl.r_4 c t fh0 = d4 (blk fh0 (Ring.bk 16 t.val)) := by
  unfold run_A.sl.r_4 d4; simp only [A_v52]
theorem A_d5 (c : Dev nD) (t : Fin cfg0.N) (fh0 : HbBuf0 (F := F) c hbM0_0) : run_A.sl.r_5 c t fh0 = d5 (blk fh0 (Ring.bk 16 t.val)) := by
  unfold run_A.sl.r_5 d5; simp only [A_d3, A_d4]
theorem A_d6 (c : Dev nD) (t : Fin cfg0.N) (fh0 : HbBuf0 (F := F) c hbM0_0) : run_A.sl.r_6 c t fh0 = d6 (blk fh0 (Ring.bk 16 t.val)) := by
  unfold run_A.sl.r_6 d6; simp only [A_d1, A_d3, A_d4]
theorem A_d7 (c : Dev nD) (t : Fin cfg0.N) (fh0 : HbBuf0 (F := F) c hbM0_0) : run_A.sl.r_7 c t fh0 = d7 (blk fh0 (Ring.bk 16 t.val)) := by
  unfold run_A.sl.r_7 d7; simp only [A_d1, A_d2, A_d3, A_d4]
theorem A_d8 (c : Dev nD) (t : Fin cfg0.N) (fh0 : HbBuf0 (F := F) c hbM0_0) : run_A.sl.r_8 c t fh0 = d8 (blk fh0 (Ring.bk 16 t.val)) := by
  unfold run_A.sl.r_8 d8; simp only [A_d1, A_d2, A_d3, A_d4]
theorem A_d9 (c : Dev nD) (t : Fin cfg0.N) (arg2 : Memref sig .tc .vmem S256x1540 .f32) (harg2 : arg2.IsWhole) (x0 : Vec F S256x1540 .f32) (fh0 : HbBuf0 (F := F) c hbM0_0) : run_A.sl.r_9 c t arg2 harg2 x0 fh0 = d9 x0 (blk fh0 (Ring.bk 16 t.val)) := by
  unfold run_A.sl.r_9 d9; simp only [A_v52, ld_arg]
theorem A_d10 (c : Dev nD) (t : Fin cfg0.N) (arg2 : Memref sig .tc .vmem S256x1540 .f32) (harg2 : arg2.IsWhole) (x0 : Vec F S256x1540 .f32) (fh0 : HbBuf0 (F := F) c hbM0_0) : run_A.sl.r_10 c t arg2 harg2 x0 fh0 = d10 x0 (blk fh0 (Ring.bk 16 t.val)) := by
  unfold run_A.sl.r_10 d10; simp only [A_v52, ld_arg]
theorem A_d11 (c : Dev nD) (t : Fin cfg0.N) (arg2 : Memref sig .tc .vmem S256x1540 .f32) (harg2 : arg2.IsWhole) (x0 : Vec F S256x1540 .f32) (fh0 : HbBuf0 (F := F) c hbM0_0) : run_A.sl.r_11 c t arg2 harg2 x0 fh0 = d11 x0 (blk fh0 (Ring.bk 16 t.val)) := by
  unfold run_A.sl.r_11 d11; simp only [A_d1, A_d8, A_d9, A_d10, ld_arg]
theorem A_d12 (c : Dev nD) (t : Fin cfg0.N) (arg2 : Memref sig .tc .vmem S256x1540 .f32) (harg2 : arg2.IsWhole) (x0 : Vec F S256x1540 .f32) (fh0 : HbBuf0 (F := F) c hbM0_0) : run_A.sl.r_12 c t arg2 harg2 x0 fh0 = d12 x0 (blk fh0 (Ring.bk 16 t.val)) := by
  unfold run_A.sl.r_12 d12; simp only [A_d1, A_d8, A_d9, A_d10, ld_arg]
theorem A_d13 (c : Dev nD) (t : Fin cfg0.N) (arg2 : Memref sig .tc .vmem S256x1540 .f32) (harg2 : arg2.IsWhole) (x0 : Vec F S256x1540 .f32) (fh0 : HbBuf0 (F := F) c hbM0_0) : run_A.sl.r_13 c t arg2 harg2 x0 fh0 = d13 x0 (blk fh0 (Ring.bk 16 t.val)) := by
  unfold run_A.sl.r_13 d13; simp only [A_d9]
theorem A_d14 (c : Dev nD) (t : Fin cfg0.N) (arg2 : Memref sig .tc .vmem S256x1540 .f32) (harg2 : arg2.IsWhole) (x0 : Vec F S256x1540 .f32) (fh0 : HbBuf0 (F := F) c hbM0_0) : run_A.sl.r_14 c t arg2 harg2 x0 fh0 = d14 x0 (blk fh0 (Ring.bk 16 t.val)) := by
  unfold run_A.sl.r_14 d14; simp only [A_d1, A_d8, A_d9, A_d11, A_d12, A_d13, ld_arg]
theorem A_d15 (c : Dev nD) (t : Fin cfg0.N) (arg2 : Memref sig .tc .vmem S256x1540 .f32) (harg2 : arg2.IsWhole) (x0 : Vec F S256x1540 .f32) (fh0 : HbBuf0 (F := F) c hbM0_0) : run_A.sl.r_15 c t arg2 harg2 x0 fh0 = d15 x0 (blk fh0 (Ring.bk 16 t.val)) := by
  unfold run_A.sl.r_15 d15; simp only [A_d1, A_d8, A_d9, A_d11, A_d13, ld_arg]
theorem A_d16 (c : Dev nD) (t : Fin cfg0.N) (arg2 : Memref sig .tc .vmem S256x1540 .f32) (harg2 : arg2.IsWhole) (x0 : Vec F S256x1540 .f32) (fh0 : HbBuf0 (F := F) c hbM0_0) : run_A.sl.r_16 c t arg2 harg2 x0 fh0 = d16 x0 (blk fh0 (Ring.bk 16 t.val)) := by
  unfold run_A.sl.r_16 d16; simp only [A_d1, A_d8, A_d9, A_d11, A_d13, ld_arg]
theorem A_d17 (c : Dev nD) (t : Fin cfg0.N) (arg2 : Memref sig .tc .vmem S256x1540 .f32) (harg2 : arg2.IsWhole) (x0 : Vec F S256x1540 .f32) (fh0 : HbBuf0 (F := F) c hbM0_0) : run_A.sl.r_17 c t arg2 harg2 x0 fh0 = d17 x0 (blk fh0 (Ring.bk 16 t.val)) := by
  unfold run_A.sl.r_17 d17; simp only [A_d1, A_d8, A_d9, A_d16, ld_arg]
theorem A_d18 (c : Dev nD) (t : Fin cfg0.N) (arg2 : Memref sig .tc .vmem S256x1540 .f32) (harg2 : arg2.IsWhole) (x0 : Vec F S256x1540 .f32) (fh0 : HbBuf0 (F := F) c hbM0_0) : run_A.sl.r_18 c t arg2 harg2 x0 fh0 = d18 x0 (blk fh0 (Ring.bk 16 t.val)) := by
  unfold run_A.sl.r_18 d18; simp only [A_d1, A_d8, A_d9, A_d14, A_d15, A_d16, ld_arg]
theorem A_d19 (c : Dev nD) (t : Fin cfg0.N) (arg2 : Memref sig .tc .vmem S256x1540 .f32) (harg2 : arg2.IsWhole) (x0 : Vec F S256x1540 .f32) (fh0 : HbBuf0 (F := F) c hbM0_0) : run_A.sl.r_19 c t arg2 harg2 x0 fh0 = d19 x0 (blk fh0 (Ring.bk 16 t.val)) := by
  unfold run_A.sl.r_19 d19; simp only [A_d1, A_d8, A_d9, ld_arg]
theorem A_d20 (c : Dev nD) (t : Fin cfg0.N) (arg2 : Memref sig .tc .vmem S256x1540 .f32) (harg2 : arg2.IsWhole) (x0 : Vec F S256x1540 .f32) (fh0 : HbBuf0 (F := F) c hbM0_0) : run_A.sl.r_20 c t arg2 harg2 x0 fh0 = d20 x0 (blk fh0 (Ring.bk 16 t.val)) := by
  unfold run_A.sl.r_20 d20; simp only [A_d1, A_d8, A_d9, A_d16, ld_arg]
theorem A_d21 (c : Dev nD) (t : Fin cfg0.N) (arg2 : Memref sig .tc .vmem S256x1540 .f32) (harg2 : arg2.IsWhole) (x0 : Vec F S256x1540 .f32) (fh0 : HbBuf0 (F := F) c hbM0_0) : run_A.sl.r_21 c t arg2 harg2 x0 fh0 = d21 x0 (blk fh0 (Ring.bk 16 t.val)) := by
  unfold run_A.sl.r_21 d21; simp only [A_d1, A_d8, A_d9, A_d17, A_d19, A_d20, ld_arg]
theorem A_d22 (c : Dev nD) (t : Fin cfg0.N) (arg2 : Memref sig .tc .vmem S256x1540 .f32) (harg2 : arg2.IsWhole) (x0 : Vec F S256x1540 .f32) (fh0 : HbBuf0 (F := F) c hbM0_0) : run_A.sl.r_22 c t arg2 harg2 x0 fh0 = d22 x0 (blk fh0 (Ring.bk 16 t.val)) := by
  unfold run_A.sl.r_22 d22; simp only [A_d1, A_d8, A_d9, A_d17, A_d18, A_d19, A_d20, ld_arg]
theorem A_d23 (c : Dev nD) (t : Fin cfg0.N) (arg2 : Memref sig .tc .vmem S256x1540 .f32) (harg2 : arg2.IsWhole) (x0 : Vec F S256x1540 .f32) (fh0 : HbBuf0 (F := F) c hbM0_0) : run_A.sl.r_23 c t arg2 harg2 x0 fh0 = d23 x0 (blk fh0 (Ring.bk 16 t.val)) := by
  unfold run_A.sl.r_23 d23; simp only [A_d1, A_d8, A_d9, ld_arg]
theorem A_d24 (c : Dev nD) (arg2 : Memref sig .tc .vmem S256x1540 .f32) (harg2 : arg2.IsWhole) (x0 : Vec F S256x1540 .f32)  : run_A.sl.r_24 c arg2 harg2 x0 = d24 x0  := by
  unfold run_A.sl.r_24 d24; simp only [ld_arg]
theorem A_d25 (c : Dev nD) (t : Fin cfg0.N) (arg2 : Memref sig .tc .vmem S256x1540 .f32) (harg2 : arg2.IsWhole) (x0 : Vec F S256x1540 .f32) (fh0 : HbBuf0 (F := F) c hbM0_0) : run_A.sl.r_25 c t arg2 harg2 x0 fh0 = d25 x0 (blk fh0 (Ring.bk 16 t.val)) := by
  unfold run_A.sl.r_25 d25; simp only [A_d1, A_d8, A_d9, A_d21, A_d23, A_d24, ld_arg]
theorem A_d26 (c : Dev nD) (t : Fin cfg0.N) (arg2 : Memref sig .tc .vmem S256x1540 .f32) (harg2 : arg2.IsWhole) (x0 : Vec F S256x1540 .f32) (fh0 : HbBuf0 (F := F) c hbM0_0) : run_A.sl.r_26 c t arg2 harg2 x0 fh0 = d26 x0 (blk fh0 (Ring.bk 16 t.val)) := by
  unfold run_A.sl.r_26 d26; simp only [A_d1, A_d8, A_d9, A_d21, A_d22, A_d23, A_d24, ld_arg]
theorem A_d27 (c : Dev nD) (t : Fin cfg0.N) (arg2 : Memref sig .tc .vmem S256x1540 .f32) (harg2 : arg2.IsWhole) (x0 : Vec F S256x1540 .f32) (fh0 : HbBuf0 (F := F) c hbM0_0) : run_A.sl.r_27 c t arg2 harg2 x0 fh0 = d27 x0 (blk fh0 (Ring.bk 16 t.val)) := by
  unfold run_A.sl.r_27 d27; simp only [A_d1, A_d8, A_d9, ld_arg]
theorem A_d28 (c : Dev nD) (t : Fin cfg0.N) (arg2 : Memref sig .tc .vmem S256x1540 .f32) (harg2 : arg2.IsWhole) (x0 : Vec F S256x1540 .f32) (fh0 : HbBuf0 (F := F) c hbM0_0) : run_A.sl.r_28 c t arg2 harg2 x0 fh0 = d28 x0 (blk fh0 (Ring.bk 16 t.val)) := by
  unfold run_A.sl.r_28 d28; simp only [A_d1, A_d8, A_d9, A_d25, A_d26, A_d27, ld_arg]
theorem A_d29 (c : Dev nD) (t : Fin cfg0.N) (arg2 : Memref sig .tc .vmem S256x1540 .f32) (harg2 : arg2.IsWhole) (x0 : Vec F S256x1540 .f32) (fh0 : HbBuf0 (F := F) c hbM0_0) : run_A.sl.r_29 c t arg2 harg2 x0 fh0 = d29 x0 (blk fh0 (Ring.bk 16 t.val)) := by
  unfold run_A.sl.r_29 d29; simp only [A_d1, A_d8, A_d9, A_d25, A_d26, A_d27, ld_arg]
theorem A_d30 (c : Dev nD) (t : Fin cfg0.N) (arg2 : Memref sig .tc .vmem S256x1540 .f32) (harg2 : arg2.IsWhole) (x0 : Vec F S256x1540 .f32) (fh0 : HbBuf0 (F := F) c hbM0_0) : run_A.sl.r_30 c t arg2 harg2 x0 fh0 = d30 x0 (blk fh0 (Ring.bk 16 t.val)) := by
  unfold run_A.sl.r_30 d30; simp only [A_d1, A_d8, A_d9, A_d25, A_d26, A_d27, ld_arg]
theorem A_d31 (c : Dev nD) (t : Fin cfg0.N) (arg2 : Memref sig .tc .vmem S256x1540 .f32) (harg2 : arg2.IsWhole) (x0 : Vec F S256x1540 .f32) (fh0 : HbBuf0 (F := F) c hbM0_0) : run_A.sl.r_31 c t arg2 harg2 x0 fh0 = d31 x0 (blk fh0 (Ring.bk 16 t.val)) := by
  unfold run_A.sl.r_31 d31; simp only [A_d1, A_d8, A_d9, A_d25, A_d26, A_d27, ld_arg]
theorem A_d32 (c : Dev nD) (t : Fin cfg0.N) (arg2 : Memref sig .tc .vmem S256x1540 .f32) (harg2 : arg2.IsWhole) (x0 : Vec F S256x1540 .f32) (fh0 : HbBuf0 (F := F) c hbM0_0) : run_A.sl.r_32 c t arg2 harg2 x0 fh0 = d32 x0 (blk fh0 (Ring.bk 16 t.val)) := by
  unfold run_A.sl.r_32 d32; simp only [A_d28, A_d29, A_d31, ld_arg]
theorem A_d33 (c : Dev nD) (t : Fin cfg0.N) (arg2 : Memref sig .tc .vmem S256x1540 .f32) (harg2 : arg2.IsWhole) (x0 : Vec F S256x1540 .f32) (fh0 : HbBuf0 (F := F) c hbM0_0) : run_A.sl.r_33 c t arg2 harg2 x0 fh0 = d33 x0 (blk fh0 (Ring.bk 16 t.val)) := by
  unfold run_A.sl.r_33 d33; simp only [A_d28, A_d30, A_d31, ld_arg]
theorem A_d34 (c : Dev nD) (t : Fin cfg0.N) (arg2 : Memref sig .tc .vmem S256x1540 .f32) (harg2 : arg2.IsWhole) (x0 : Vec F S256x1540 .f32) (fh0 : HbBuf0 (F := F) c hbM0_0) : run_A.sl.r_34 c t arg2 harg2 x0 fh0 = d34 x0 (blk fh0 (Ring.bk 16 t.val)) := by
  unfold run_A.sl.r_34 d34; simp only [A_d28]
theorem A_d35 (c : Dev nD) (t : Fin cfg0.N) (arg2 : Memref sig .tc .vmem S256x1540 .f32) (harg2 : arg2.IsWhole) (x0 : Vec F S256x1540 .f32) (fh0 : HbBuf0 (F := F) c hbM0_0) : run_A.sl.r_35 c t arg2 harg2 x0 fh0 = d35 x0 (blk fh0 (Ring.bk 16 t.val)) := by
  unfold run_A.sl.r_35 d35; simp only [A_d28, A_d32, A_d34, ld_arg]
theorem A_d36 (c : Dev nD) (t : Fin cfg0.N) (arg2 : Memref sig .tc .vmem S256x1540 .f32) (harg2 : arg2.IsWhole) (x0 : Vec F S256x1540 .f32) (fh0 : HbBuf0 (F := F) c hbM0_0) : run_A.sl.r_36 c t arg2 harg2 x0 fh0 = d36 x0 (blk fh0 (Ring.bk 16 t.val)) := by
  unfold run_A.sl.r_36 d36; simp only [A_d28, A_d33, A_d34, ld_arg]
theorem A_d37 (c : Dev nD) (t : Fin cfg0.N) (arg2 : Memref sig .tc .vmem S256x1540 .f32) (harg2 : arg2.IsWhole) (x0 : Vec F S256x1540 .f32) (fh0 : HbBuf0 (F := F) c hbM0_0) : run_A.sl.r_37 c t arg2 harg2 x0 fh0 = d37 x0 (blk fh0 (Ring.bk 16 t.val)) := by
  unfold run_A.sl.r_37 d37; simp only [A_d28]
theorem A_d38 (c : Dev nD) (t : Fin cfg0.N) (arg2 : Memref sig .tc .vmem S256x1540 .f32) (harg2 : arg2.IsWhole) (x0 : Vec F S256x1540 .f32) (fh0 : HbBuf0 (F := F) c hbM0_0) : run_A.sl.r_38 c t arg2 harg2 x0 fh0 = d38 x0 (blk fh0 (Ring.bk 16 t.val)) := by
  unfold run_A.sl.r_38 d38; simp only [A_d28, A_d35, A_d37, ld_arg]
theorem A_d39 (c : Dev nD) (t : Fin cfg0.N) (arg2 : Memref sig .tc .vmem S256x1540 .f32) (harg2 : arg2.IsWhole) (x0 : Vec F S256x1540 .f32) (fh0 : HbBuf0 (F := F) c hbM0_0) : run_A.sl.r_39 c t arg2 harg2 x0 fh0 = d39 x0 (blk fh0 (Ring.bk 16 t.val)) := by
  unfold run_A.sl.r_39 d39; simp only [A_d28, A_d36, A_d37, ld_arg]
theorem A_d40 (c : Dev nD) (t : Fin cfg0.N) (arg2 : Memref sig .tc .vmem S256x1540 .f32) (harg2 : arg2.IsWhole) (x0 : Vec F S256x1540 .f32) (fh0 : HbBuf0 (F := F) c hbM0_0) : run_A.sl.r_40 c t arg2 harg2 x0 fh0 = d40 x0 (blk fh0 (Ring.bk 16 t.val)) := by
  unfold run_A.sl.r_40 d40; simp only [A_d28]
theorem A_d41 (c : Dev nD) (t : Fin cfg0.N) (arg2 : Memref sig .tc .vmem S256x1540 .f32) (harg2 : arg2.IsWhole) (x0 : Vec F S256x1540 .f32) (fh0 : HbBuf0 (F := F) c hbM0_0) : run_A.sl.r_41 c t arg2 harg2 x0 fh0 = d41 x0 (blk fh0 (Ring.bk 16 t.val)) := by
  unfold run_A.sl.r_41 d41; simp only [A_d28, A_d38, A_d40, ld_arg]
theorem A_d42 (c : Dev nD) (t : Fin cfg0.N) (arg2 : Memref sig .tc .vmem S256x1540 .f32) (harg2 : arg2.IsWhole) (x0 : Vec F S256x1540 .f32) (fh0 : HbBuf0 (F := F) c hbM0_0) : run_A.sl.r_42 c t arg2 harg2 x0 fh0 = d42 x0 (blk fh0 (Ring.bk 16 t.val)) := by
  unfold run_A.sl.r_42 d42; simp only [A_d28, A_d39, A_d40, ld_arg]
theorem A_out1 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : cond0_0 (grid0.coords t)) (hc1 : cond0_1 (grid0.coords t)) (x0 : Vec F S256x1540 .f32) (fh0 : HbBuf0 (F := F) c hbM0_0) :
    (run_A c t arg2 harg2 arg3 harg3 arg4 harg4 arg5 harg5 arg6 harg6 arg7 harg7 arg8 harg8 arg9 harg9 hc0 hc1 x0 fh0).1 = [⟨Rect.unit (s := S1x1536x128) ![0, 0, 0] S1x1536x128.size Gen.inb_S1x1536x128_S1x1536x128_0_0_0, res1 x0 (blk fh0 (Ring.bk 16 t.val))⟩] := by
  unfold run_A res1; dsimp only; simp only [A_d0, A_d1, A_d8, A_d28, A_d38, A_d39, A_d40, ld_arg]
theorem A_out2 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : cond0_0 (grid0.coords t)) (hc1 : cond0_1 (grid0.coords t)) (x0 : Vec F S256x1540 .f32) (fh0 : HbBuf0 (F := F) c hbM0_0) :
    (run_A c t arg2 harg2 arg3 harg3 arg4 harg4 arg5 harg5 arg6 harg6 arg7 harg7 arg8 harg8 arg9 harg9 hc0 hc1 x0 fh0).2.1 = [⟨Rect.unit (s := S1x16x128) ![0, 0, 0] S1x16x128.size Gen.inb_S1x16x128_S1x16x128_0_0_0, res2 x0 (blk fh0 (Ring.bk 16 t.val))⟩] := by
  unfold run_A res2; dsimp only; simp only [A_d6]
theorem A_out3 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : cond0_0 (grid0.coords t)) (hc1 : cond0_1 (grid0.coords t)) (x0 : Vec F S256x1540 .f32) (fh0 : HbBuf0 (F := F) c hbM0_0) :
    (run_A c t arg2 harg2 arg3 harg3 arg4 harg4 arg5 harg5 arg6 harg6 arg7 harg7 arg8 harg8 arg9 harg9 hc0 hc1 x0 fh0).2.2.1 = [⟨Rect.unit (s := S1x16x128) ![0, 0, 0] S1x16x128.size Gen.inb_S1x16x128_S1x16x128_0_0_0, res3 x0 (blk fh0 (Ring.bk 16 t.val))⟩] := by
  unfold run_A res3; dsimp only; simp only [A_d7]
theorem A_out4 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : cond0_0 (grid0.coords t)) (hc1 : cond0_1 (grid0.coords t)) (x0 : Vec F S256x1540 .f32) (fh0 : HbBuf0 (F := F) c hbM0_0) :
    (run_A c t arg2 harg2 arg3 harg3 arg4 harg4 arg5 harg5 arg6 harg6 arg7 harg7 arg8 harg8 arg9 harg9 hc0 hc1 x0 fh0).2.2.2.1 = [⟨Rect.unit (s := S1x16x128) ![0, 0, 0] S1x16x128.size Gen.inb_S1x16x128_S1x16x128_0_0_0, res4 x0 (blk fh0 (Ring.bk 16 t.val))⟩] := by
  unfold run_A res4; dsimp only; simp only [A_d41]
theorem A_out5 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : cond0_0 (grid0.coords t)) (hc1 : cond0_1 (grid0.coords t)) (x0 : Vec F S256x1540 .f32) (fh0 : HbBuf0 (F := F) c hbM0_0) :
    (run_A c t arg2 harg2 arg3 harg3 arg4 harg4 arg5 harg5 arg6 harg6 arg7 harg7 arg8 harg8 arg9 harg9 hc0 hc1 x0 fh0).2.2.2.2.1 = [⟨Rect.unit (s := S1x16x128) ![0, 0, 0] S1x16x128.size Gen.inb_S1x16x128_S1x16x128_0_0_0, res5 x0 (blk fh0 (Ring.bk 16 t.val))⟩] := by
  unfold run_A res5; dsimp only; simp only [A_d42]
theorem A_out6 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : cond0_0 (grid0.coords t)) (hc1 : cond0_1 (grid0.coords t)) (x0 : Vec F S256x1540 .f32) (fh0 : HbBuf0 (F := F) c hbM0_0) :
    (run_A c t arg2 harg2 arg3 harg3 arg4 harg4 arg5 harg5 arg6 harg6 arg7 harg7 arg8 harg8 arg9 harg9 hc0 hc1 x0 fh0).2.2.2.2.2.1 = [⟨Rect.unit (s := S1x1x1) ![0, 0, 0] S1x1x1.size Gen.inb_S1x1x1_S1x1x1_0_0_0, res6 x0 (blk fh0 (Ring.bk 16 t.val))⟩] := by
  unfold run_A res6; dsimp only; simp only [A_d3]
theorem A_out7 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : cond0_0 (grid0.coords t)) (hc1 : cond0_1 (grid0.coords t)) (x0 : Vec F S256x1540 .f32) (fh0 : HbBuf0 (F := F) c hbM0_0) :
    (run_A c t arg2 harg2 arg3 harg3 arg4 harg4 arg5 harg5 arg6 harg6 arg7 harg7 arg8 harg8 arg9 harg9 hc0 hc1 x0 fh0).2.2.2.2.2.2.1 = [⟨Rect.unit (s := S1x1x1) ![0, 0, 0] S1x1x1.size Gen.inb_S1x1x1_S1x1x1_0_0_0, res7 x0 (blk fh0 (Ring.bk 16 t.val))⟩] := by
  unfold run_A res7; dsimp only; simp only [A_d5]

end Cert.KernelIdeal.Ring3
-- ==== Proof.RunB3.lean ====
/- The body run at a middle point: the block two ahead is started, this one is waited for. -/
module

public import proofs.«01_k».proof.Proof.Ring3

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- What the body leaves in each output's buffer, as the list of its stores, with the proof that it runs. -/
noncomputable def run_B (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : cond0_1 (grid0.coords t))
    (x0 : Vec F S256x1540 .f32) (fh0 : HbBuf0 (F := F) c hbM0_0) :
    Σ' (L1 : List (View.Piece (Elt F) S1x1536x128 .f32)), Σ' (L2 : List (View.Piece (Elt F) S1x16x128 .f32)), Σ' (L3 : List (View.Piece (Elt F) S1x16x128 .f32)), Σ' (L4 : List (View.Piece (Elt F) S1x16x128 .f32)), Σ' (L5 : List (View.Piece (Elt F) S1x16x128 .f32)), Σ' (L6 : List (View.Piece (Elt F) S1x1x1 .f32)), { L7 : List (View.Piece (Elt F) S1x1x1 .f32) //
      ∀ (W : Waits sig Unit) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ Ring.inflight (flightW c fh0) (Ring.sl 3 t.val) (Ring.bk 16 t.val) ∗ Ring.inflight (flightW c fh0) (Ring.sl 3 (t.val + 1)) (Ring.bk 16 (t.val + 1)) ∗ Ring.free (cellP c) (slotW c fh0) (Ring.sl 3 (t.val + 2)) ∗ owes (c : Thread nD τ) 0 W
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ Ring.inflight (flightW c fh0) (Ring.sl 3 (t.val + 1)) (Ring.bk 16 (t.val + 1)) ∗ Ring.inflight (flightW c fh0) (Ring.sl 3 (t.val + 2)) (Ring.bk 16 (t.val + 2)) ∗ Ring.free (cellP c) (slotW c fh0) (Ring.sl 3 t.val) ∗ (∃ W', owes (c : Thread nD τ) 0 W')) -∗ K ⟨⟩))
          ⊢ wp frame (wpE (defs₀ (F := F)) Variants.none c none) Set.univ (cc0__body (grid0.coords t) (Memref.whole main_v0) (Memref.isWhole_whole _) arg2 harg2 arg3 harg3 arg4 harg4 arg5 harg5 arg6 harg6 arg7 harg7 arg8 harg8 arg9 harg9 scM0_0 (Memref.isWhole_whole _) cc0_scratch1) K } := by
  refine ⟨?_, ?_, ?_, ?_, ?_, ?_, ?_, fun W K => ?run⟩
  case run =>
    haveI : Fact (¬cond0_0 (grid0.coords t)) := ⟨hc0⟩
    haveI : Fact (cond0_1 (grid0.coords t)) := ⟨hc1⟩
    have hslot : ∀ h, ((Memref.whole cc0_scratch0 : Memref sig .tc .vmem S3x1536x128 .f32).access (Rect.unit (s := S3x1536x128) (k0_off25 (grid0.coords t)) S1x1536x128.size h)).set ⊆ (rslot (Ring.sl 3 t.val)).view.set := fun h =>
      load_sub t h
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns Ring.free Ring.inflight
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%ff0, ⟨Hf00, Hf01, Hf02, Hf03⟩, Hq00, Hq01, Hq02, Hq03⟩, ⟨%ff1, ⟨Hf10, Hf11, Hf12, Hf13⟩, Hq10, Hq11, Hq12, Hq13⟩, ⟨⟨Hc20, Hc21, Hc22, Hc23⟩, ⟨%fs2, ⟨Hs20, Hs21, Hs22, Hs23⟩, Hw20, Hw21, Hw22, Hw23⟩⟩, HW, Hk⟩
    ihave G := (src_0_split c fh0 (Ring.sl 3 (t.val + 2)) (Ring.bk 16 (t.val + 2))).1 $$ Hw20
    icases G with ⟨Hh20, Hr20⟩
    ihave G := (src_1_split c fh0 (Ring.sl 3 (t.val + 2)) (Ring.bk 16 (t.val + 2))).1 $$ Hw21
    icases G with ⟨Hh21, Hr21⟩
    ihave G := (src_2_split c fh0 (Ring.sl 3 (t.val + 2)) (Ring.bk 16 (t.val + 2))).1 $$ Hw22
    icases G with ⟨Hh22, Hr22⟩
    ihave G := (src_3_split c fh0 (Ring.sl 3 (t.val + 2)) (Ring.bk 16 (t.val + 2))).1 $$ Hw23
    icases G with ⟨Hh23, Hr23⟩
    obtain rfl := harg2.eq_unread hf0
    sl_exec (disch := first | sl_exact hc0 | sl_exact hc1)
    ihave HL := (slot_of_landed c fh0 (Ring.sl 3 t.val) (Ring.bk 16 t.val) ff0) $$ [Hf00_dst Hf01_dst Hf02_dst Hf03_dst]
    · isplitl [Hf00_dst]; · iexact Hf00_dst
      isplitl [Hf01_dst]; · iexact Hf01_dst
      isplitl [Hf02_dst]; · iexact Hf02_dst
      iexact Hf03_dst
    sl_exec (disch := first | sl_exact hc0 | sl_exact hc1)
    sl_step
    ihave HP := (slot_parts c (Ring.sl 3 t.val) (slotL c fh0 (Ring.bk 16 t.val))).1 $$ HL
    icases HP with ⟨P0, P1, P2, P3⟩
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hf10 Hf11 Hf12 Hf13 Hq10 Hq11 Hq12 Hq13]
    · iexists ff1; isplitl [Hf10 Hf11 Hf12 Hf13]
      · isplitl [Hf10]; · iexact Hf10
        isplitl [Hf11]; · iexact Hf11
        isplitl [Hf12]; · iexact Hf12
        iexact Hf13
      isplitl [Hq10]; · iexact Hq10
      isplitl [Hq11]; · iexact Hq11
      isplitl [Hq12]; · iexact Hq12
      iexact Hq13
    isplitl [Hc20 Hc21 Hc22 Hc23 Hr20 Hr21 Hr22 Hr23]
    · iexists fs2; isplitl [Hc20 Hc21 Hc22 Hc23]
      · isplitl [Hc20]; · iexact Hc20
        isplitl [Hc21]; · iexact Hc21
        isplitl [Hc22]; · iexact Hc22
        iexact Hc23
      isplitl [Hr20]; · iexact Hr20
      isplitl [Hr21]; · iexact Hr21
      isplitl [Hr22]; · iexact Hr22
      iexact Hr23
    isplitl [Hf00 Hf01 Hf02 Hf03 P0 P1 P2 P3 Hf00_src Hf01_src Hf02_src Hf03_src Hq00 Hq01 Hq02 Hq03]
    · isplitl [Hf00 Hf01 Hf02 Hf03]
      · isplitl [Hf00]; · iexact Hf00
        isplitl [Hf01]; · iexact Hf01
        isplitl [Hf02]; · iexact Hf02
        iexact Hf03
      iexists (fun _ => slotL c fh0 (Ring.bk 16 t.val)); isplitl [P0 P1 P2 P3]
      · isplitl [P0]; · iexact P0
        isplitl [P1]; · iexact P1
        isplitl [P2]; · iexact P2
        iexact P3
      isplitl [Hf00_src Hq00]
      · iapply (src_0_split c fh0 (Ring.sl 3 t.val) (Ring.bk 16 t.val)).2; isplitl [Hf00_src]; · iexact Hf00_src
        iexact Hq00
      isplitl [Hf01_src Hq01]
      · iapply (src_1_split c fh0 (Ring.sl 3 t.val) (Ring.bk 16 t.val)).2; isplitl [Hf01_src]; · iexact Hf01_src
        iexact Hq01
      isplitl [Hf02_src Hq02]
      · iapply (src_2_split c fh0 (Ring.sl 3 t.val) (Ring.bk 16 t.val)).2; isplitl [Hf02_src]; · iexact Hf02_src
        iexact Hq02
      iapply (src_3_split c fh0 (Ring.sl 3 t.val) (Ring.bk 16 t.val)).2; isplitl [Hf03_src]; · iexact Hf03_src
      iexact Hq03
    iexists _; iexact HW

end Cert.KernelIdeal.Ring3
-- ==== Proof.ResB3.lean ====
/- What the stores of this run hold, by the point's chain of values. -/
module

public import proofs.«01_k».proof.Proof.RunB3
public import proofs.«01_k».proof.Proof.Res3

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem B_v52 (c : Dev nD) (t : Fin cfg0.N) (fh0 : HbBuf0 (F := F) c hbM0_0) : run_B.sl.v52 c t fh0 = blk fh0 (Ring.bk 16 t.val) := load_blk c t fh0 _
theorem B_d0 (c : Dev nD) (t : Fin cfg0.N) (fh0 : HbBuf0 (F := F) c hbM0_0) : run_B.sl.r c t fh0 = d0 (blk fh0 (Ring.bk 16 t.val)) := by
  unfold run_B.sl.r d0; simp only [B_v52]
theorem B_d1 (c : Dev nD) (t : Fin cfg0.N) (fh0 : HbBuf0 (F := F) c hbM0_0) : run_B.sl.r_1 c t fh0 = d1 (blk fh0 (Ring.bk 16 t.val)) := by
  unfold run_B.sl.r_1 d1; simp only [B_v52]
theorem B_d2 (c : Dev nD) (t : Fin cfg0.N) (fh0 : HbBuf0 (F := F) c hbM0_0) : run_B.sl.r_2 c t fh0 = d2 (blk fh0 (Ring.bk 16 t.val)) := by
  unfold run_B.sl.r_2 d2; simp only [B_v52]
theorem B_d3 (c : Dev nD) (t : Fin cfg0.N) (fh0 : HbBuf0 (F := F) c hbM0_0) : run_B.sl.r_3 c t fh0 = d3 (blk fh0 (Ring.bk 16 t.val)) := by
  unfold run_B.sl.r_3 d3; simp only [B_v52]
theorem B_d4 (c : Dev nD) (t : Fin cfg0.N) (fh0 : HbBuf0 (F := F) c hbM0_0) : run_B.sl.r_4 c t fh0 = d4 (blk fh0 (Ring.bk 16 t.val)) := by
  unfold run_B.sl.r_4 d4; simp only [B_v52]
theorem B_d5 (c : Dev nD) (t : Fin cfg0.N) (fh0 : HbBuf0 (F := F) c hbM0_0) : run_B.sl.r_5 c t fh0 = d5 (blk fh0 (Ring.bk 16 t.val)) := by
  unfold run_B.sl.r_5 d5; simp only [B_d3, B_d4]
theorem B_d6 (c : Dev nD) (t : Fin cfg0.N) (fh0 : HbBuf0 (F := F) c hbM0_0) : run_B.sl.r_6 c t fh0 = d6 (blk fh0 (Ring.bk 16 t.val)) := by
  unfold run_B.sl.r_6 d6; simp only [B_d1, B_d3, B_d4]
theorem B_d7 (c : Dev nD) (t : Fin cfg0.N) (fh0 : HbBuf0 (F := F) c hbM0_0) : run_B.sl.r_7 c t fh0 = d7 (blk fh0 (Ring.bk 16 t.val)) := by
  unfold run_B.sl.r_7 d7; simp only [B_d1, B_d2, B_d3, B_d4]
theorem B_d8 (c : Dev nD) (t : Fin cfg0.N) (fh0 : HbBuf0 (F := F) c hbM0_0) : run_B.sl.r_8 c t fh0 = d8 (blk fh0 (Ring.bk 16 t.val)) := by
  unfold run_B.sl.r_8 d8; simp only [B_d1, B_d2, B_d3, B_d4]
theorem B_d9 (c : Dev nD) (t : Fin cfg0.N) (arg2 : Memref sig .tc .vmem S256x1540 .f32) (harg2 : arg2.IsWhole) (x0 : Vec F S256x1540 .f32) (fh0 : HbBuf0 (F := F) c hbM0_0) : run_B.sl.r_9 c t arg2 harg2 x0 fh0 = d9 x0 (blk fh0 (Ring.bk 16 t.val)) := by
  unfold run_B.sl.r_9 d9; simp only [B_v52, ld_arg]
theorem B_d10 (c : Dev nD) (t : Fin cfg0.N) (arg2 : Memref sig .tc .vmem S256x1540 .f32) (harg2 : arg2.IsWhole) (x0 : Vec F S256x1540 .f32) (fh0 : HbBuf0 (F := F) c hbM0_0) : run_B.sl.r_10 c t arg2 harg2 x0 fh0 = d10 x0 (blk fh0 (Ring.bk 16 t.val)) := by
  unfold run_B.sl.r_10 d10; simp only [B_v52, ld_arg]
theorem B_d11 (c : Dev nD) (t : Fin cfg0.N) (arg2 : Memref sig .tc .vmem S256x1540 .f32) (harg2 : arg2.IsWhole) (x0 : Vec F S256x1540 .f32) (fh0 : HbBuf0 (F := F) c hbM0_0) : run_B.sl.r_11 c t arg2 harg2 x0 fh0 = d11 x0 (blk fh0 (Ring.bk 16 t.val)) := by
  unfold run_B.sl.r_11 d11; simp only [B_d1, B_d8, B_d9, B_d10, ld_arg]
theorem B_d12 (c : Dev nD) (t : Fin cfg0.N) (arg2 : Memref sig .tc .vmem S256x1540 .f32) (harg2 : arg2.IsWhole) (x0 : Vec F S256x1540 .f32) (fh0 : HbBuf0 (F := F) c hbM0_0) : run_B.sl.r_12 c t arg2 harg2 x0 fh0 = d12 x0 (blk fh0 (Ring.bk 16 t.val)) := by
  unfold run_B.sl.r_12 d12; simp only [B_d1, B_d8, B_d9, B_d10, ld_arg]
theorem B_d13 (c : Dev nD) (t : Fin cfg0.N) (arg2 : Memref sig .tc .vmem S256x1540 .f32) (harg2 : arg2.IsWhole) (x0 : Vec F S256x1540 .f32) (fh0 : HbBuf0 (F := F) c hbM0_0) : run_B.sl.r_13 c t arg2 harg2 x0 fh0 = d13 x0 (blk fh0 (Ring.bk 16 t.val)) := by
  unfold run_B.sl.r_13 d13; simp only [B_d9]
theorem B_d14 (c : Dev nD) (t : Fin cfg0.N) (arg2 : Memref sig .tc .vmem S256x1540 .f32) (harg2 : arg2.IsWhole) (x0 : Vec F S256x1540 .f32) (fh0 : HbBuf0 (F := F) c hbM0_0) : run_B.sl.r_14 c t arg2 harg2 x0 fh0 = d14 x0 (blk fh0 (Ring.bk 16 t.val)) := by
  unfold run_B.sl.r_14 d14; simp only [B_d1, B_d8, B_d9, B_d11, B_d12, B_d13, ld_arg]
theorem B_d15 (c : Dev nD) (t : Fin cfg0.N) (arg2 : Memref sig .tc .vmem S256x1540 .f32) (harg2 : arg2.IsWhole) (x0 : Vec F S256x1540 .f32) (fh0 : HbBuf0 (F := F) c hbM0_0) : run_B.sl.r_15 c t arg2 harg2 x0 fh0 = d15 x0 (blk fh0 (Ring.bk 16 t.val)) := by
  unfold run_B.sl.r_15 d15; simp only [B_d1, B_d8, B_d9, B_d11, B_d13, ld_arg]
theorem B_d16 (c : Dev nD) (t : Fin cfg0.N) (arg2 : Memref sig .tc .vmem S256x1540 .f32) (harg2 : arg2.IsWhole) (x0 : Vec F S256x1540 .f32) (fh0 : HbBuf0 (F := F) c hbM0_0) : run_B.sl.r_16 c t arg2 harg2 x0 fh0 = d16 x0 (blk fh0 (Ring.bk 16 t.val)) := by
  unfold run_B.sl.r_16 d16; simp only [B_d1, B_d8, B_d9, B_d11, B_d13, ld_arg]
theorem B_d17 (c : Dev nD) (t : Fin cfg0.N) (arg2 : Memref sig .tc .vmem S256x1540 .f32) (harg2 : arg2.IsWhole) (x0 : Vec F S256x1540 .f32) (fh0 : HbBuf0 (F := F) c hbM0_0) : run_B.sl.r_17 c t arg2 harg2 x0 fh0 = d17 x0 (blk fh0 (Ring.bk 16 t.val)) := by
  unfold run_B.sl.r_17 d17; simp only [B_d1, B_d8, B_d9, B_d16, ld_arg]
theorem B_d18 (c : Dev nD) (t : Fin cfg0.N) (arg2 : Memref sig .tc .vmem S256x1540 .f32) (harg2 : arg2.IsWhole) (x0 : Vec F S256x1540 .f32) (fh0 : HbBuf0 (F := F) c hbM0_0) : run_B.sl.r_18 c t arg2 harg2 x0 fh0 = d18 x0 (blk fh0 (Ring.bk 16 t.val)) := by
  unfold run_B.sl.r_18 d18; simp only [B_d1, B_d8, B_d9, B_d14, B_d15, B_d16, ld_arg]
theorem B_d19 (c : Dev nD) (t : Fin cfg0.N) (arg2 : Memref sig .tc .vmem S256x1540 .f32) (harg2 : arg2.IsWhole) (x0 : Vec F S256x1540 .f32) (fh0 : HbBuf0 (F := F) c hbM0_0) : run_B.sl.r_19 c t arg2 harg2 x0 fh0 = d19 x0 (blk fh0 (Ring.bk 16 t.val)) := by
  unfold run_B.sl.r_19 d19; simp only [B_d1, B_d8, B_d9, ld_arg]
theorem B_d20 (c : Dev nD) (t : Fin cfg0.N) (arg2 : Memref sig .tc .vmem S256x1540 .f32) (harg2 : arg2.IsWhole) (x0 : Vec F S256x1540 .f32) (fh0 : HbBuf0 (F := F) c hbM0_0) : run_B.sl.r_20 c t arg2 harg2 x0 fh0 = d20 x0 (blk fh0 (Ring.bk 16 t.val)) := by
  unfold run_B.sl.r_20 d20; simp only [B_d1, B_d8, B_d9, B_d16, ld_arg]
theorem B_d21 (c : Dev nD) (t : Fin cfg0.N) (arg2 : Memref sig .tc .vmem S256x1540 .f32) (harg2 : arg2.IsWhole) (x0 : Vec F S256x1540 .f32) (fh0 : HbBuf0 (F := F) c hbM0_0) : run_B.sl.r_21 c t arg2 harg2 x0 fh0 = d21 x0 (blk fh0 (Ring.bk 16 t.val)) := by
  unfold run_B.sl.r_21 d21; simp only [B_d1, B_d8, B_d9, B_d17, B_d19, B_d20, ld_arg]
theorem B_d22 (c : Dev nD) (t : Fin cfg0.N) (arg2 : Memref sig .tc .vmem S256x1540 .f32) (harg2 : arg2.IsWhole) (x0 : Vec F S256x1540 .f32) (fh0 : HbBuf0 (F := F) c hbM0_0) : run_B.sl.r_22 c t arg2 harg2 x0 fh0 = d22 x0 (blk fh0 (Ring.bk 16 t.val)) := by
  unfold run_B.sl.r_22 d22; simp only [B_d1, B_d8, B_d9, B_d17, B_d18, B_d19, B_d20, ld_arg]
theorem B_d23 (c : Dev nD) (t : Fin cfg0.N) (arg2 : Memref sig .tc .vmem S256x1540 .f32) (harg2 : arg2.IsWhole) (x0 : Vec F S256x1540 .f32) (fh0 : HbBuf0 (F := F) c hbM0_0) : run_B.sl.r_23 c t arg2 harg2 x0 fh0 = d23 x0 (blk fh0 (Ring.bk 16 t.val)) := by
  unfold run_B.sl.r_23 d23; simp only [B_d1, B_d8, B_d9, ld_arg]
theorem B_d24 (c : Dev nD) (arg2 : Memref sig .tc .vmem S256x1540 .f32) (harg2 : arg2.IsWhole) (x0 : Vec F S256x1540 .f32)  : run_B.sl.r_24 c arg2 harg2 x0 = d24 x0  := by
  unfold run_B.sl.r_24 d24; simp only [ld_arg]
theorem B_d25 (c : Dev nD) (t : Fin cfg0.N) (arg2 : Memref sig .tc .vmem S256x1540 .f32) (harg2 : arg2.IsWhole) (x0 : Vec F S256x1540 .f32) (fh0 : HbBuf0 (F := F) c hbM0_0) : run_B.sl.r_25 c t arg2 harg2 x0 fh0 = d25 x0 (blk fh0 (Ring.bk 16 t.val)) := by
  unfold run_B.sl.r_25 d25; simp only [B_d1, B_d8, B_d9, B_d21, B_d23, B_d24, ld_arg]
theorem B_d26 (c : Dev nD) (t : Fin cfg0.N) (arg2 : Memref sig .tc .vmem S256x1540 .f32) (harg2 : arg2.IsWhole) (x0 : Vec F S256x1540 .f32) (fh0 : HbBuf0 (F := F) c hbM0_0) : run_B.sl.r_26 c t arg2 harg2 x0 fh0 = d26 x0 (blk fh0 (Ring.bk 16 t.val)) := by
  unfold run_B.sl.r_26 d26; simp only [B_d1, B_d8, B_d9, B_d21, B_d22, B_d23, B_d24, ld_arg]
theorem B_d27 (c : Dev nD) (t : Fin cfg0.N) (arg2 : Memref sig .tc .vmem S256x1540 .f32) (harg2 : arg2.IsWhole) (x0 : Vec F S256x1540 .f32) (fh0 : HbBuf0 (F := F) c hbM0_0) : run_B.sl.r_27 c t arg2 harg2 x0 fh0 = d27 x0 (blk fh0 (Ring.bk 16 t.val)) := by
  unfold run_B.sl.r_27 d27; simp only [B_d1, B_d8, B_d9, ld_arg]
theorem B_d28 (c : Dev nD) (t : Fin cfg0.N) (arg2 : Memref sig .tc .vmem S256x1540 .f32) (harg2 : arg2.IsWhole) (x0 : Vec F S256x1540 .f32) (fh0 : HbBuf0 (F := F) c hbM0_0) : run_B.sl.r_28 c t arg2 harg2 x0 fh0 = d28 x0 (blk fh0 (Ring.bk 16 t.val)) := by
  unfold run_B.sl.r_28 d28; simp only [B_d1, B_d8, B_d9, B_d25, B_d26, B_d27, ld_arg]
theorem B_d29 (c : Dev nD) (t : Fin cfg0.N) (arg2 : Memref sig .tc .vmem S256x1540 .f32) (harg2 : arg2.IsWhole) (x0 : Vec F S256x1540 .f32) (fh0 : HbBuf0 (F := F) c hbM0_0) : run_B.sl.r_29 c t arg2 harg2 x0 fh0 = d29 x0 (blk fh0 (Ring.bk 16 t.val)) := by
  unfold run_B.sl.r_29 d29; simp only [B_d1, B_d8, B_d9, B_d25, B_d26, B_d27, ld_arg]
theorem B_d30 (c : Dev nD) (t : Fin cfg0.N) (arg2 : Memref sig .tc .vmem S256x1540 .f32) (harg2 : arg2.IsWhole) (x0 : Vec F S256x1540 .f32) (fh0 : HbBuf0 (F := F) c hbM0_0) : run_B.sl.r_30 c t arg2 harg2 x0 fh0 = d30 x0 (blk fh0 (Ring.bk 16 t.val)) := by
  unfold run_B.sl.r_30 d30; simp only [B_d1, B_d8, B_d9, B_d25, B_d26, B_d27, ld_arg]
theorem B_d31 (c : Dev nD) (t : Fin cfg0.N) (arg2 : Memref sig .tc .vmem S256x1540 .f32) (harg2 : arg2.IsWhole) (x0 : Vec F S256x1540 .f32) (fh0 : HbBuf0 (F := F) c hbM0_0) : run_B.sl.r_31 c t arg2 harg2 x0 fh0 = d31 x0 (blk fh0 (Ring.bk 16 t.val)) := by
  unfold run_B.sl.r_31 d31; simp only [B_d1, B_d8, B_d9, B_d25, B_d26, B_d27, ld_arg]
theorem B_d32 (c : Dev nD) (t : Fin cfg0.N) (arg2 : Memref sig .tc .vmem S256x1540 .f32) (harg2 : arg2.IsWhole) (x0 : Vec F S256x1540 .f32) (fh0 : HbBuf0 (F := F) c hbM0_0) : run_B.sl.r_32 c t arg2 harg2 x0 fh0 = d32 x0 (blk fh0 (Ring.bk 16 t.val)) := by
  unfold run_B.sl.r_32 d32; simp only [B_d28, B_d29, B_d31, ld_arg]
theorem B_d33 (c : Dev nD) (t : Fin cfg0.N) (arg2 : Memref sig .tc .vmem S256x1540 .f32) (harg2 : arg2.IsWhole) (x0 : Vec F S256x1540 .f32) (fh0 : HbBuf0 (F := F) c hbM0_0) : run_B.sl.r_33 c t arg2 harg2 x0 fh0 = d33 x0 (blk fh0 (Ring.bk 16 t.val)) := by
  unfold run_B.sl.r_33 d33; simp only [B_d28, B_d30, B_d31, ld_arg]
theorem B_d34 (c : Dev nD) (t : Fin cfg0.N) (arg2 : Memref sig .tc .vmem S256x1540 .f32) (harg2 : arg2.IsWhole) (x0 : Vec F S256x1540 .f32) (fh0 : HbBuf0 (F := F) c hbM0_0) : run_B.sl.r_34 c t arg2 harg2 x0 fh0 = d34 x0 (blk fh0 (Ring.bk 16 t.val)) := by
  unfold run_B.sl.r_34 d34; simp only [B_d28]
theorem B_d35 (c : Dev nD) (t : Fin cfg0.N) (arg2 : Memref sig .tc .vmem S256x1540 .f32) (harg2 : arg2.IsWhole) (x0 : Vec F S256x1540 .f32) (fh0 : HbBuf0 (F := F) c hbM0_0) : run_B.sl.r_35 c t arg2 harg2 x0 fh0 = d35 x0 (blk fh0 (Ring.bk 16 t.val)) := by
  unfold run_B.sl.r_35 d35; simp only [B_d28, B_d32, B_d34, ld_arg]
theorem B_d36 (c : Dev nD) (t : Fin cfg0.N) (arg2 : Memref sig .tc .vmem S256x1540 .f32) (harg2 : arg2.IsWhole) (x0 : Vec F S256x1540 .f32) (fh0 : HbBuf0 (F := F) c hbM0_0) : run_B.sl.r_36 c t arg2 harg2 x0 fh0 = d36 x0 (blk fh0 (Ring.bk 16 t.val)) := by
  unfold run_B.sl.r_36 d36; simp only [B_d28, B_d33, B_d34, ld_arg]
theorem B_d37 (c : Dev nD) (t : Fin cfg0.N) (arg2 : Memref sig .tc .vmem S256x1540 .f32) (harg2 : arg2.IsWhole) (x0 : Vec F S256x1540 .f32) (fh0 : HbBuf0 (F := F) c hbM0_0) : run_B.sl.r_37 c t arg2 harg2 x0 fh0 = d37 x0 (blk fh0 (Ring.bk 16 t.val)) := by
  unfold run_B.sl.r_37 d37; simp only [B_d28]
theorem B_d38 (c : Dev nD) (t : Fin cfg0.N) (arg2 : Memref sig .tc .vmem S256x1540 .f32) (harg2 : arg2.IsWhole) (x0 : Vec F S256x1540 .f32) (fh0 : HbBuf0 (F := F) c hbM0_0) : run_B.sl.r_38 c t arg2 harg2 x0 fh0 = d38 x0 (blk fh0 (Ring.bk 16 t.val)) := by
  unfold run_B.sl.r_38 d38; simp only [B_d28, B_d35, B_d37, ld_arg]
theorem B_d39 (c : Dev nD) (t : Fin cfg0.N) (arg2 : Memref sig .tc .vmem S256x1540 .f32) (harg2 : arg2.IsWhole) (x0 : Vec F S256x1540 .f32) (fh0 : HbBuf0 (F := F) c hbM0_0) : run_B.sl.r_39 c t arg2 harg2 x0 fh0 = d39 x0 (blk fh0 (Ring.bk 16 t.val)) := by
  unfold run_B.sl.r_39 d39; simp only [B_d28, B_d36, B_d37, ld_arg]
theorem B_d40 (c : Dev nD) (t : Fin cfg0.N) (arg2 : Memref sig .tc .vmem S256x1540 .f32) (harg2 : arg2.IsWhole) (x0 : Vec F S256x1540 .f32) (fh0 : HbBuf0 (F := F) c hbM0_0) : run_B.sl.r_40 c t arg2 harg2 x0 fh0 = d40 x0 (blk fh0 (Ring.bk 16 t.val)) := by
  unfold run_B.sl.r_40 d40; simp only [B_d28]
theorem B_d41 (c : Dev nD) (t : Fin cfg0.N) (arg2 : Memref sig .tc .vmem S256x1540 .f32) (harg2 : arg2.IsWhole) (x0 : Vec F S256x1540 .f32) (fh0 : HbBuf0 (F := F) c hbM0_0) : run_B.sl.r_41 c t arg2 harg2 x0 fh0 = d41 x0 (blk fh0 (Ring.bk 16 t.val)) := by
  unfold run_B.sl.r_41 d41; simp only [B_d28, B_d38, B_d40, ld_arg]
theorem B_d42 (c : Dev nD) (t : Fin cfg0.N) (arg2 : Memref sig .tc .vmem S256x1540 .f32) (harg2 : arg2.IsWhole) (x0 : Vec F S256x1540 .f32) (fh0 : HbBuf0 (F := F) c hbM0_0) : run_B.sl.r_42 c t arg2 harg2 x0 fh0 = d42 x0 (blk fh0 (Ring.bk 16 t.val)) := by
  unfold run_B.sl.r_42 d42; simp only [B_d28, B_d39, B_d40, ld_arg]
theorem B_out1 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : cond0_1 (grid0.coords t)) (x0 : Vec F S256x1540 .f32) (fh0 : HbBuf0 (F := F) c hbM0_0) :
    (run_B c t arg2 harg2 arg3 harg3 arg4 harg4 arg5 harg5 arg6 harg6 arg7 harg7 arg8 harg8 arg9 harg9 hc0 hc1 x0 fh0).1 = [⟨Rect.unit (s := S1x1536x128) ![0, 0, 0] S1x1536x128.size Gen.inb_S1x1536x128_S1x1536x128_0_0_0, res1 x0 (blk fh0 (Ring.bk 16 t.val))⟩] := by
  unfold run_B res1; dsimp only; simp only [B_d0, B_d1, B_d8, B_d28, B_d38, B_d39, B_d40, ld_arg]
theorem B_out2 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : cond0_1 (grid0.coords t)) (x0 : Vec F S256x1540 .f32) (fh0 : HbBuf0 (F := F) c hbM0_0) :
    (run_B c t arg2 harg2 arg3 harg3 arg4 harg4 arg5 harg5 arg6 harg6 arg7 harg7 arg8 harg8 arg9 harg9 hc0 hc1 x0 fh0).2.1 = [⟨Rect.unit (s := S1x16x128) ![0, 0, 0] S1x16x128.size Gen.inb_S1x16x128_S1x16x128_0_0_0, res2 x0 (blk fh0 (Ring.bk 16 t.val))⟩] := by
  unfold run_B res2; dsimp only; simp only [B_d6]
theorem B_out3 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : cond0_1 (grid0.coords t)) (x0 : Vec F S256x1540 .f32) (fh0 : HbBuf0 (F := F) c hbM0_0) :
    (run_B c t arg2 harg2 arg3 harg3 arg4 harg4 arg5 harg5 arg6 harg6 arg7 harg7 arg8 harg8 arg9 harg9 hc0 hc1 x0 fh0).2.2.1 = [⟨Rect.unit (s := S1x16x128) ![0, 0, 0] S1x16x128.size Gen.inb_S1x16x128_S1x16x128_0_0_0, res3 x0 (blk fh0 (Ring.bk 16 t.val))⟩] := by
  unfold run_B res3; dsimp only; simp only [B_d7]
theorem B_out4 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : cond0_1 (grid0.coords t)) (x0 : Vec F S256x1540 .f32) (fh0 : HbBuf0 (F := F) c hbM0_0) :
    (run_B c t arg2 harg2 arg3 harg3 arg4 harg4 arg5 harg5 arg6 harg6 arg7 harg7 arg8 harg8 arg9 harg9 hc0 hc1 x0 fh0).2.2.2.1 = [⟨Rect.unit (s := S1x16x128) ![0, 0, 0] S1x16x128.size Gen.inb_S1x16x128_S1x16x128_0_0_0, res4 x0 (blk fh0 (Ring.bk 16 t.val))⟩] := by
  unfold run_B res4; dsimp only; simp only [B_d41]
theorem B_out5 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : cond0_1 (grid0.coords t)) (x0 : Vec F S256x1540 .f32) (fh0 : HbBuf0 (F := F) c hbM0_0) :
    (run_B c t arg2 harg2 arg3 harg3 arg4 harg4 arg5 harg5 arg6 harg6 arg7 harg7 arg8 harg8 arg9 harg9 hc0 hc1 x0 fh0).2.2.2.2.1 = [⟨Rect.unit (s := S1x16x128) ![0, 0, 0] S1x16x128.size Gen.inb_S1x16x128_S1x16x128_0_0_0, res5 x0 (blk fh0 (Ring.bk 16 t.val))⟩] := by
  unfold run_B res5; dsimp only; simp only [B_d42]
theorem B_out6 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : cond0_1 (grid0.coords t)) (x0 : Vec F S256x1540 .f32) (fh0 : HbBuf0 (F := F) c hbM0_0) :
    (run_B c t arg2 harg2 arg3 harg3 arg4 harg4 arg5 harg5 arg6 harg6 arg7 harg7 arg8 harg8 arg9 harg9 hc0 hc1 x0 fh0).2.2.2.2.2.1 = [⟨Rect.unit (s := S1x1x1) ![0, 0, 0] S1x1x1.size Gen.inb_S1x1x1_S1x1x1_0_0_0, res6 x0 (blk fh0 (Ring.bk 16 t.val))⟩] := by
  unfold run_B res6; dsimp only; simp only [B_d3]
theorem B_out7 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : cond0_1 (grid0.coords t)) (x0 : Vec F S256x1540 .f32) (fh0 : HbBuf0 (F := F) c hbM0_0) :
    (run_B c t arg2 harg2 arg3 harg3 arg4 harg4 arg5 harg5 arg6 harg6 arg7 harg7 arg8 harg8 arg9 harg9 hc0 hc1 x0 fh0).2.2.2.2.2.2.1 = [⟨Rect.unit (s := S1x1x1) ![0, 0, 0] S1x1x1.size Gen.inb_S1x1x1_S1x1x1_0_0_0, res7 x0 (blk fh0 (Ring.bk 16 t.val))⟩] := by
  unfold run_B res7; dsimp only; simp only [B_d5]

end Cert.KernelIdeal.Ring3
-- ==== Proof.RunC3.lean ====
/- The body run at the last two points: nothing is started. -/
module

public import proofs.«01_k».proof.Proof.Ring3

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- What the body leaves in each output's buffer, as the list of its stores, with the proof that it runs. -/
noncomputable def run_C (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : ¬cond0_1 (grid0.coords t))
    (x0 : Vec F S256x1540 .f32) (fh0 : HbBuf0 (F := F) c hbM0_0) :
    Σ' (L1 : List (View.Piece (Elt F) S1x1536x128 .f32)), Σ' (L2 : List (View.Piece (Elt F) S1x16x128 .f32)), Σ' (L3 : List (View.Piece (Elt F) S1x16x128 .f32)), Σ' (L4 : List (View.Piece (Elt F) S1x16x128 .f32)), Σ' (L5 : List (View.Piece (Elt F) S1x16x128 .f32)), Σ' (L6 : List (View.Piece (Elt F) S1x1x1 .f32)), { L7 : List (View.Piece (Elt F) S1x1x1 .f32) //
      ∀ (W : Waits sig Unit) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ Ring.inflight (flightW c fh0) (Ring.sl 3 t.val) (Ring.bk 16 t.val) ∗ Ring.slotAt 2 (cellP c) (slotW c fh0) (flightW c fh0) t.val 1 ∗ Ring.free (cellP c) (slotW c fh0) (Ring.sl 3 (t.val + 2)) ∗ owes (c : Thread nD τ) 0 W
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ Ring.slotAt 2 (cellP c) (slotW c fh0) (flightW c fh0) t.val 1 ∗ Ring.free (cellP c) (slotW c fh0) (Ring.sl 3 (t.val + 2)) ∗ Ring.free (cellP c) (slotW c fh0) (Ring.sl 3 t.val) ∗ (∃ W', owes (c : Thread nD τ) 0 W')) -∗ K ⟨⟩))
          ⊢ wp frame (wpE (defs₀ (F := F)) Variants.none c none) Set.univ (cc0__body (grid0.coords t) (Memref.whole main_v0) (Memref.isWhole_whole _) arg2 harg2 arg3 harg3 arg4 harg4 arg5 harg5 arg6 harg6 arg7 harg7 arg8 harg8 arg9 harg9 scM0_0 (Memref.isWhole_whole _) cc0_scratch1) K } := by
  refine ⟨?_, ?_, ?_, ?_, ?_, ?_, ?_, fun W K => ?run⟩
  case run =>
    haveI : Fact (¬cond0_0 (grid0.coords t)) := ⟨hc0⟩
    haveI : Fact (¬cond0_1 (grid0.coords t)) := ⟨hc1⟩
    have hslot : ∀ h, ((Memref.whole cc0_scratch0 : Memref sig .tc .vmem S3x1536x128 .f32).access (Rect.unit (s := S3x1536x128) (k0_off25 (grid0.coords t)) S1x1536x128.size h)).set ⊆ (rslot (Ring.sl 3 t.val)).view.set := fun h =>
      load_sub t h
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns Ring.free Ring.inflight
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%ff0, ⟨Hf00, Hf01, Hf02, Hf03⟩, Hq00, Hq01, Hq02, Hq03⟩, Hro, ⟨⟨Hc20, Hc21, Hc22, Hc23⟩, ⟨%fs2, ⟨Hs20, Hs21, Hs22, Hs23⟩, Hw20, Hw21, Hw22, Hw23⟩⟩, HW, Hk⟩
    obtain rfl := harg2.eq_unread hf0
    sl_exec (disch := first | sl_exact hc0 | sl_exact hc1)
    ihave HL := (slot_of_landed c fh0 (Ring.sl 3 t.val) (Ring.bk 16 t.val) ff0) $$ [Hf00_dst Hf01_dst Hf02_dst Hf03_dst]
    · isplitl [Hf00_dst]; · iexact Hf00_dst
      isplitl [Hf01_dst]; · iexact Hf01_dst
      isplitl [Hf02_dst]; · iexact Hf02_dst
      iexact Hf03_dst
    sl_exec (disch := first | sl_exact hc0 | sl_exact hc1)
    sl_step
    ihave HP := (slot_parts c (Ring.sl 3 t.val) (slotL c fh0 (Ring.bk 16 t.val))).1 $$ HL
    icases HP with ⟨P0, P1, P2, P3⟩
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hro]; · iexact Hro
    isplitl [Hc20 Hc21 Hc22 Hc23 Hs20 Hs21 Hs22 Hs23 Hw20 Hw21 Hw22 Hw23]
    · isplitl [Hc20 Hc21 Hc22 Hc23]
      · isplitl [Hc20]; · iexact Hc20
        isplitl [Hc21]; · iexact Hc21
        isplitl [Hc22]; · iexact Hc22
        iexact Hc23
      iexists fs2; isplitl [Hs20 Hs21 Hs22 Hs23]
      · isplitl [Hs20]; · iexact Hs20
        isplitl [Hs21]; · iexact Hs21
        isplitl [Hs22]; · iexact Hs22
        iexact Hs23
      isplitl [Hw20]; · iexact Hw20
      isplitl [Hw21]; · iexact Hw21
      isplitl [Hw22]; · iexact Hw22
      iexact Hw23
    isplitl [Hf00 Hf01 Hf02 Hf03 P0 P1 P2 P3 Hf00_src Hf01_src Hf02_src Hf03_src Hq00 Hq01 Hq02 Hq03]
    · isplitl [Hf00 Hf01 Hf02 Hf03]
      · isplitl [Hf00]; · iexact Hf00
        isplitl [Hf01]; · iexact Hf01
        isplitl [Hf02]; · iexact Hf02
        iexact Hf03
      iexists (fun _ => slotL c fh0 (Ring.bk 16 t.val)); isplitl [P0 P1 P2 P3]
      · isplitl [P0]; · iexact P0
        isplitl [P1]; · iexact P1
        isplitl [P2]; · iexact P2
        iexact P3
      isplitl [Hf00_src Hq00]
      · iapply (src_0_split c fh0 (Ring.sl 3 t.val) (Ring.bk 16 t.val)).2; isplitl [Hf00_src]; · iexact Hf00_src
        iexact Hq00
      isplitl [Hf01_src Hq01]
      · iapply (src_1_split c fh0 (Ring.sl 3 t.val) (Ring.bk 16 t.val)).2; isplitl [Hf01_src]; · iexact Hf01_src
        iexact Hq01
      isplitl [Hf02_src Hq02]
      · iapply (src_2_split c fh0 (Ring.sl 3 t.val) (Ring.bk 16 t.val)).2; isplitl [Hf02_src]; · iexact Hf02_src
        iexact Hq02
      iapply (src_3_split c fh0 (Ring.sl 3 t.val) (Ring.bk 16 t.val)).2; isplitl [Hf03_src]; · iexact Hf03_src
      iexact Hq03
    iexists _; iexact HW

end Cert.KernelIdeal.Ring3
-- ==== Proof.ResC3.lean ====
/- What the stores of this run hold, by the point's chain of values. -/
module

public import proofs.«01_k».proof.Proof.RunC3
public import proofs.«01_k».proof.Proof.Res3

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem C_v52 (c : Dev nD) (t : Fin cfg0.N) (fh0 : HbBuf0 (F := F) c hbM0_0) : run_C.sl.v52 c t fh0 = blk fh0 (Ring.bk 16 t.val) := load_blk c t fh0 _
theorem C_d0 (c : Dev nD) (t : Fin cfg0.N) (fh0 : HbBuf0 (F := F) c hbM0_0) : run_C.sl.r c t fh0 = d0 (blk fh0 (Ring.bk 16 t.val)) := by
  unfold run_C.sl.r d0; simp only [C_v52]
theorem C_d1 (c : Dev nD) (t : Fin cfg0.N) (fh0 : HbBuf0 (F := F) c hbM0_0) : run_C.sl.r_1 c t fh0 = d1 (blk fh0 (Ring.bk 16 t.val)) := by
  unfold run_C.sl.r_1 d1; simp only [C_v52]
theorem C_d2 (c : Dev nD) (t : Fin cfg0.N) (fh0 : HbBuf0 (F := F) c hbM0_0) : run_C.sl.r_2 c t fh0 = d2 (blk fh0 (Ring.bk 16 t.val)) := by
  unfold run_C.sl.r_2 d2; simp only [C_v52]
theorem C_d3 (c : Dev nD) (t : Fin cfg0.N) (fh0 : HbBuf0 (F := F) c hbM0_0) : run_C.sl.r_3 c t fh0 = d3 (blk fh0 (Ring.bk 16 t.val)) := by
  unfold run_C.sl.r_3 d3; simp only [C_v52]
theorem C_d4 (c : Dev nD) (t : Fin cfg0.N) (fh0 : HbBuf0 (F := F) c hbM0_0) : run_C.sl.r_4 c t fh0 = d4 (blk fh0 (Ring.bk 16 t.val)) := by
  unfold run_C.sl.r_4 d4; simp only [C_v52]
theorem C_d5 (c : Dev nD) (t : Fin cfg0.N) (fh0 : HbBuf0 (F := F) c hbM0_0) : run_C.sl.r_5 c t fh0 = d5 (blk fh0 (Ring.bk 16 t.val)) := by
  unfold run_C.sl.r_5 d5; simp only [C_d3, C_d4]
theorem C_d6 (c : Dev nD) (t : Fin cfg0.N) (fh0 : HbBuf0 (F := F) c hbM0_0) : run_C.sl.r_6 c t fh0 = d6 (blk fh0 (Ring.bk 16 t.val)) := by
  unfold run_C.sl.r_6 d6; simp only [C_d1, C_d3, C_d4]
theorem C_d7 (c : Dev nD) (t : Fin cfg0.N) (fh0 : HbBuf0 (F := F) c hbM0_0) : run_C.sl.r_7 c t fh0 = d7 (blk fh0 (Ring.bk 16 t.val)) := by
  unfold run_C.sl.r_7 d7; simp only [C_d1, C_d2, C_d3, C_d4]
theorem C_d8 (c : Dev nD) (t : Fin cfg0.N) (fh0 : HbBuf0 (F := F) c hbM0_0) : run_C.sl.r_8 c t fh0 = d8 (blk fh0 (Ring.bk 16 t.val)) := by
  unfold run_C.sl.r_8 d8; simp only [C_d1, C_d2, C_d3, C_d4]
theorem C_d9 (c : Dev nD) (t : Fin cfg0.N) (arg2 : Memref sig .tc .vmem S256x1540 .f32) (harg2 : arg2.IsWhole) (x0 : Vec F S256x1540 .f32) (fh0 : HbBuf0 (F := F) c hbM0_0) : run_C.sl.r_9 c t arg2 harg2 x0 fh0 = d9 x0 (blk fh0 (Ring.bk 16 t.val)) := by
  unfold run_C.sl.r_9 d9; simp only [C_v52, ld_arg]
theorem C_d10 (c : Dev nD) (t : Fin cfg0.N) (arg2 : Memref sig .tc .vmem S256x1540 .f32) (harg2 : arg2.IsWhole) (x0 : Vec F S256x1540 .f32) (fh0 : HbBuf0 (F := F) c hbM0_0) : run_C.sl.r_10 c t arg2 harg2 x0 fh0 = d10 x0 (blk fh0 (Ring.bk 16 t.val)) := by
  unfold run_C.sl.r_10 d10; simp only [C_v52, ld_arg]
theorem C_d11 (c : Dev nD) (t : Fin cfg0.N) (arg2 : Memref sig .tc .vmem S256x1540 .f32) (harg2 : arg2.IsWhole) (x0 : Vec F S256x1540 .f32) (fh0 : HbBuf0 (F := F) c hbM0_0) : run_C.sl.r_11 c t arg2 harg2 x0 fh0 = d11 x0 (blk fh0 (Ring.bk 16 t.val)) := by
  unfold run_C.sl.r_11 d11; simp only [C_d1, C_d8, C_d9, C_d10, ld_arg]
theorem C_d12 (c : Dev nD) (t : Fin cfg0.N) (arg2 : Memref sig .tc .vmem S256x1540 .f32) (harg2 : arg2.IsWhole) (x0 : Vec F S256x1540 .f32) (fh0 : HbBuf0 (F := F) c hbM0_0) : run_C.sl.r_12 c t arg2 harg2 x0 fh0 = d12 x0 (blk fh0 (Ring.bk 16 t.val)) := by
  unfold run_C.sl.r_12 d12; simp only [C_d1, C_d8, C_d9, C_d10, ld_arg]
theorem C_d13 (c : Dev nD) (t : Fin cfg0.N) (arg2 : Memref sig .tc .vmem S256x1540 .f32) (harg2 : arg2.IsWhole) (x0 : Vec F S256x1540 .f32) (fh0 : HbBuf0 (F := F) c hbM0_0) : run_C.sl.r_13 c t arg2 harg2 x0 fh0 = d13 x0 (blk fh0 (Ring.bk 16 t.val)) := by
  unfold run_C.sl.r_13 d13; simp only [C_d9]
theorem C_d14 (c : Dev nD) (t : Fin cfg0.N) (arg2 : Memref sig .tc .vmem S256x1540 .f32) (harg2 : arg2.IsWhole) (x0 : Vec F S256x1540 .f32) (fh0 : HbBuf0 (F := F) c hbM0_0) : run_C.sl.r_14 c t arg2 harg2 x0 fh0 = d14 x0 (blk fh0 (Ring.bk 16 t.val)) := by
  unfold run_C.sl.r_14 d14; simp only [C_d1, C_d8, C_d9, C_d11, C_d12, C_d13, ld_arg]
theorem C_d15 (c : Dev nD) (t : Fin cfg0.N) (arg2 : Memref sig .tc .vmem S256x1540 .f32) (harg2 : arg2.IsWhole) (x0 : Vec F S256x1540 .f32) (fh0 : HbBuf0 (F := F) c hbM0_0) : run_C.sl.r_15 c t arg2 harg2 x0 fh0 = d15 x0 (blk fh0 (Ring.bk 16 t.val)) := by
  unfold run_C.sl.r_15 d15; simp only [C_d1, C_d8, C_d9, C_d11, C_d13, ld_arg]
theorem C_d16 (c : Dev nD) (t : Fin cfg0.N) (arg2 : Memref sig .tc .vmem S256x1540 .f32) (harg2 : arg2.IsWhole) (x0 : Vec F S256x1540 .f32) (fh0 : HbBuf0 (F := F) c hbM0_0) : run_C.sl.r_16 c t arg2 harg2 x0 fh0 = d16 x0 (blk fh0 (Ring.bk 16 t.val)) := by
  unfold run_C.sl.r_16 d16; simp only [C_d1, C_d8, C_d9, C_d11, C_d13, ld_arg]
theorem C_d17 (c : Dev nD) (t : Fin cfg0.N) (arg2 : Memref sig .tc .vmem S256x1540 .f32) (harg2 : arg2.IsWhole) (x0 : Vec F S256x1540 .f32) (fh0 : HbBuf0 (F := F) c hbM0_0) : run_C.sl.r_17 c t arg2 harg2 x0 fh0 = d17 x0 (blk fh0 (Ring.bk 16 t.val)) := by
  unfold run_C.sl.r_17 d17; simp only [C_d1, C_d8, C_d9, C_d16, ld_arg]
theorem C_d18 (c : Dev nD) (t : Fin cfg0.N) (arg2 : Memref sig .tc .vmem S256x1540 .f32) (harg2 : arg2.IsWhole) (x0 : Vec F S256x1540 .f32) (fh0 : HbBuf0 (F := F) c hbM0_0) : run_C.sl.r_18 c t arg2 harg2 x0 fh0 = d18 x0 (blk fh0 (Ring.bk 16 t.val)) := by
  unfold run_C.sl.r_18 d18; simp only [C_d1, C_d8, C_d9, C_d14, C_d15, C_d16, ld_arg]
theorem C_d19 (c : Dev nD) (t : Fin cfg0.N) (arg2 : Memref sig .tc .vmem S256x1540 .f32) (harg2 : arg2.IsWhole) (x0 : Vec F S256x1540 .f32) (fh0 : HbBuf0 (F := F) c hbM0_0) : run_C.sl.r_19 c t arg2 harg2 x0 fh0 = d19 x0 (blk fh0 (Ring.bk 16 t.val)) := by
  unfold run_C.sl.r_19 d19; simp only [C_d1, C_d8, C_d9, ld_arg]
theorem C_d20 (c : Dev nD) (t : Fin cfg0.N) (arg2 : Memref sig .tc .vmem S256x1540 .f32) (harg2 : arg2.IsWhole) (x0 : Vec F S256x1540 .f32) (fh0 : HbBuf0 (F := F) c hbM0_0) : run_C.sl.r_20 c t arg2 harg2 x0 fh0 = d20 x0 (blk fh0 (Ring.bk 16 t.val)) := by
  unfold run_C.sl.r_20 d20; simp only [C_d1, C_d8, C_d9, C_d16, ld_arg]
theorem C_d21 (c : Dev nD) (t : Fin cfg0.N) (arg2 : Memref sig .tc .vmem S256x1540 .f32) (harg2 : arg2.IsWhole) (x0 : Vec F S256x1540 .f32) (fh0 : HbBuf0 (F := F) c hbM0_0) : run_C.sl.r_21 c t arg2 harg2 x0 fh0 = d21 x0 (blk fh0 (Ring.bk 16 t.val)) := by
  unfold run_C.sl.r_21 d21; simp only [C_d1, C_d8, C_d9, C_d17, C_d19, C_d20, ld_arg]
theorem C_d22 (c : Dev nD) (t : Fin cfg0.N) (arg2 : Memref sig .tc .vmem S256x1540 .f32) (harg2 : arg2.IsWhole) (x0 : Vec F S256x1540 .f32) (fh0 : HbBuf0 (F := F) c hbM0_0) : run_C.sl.r_22 c t arg2 harg2 x0 fh0 = d22 x0 (blk fh0 (Ring.bk 16 t.val)) := by
  unfold run_C.sl.r_22 d22; simp only [C_d1, C_d8, C_d9, C_d17, C_d18, C_d19, C_d20, ld_arg]
theorem C_d23 (c : Dev nD) (t : Fin cfg0.N) (arg2 : Memref sig .tc .vmem S256x1540 .f32) (harg2 : arg2.IsWhole) (x0 : Vec F S256x1540 .f32) (fh0 : HbBuf0 (F := F) c hbM0_0) : run_C.sl.r_23 c t arg2 harg2 x0 fh0 = d23 x0 (blk fh0 (Ring.bk 16 t.val)) := by
  unfold run_C.sl.r_23 d23; simp only [C_d1, C_d8, C_d9, ld_arg]
theorem C_d24 (c : Dev nD) (arg2 : Memref sig .tc .vmem S256x1540 .f32) (harg2 : arg2.IsWhole) (x0 : Vec F S256x1540 .f32)  : run_C.sl.r_24 c arg2 harg2 x0 = d24 x0  := by
  unfold run_C.sl.r_24 d24; simp only [ld_arg]
theorem C_d25 (c : Dev nD) (t : Fin cfg0.N) (arg2 : Memref sig .tc .vmem S256x1540 .f32) (harg2 : arg2.IsWhole) (x0 : Vec F S256x1540 .f32) (fh0 : HbBuf0 (F := F) c hbM0_0) : run_C.sl.r_25 c t arg2 harg2 x0 fh0 = d25 x0 (blk fh0 (Ring.bk 16 t.val)) := by
  unfold run_C.sl.r_25 d25; simp only [C_d1, C_d8, C_d9, C_d21, C_d23, C_d24, ld_arg]
theorem C_d26 (c : Dev nD) (t : Fin cfg0.N) (arg2 : Memref sig .tc .vmem S256x1540 .f32) (harg2 : arg2.IsWhole) (x0 : Vec F S256x1540 .f32) (fh0 : HbBuf0 (F := F) c hbM0_0) : run_C.sl.r_26 c t arg2 harg2 x0 fh0 = d26 x0 (blk fh0 (Ring.bk 16 t.val)) := by
  unfold run_C.sl.r_26 d26; simp only [C_d1, C_d8, C_d9, C_d21, C_d22, C_d23, C_d24, ld_arg]
theorem C_d27 (c : Dev nD) (t : Fin cfg0.N) (arg2 : Memref sig .tc .vmem S256x1540 .f32) (harg2 : arg2.IsWhole) (x0 : Vec F S256x1540 .f32) (fh0 : HbBuf0 (F := F) c hbM0_0) : run_C.sl.r_27 c t arg2 harg2 x0 fh0 = d27 x0 (blk fh0 (Ring.bk 16 t.val)) := by
  unfold run_C.sl.r_27 d27; simp only [C_d1, C_d8, C_d9, ld_arg]
theorem C_d28 (c : Dev nD) (t : Fin cfg0.N) (arg2 : Memref sig .tc .vmem S256x1540 .f32) (harg2 : arg2.IsWhole) (x0 : Vec F S256x1540 .f32) (fh0 : HbBuf0 (F := F) c hbM0_0) : run_C.sl.r_28 c t arg2 harg2 x0 fh0 = d28 x0 (blk fh0 (Ring.bk 16 t.val)) := by
  unfold run_C.sl.r_28 d28; simp only [C_d1, C_d8, C_d9, C_d25, C_d26, C_d27, ld_arg]
theorem C_d29 (c : Dev nD) (t : Fin cfg0.N) (arg2 : Memref sig .tc .vmem S256x1540 .f32) (harg2 : arg2.IsWhole) (x0 : Vec F S256x1540 .f32) (fh0 : HbBuf0 (F := F) c hbM0_0) : run_C.sl.r_29 c t arg2 harg2 x0 fh0 = d29 x0 (blk fh0 (Ring.bk 16 t.val)) := by
  unfold run_C.sl.r_29 d29; simp only [C_d1, C_d8, C_d9, C_d25, C_d26, C_d27, ld_arg]
theorem C_d30 (c : Dev nD) (t : Fin cfg0.N) (arg2 : Memref sig .tc .vmem S256x1540 .f32) (harg2 : arg2.IsWhole) (x0 : Vec F S256x1540 .f32) (fh0 : HbBuf0 (F := F) c hbM0_0) : run_C.sl.r_30 c t arg2 harg2 x0 fh0 = d30 x0 (blk fh0 (Ring.bk 16 t.val)) := by
  unfold run_C.sl.r_30 d30; simp only [C_d1, C_d8, C_d9, C_d25, C_d26, C_d27, ld_arg]
theorem C_d31 (c : Dev nD) (t : Fin cfg0.N) (arg2 : Memref sig .tc .vmem S256x1540 .f32) (harg2 : arg2.IsWhole) (x0 : Vec F S256x1540 .f32) (fh0 : HbBuf0 (F := F) c hbM0_0) : run_C.sl.r_31 c t arg2 harg2 x0 fh0 = d31 x0 (blk fh0 (Ring.bk 16 t.val)) := by
  unfold run_C.sl.r_31 d31; simp only [C_d1, C_d8, C_d9, C_d25, C_d26, C_d27, ld_arg]
theorem C_d32 (c : Dev nD) (t : Fin cfg0.N) (arg2 : Memref sig .tc .vmem S256x1540 .f32) (harg2 : arg2.IsWhole) (x0 : Vec F S256x1540 .f32) (fh0 : HbBuf0 (F := F) c hbM0_0) : run_C.sl.r_32 c t arg2 harg2 x0 fh0 = d32 x0 (blk fh0 (Ring.bk 16 t.val)) := by
  unfold run_C.sl.r_32 d32; simp only [C_d28, C_d29, C_d31, ld_arg]
theorem C_d33 (c : Dev nD) (t : Fin cfg0.N) (arg2 : Memref sig .tc .vmem S256x1540 .f32) (harg2 : arg2.IsWhole) (x0 : Vec F S256x1540 .f32) (fh0 : HbBuf0 (F := F) c hbM0_0) : run_C.sl.r_33 c t arg2 harg2 x0 fh0 = d33 x0 (blk fh0 (Ring.bk 16 t.val)) := by
  unfold run_C.sl.r_33 d33; simp only [C_d28, C_d30, C_d31, ld_arg]
theorem C_d34 (c : Dev nD) (t : Fin cfg0.N) (arg2 : Memref sig .tc .vmem S256x1540 .f32) (harg2 : arg2.IsWhole) (x0 : Vec F S256x1540 .f32) (fh0 : HbBuf0 (F := F) c hbM0_0) : run_C.sl.r_34 c t arg2 harg2 x0 fh0 = d34 x0 (blk fh0 (Ring.bk 16 t.val)) := by
  unfold run_C.sl.r_34 d34; simp only [C_d28]
theorem C_d35 (c : Dev nD) (t : Fin cfg0.N) (arg2 : Memref sig .tc .vmem S256x1540 .f32) (harg2 : arg2.IsWhole) (x0 : Vec F S256x1540 .f32) (fh0 : HbBuf0 (F := F) c hbM0_0) : run_C.sl.r_35 c t arg2 harg2 x0 fh0 = d35 x0 (blk fh0 (Ring.bk 16 t.val)) := by
  unfold run_C.sl.r_35 d35; simp only [C_d28, C_d32, C_d34, ld_arg]
theorem C_d36 (c : Dev nD) (t : Fin cfg0.N) (arg2 : Memref sig .tc .vmem S256x1540 .f32) (harg2 : arg2.IsWhole) (x0 : Vec F S256x1540 .f32) (fh0 : HbBuf0 (F := F) c hbM0_0) : run_C.sl.r_36 c t arg2 harg2 x0 fh0 = d36 x0 (blk fh0 (Ring.bk 16 t.val)) := by
  unfold run_C.sl.r_36 d36; simp only [C_d28, C_d33, C_d34, ld_arg]
theorem C_d37 (c : Dev nD) (t : Fin cfg0.N) (arg2 : Memref sig .tc .vmem S256x1540 .f32) (harg2 : arg2.IsWhole) (x0 : Vec F S256x1540 .f32) (fh0 : HbBuf0 (F := F) c hbM0_0) : run_C.sl.r_37 c t arg2 harg2 x0 fh0 = d37 x0 (blk fh0 (Ring.bk 16 t.val)) := by
  unfold run_C.sl.r_37 d37; simp only [C_d28]
theorem C_d38 (c : Dev nD) (t : Fin cfg0.N) (arg2 : Memref sig .tc .vmem S256x1540 .f32) (harg2 : arg2.IsWhole) (x0 : Vec F S256x1540 .f32) (fh0 : HbBuf0 (F := F) c hbM0_0) : run_C.sl.r_38 c t arg2 harg2 x0 fh0 = d38 x0 (blk fh0 (Ring.bk 16 t.val)) := by
  unfold run_C.sl.r_38 d38; simp only [C_d28, C_d35, C_d37, ld_arg]
theorem C_d39 (c : Dev nD) (t : Fin cfg0.N) (arg2 : Memref sig .tc .vmem S256x1540 .f32) (harg2 : arg2.IsWhole) (x0 : Vec F S256x1540 .f32) (fh0 : HbBuf0 (F := F) c hbM0_0) : run_C.sl.r_39 c t arg2 harg2 x0 fh0 = d39 x0 (blk fh0 (Ring.bk 16 t.val)) := by
  unfold run_C.sl.r_39 d39; simp only [C_d28, C_d36, C_d37, ld_arg]
theorem C_d40 (c : Dev nD) (t : Fin cfg0.N) (arg2 : Memref sig .tc .vmem S256x1540 .f32) (harg2 : arg2.IsWhole) (x0 : Vec F S256x1540 .f32) (fh0 : HbBuf0 (F := F) c hbM0_0) : run_C.sl.r_40 c t arg2 harg2 x0 fh0 = d40 x0 (blk fh0 (Ring.bk 16 t.val)) := by
  unfold run_C.sl.r_40 d40; simp only [C_d28]
theorem C_d41 (c : Dev nD) (t : Fin cfg0.N) (arg2 : Memref sig .tc .vmem S256x1540 .f32) (harg2 : arg2.IsWhole) (x0 : Vec F S256x1540 .f32) (fh0 : HbBuf0 (F := F) c hbM0_0) : run_C.sl.r_41 c t arg2 harg2 x0 fh0 = d41 x0 (blk fh0 (Ring.bk 16 t.val)) := by
  unfold run_C.sl.r_41 d41; simp only [C_d28, C_d38, C_d40, ld_arg]
theorem C_d42 (c : Dev nD) (t : Fin cfg0.N) (arg2 : Memref sig .tc .vmem S256x1540 .f32) (harg2 : arg2.IsWhole) (x0 : Vec F S256x1540 .f32) (fh0 : HbBuf0 (F := F) c hbM0_0) : run_C.sl.r_42 c t arg2 harg2 x0 fh0 = d42 x0 (blk fh0 (Ring.bk 16 t.val)) := by
  unfold run_C.sl.r_42 d42; simp only [C_d28, C_d39, C_d40, ld_arg]
theorem C_out1 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : ¬cond0_1 (grid0.coords t)) (x0 : Vec F S256x1540 .f32) (fh0 : HbBuf0 (F := F) c hbM0_0) :
    (run_C c t arg2 harg2 arg3 harg3 arg4 harg4 arg5 harg5 arg6 harg6 arg7 harg7 arg8 harg8 arg9 harg9 hc0 hc1 x0 fh0).1 = [⟨Rect.unit (s := S1x1536x128) ![0, 0, 0] S1x1536x128.size Gen.inb_S1x1536x128_S1x1536x128_0_0_0, res1 x0 (blk fh0 (Ring.bk 16 t.val))⟩] := by
  unfold run_C res1; dsimp only; simp only [C_d0, C_d1, C_d8, C_d28, C_d38, C_d39, C_d40, ld_arg]
theorem C_out2 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : ¬cond0_1 (grid0.coords t)) (x0 : Vec F S256x1540 .f32) (fh0 : HbBuf0 (F := F) c hbM0_0) :
    (run_C c t arg2 harg2 arg3 harg3 arg4 harg4 arg5 harg5 arg6 harg6 arg7 harg7 arg8 harg8 arg9 harg9 hc0 hc1 x0 fh0).2.1 = [⟨Rect.unit (s := S1x16x128) ![0, 0, 0] S1x16x128.size Gen.inb_S1x16x128_S1x16x128_0_0_0, res2 x0 (blk fh0 (Ring.bk 16 t.val))⟩] := by
  unfold run_C res2; dsimp only; simp only [C_d6]
theorem C_out3 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : ¬cond0_1 (grid0.coords t)) (x0 : Vec F S256x1540 .f32) (fh0 : HbBuf0 (F := F) c hbM0_0) :
    (run_C c t arg2 harg2 arg3 harg3 arg4 harg4 arg5 harg5 arg6 harg6 arg7 harg7 arg8 harg8 arg9 harg9 hc0 hc1 x0 fh0).2.2.1 = [⟨Rect.unit (s := S1x16x128) ![0, 0, 0] S1x16x128.size Gen.inb_S1x16x128_S1x16x128_0_0_0, res3 x0 (blk fh0 (Ring.bk 16 t.val))⟩] := by
  unfold run_C res3; dsimp only; simp only [C_d7]
theorem C_out4 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : ¬cond0_1 (grid0.coords t)) (x0 : Vec F S256x1540 .f32) (fh0 : HbBuf0 (F := F) c hbM0_0) :
    (run_C c t arg2 harg2 arg3 harg3 arg4 harg4 arg5 harg5 arg6 harg6 arg7 harg7 arg8 harg8 arg9 harg9 hc0 hc1 x0 fh0).2.2.2.1 = [⟨Rect.unit (s := S1x16x128) ![0, 0, 0] S1x16x128.size Gen.inb_S1x16x128_S1x16x128_0_0_0, res4 x0 (blk fh0 (Ring.bk 16 t.val))⟩] := by
  unfold run_C res4; dsimp only; simp only [C_d41]
theorem C_out5 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : ¬cond0_1 (grid0.coords t)) (x0 : Vec F S256x1540 .f32) (fh0 : HbBuf0 (F := F) c hbM0_0) :
    (run_C c t arg2 harg2 arg3 harg3 arg4 harg4 arg5 harg5 arg6 harg6 arg7 harg7 arg8 harg8 arg9 harg9 hc0 hc1 x0 fh0).2.2.2.2.1 = [⟨Rect.unit (s := S1x16x128) ![0, 0, 0] S1x16x128.size Gen.inb_S1x16x128_S1x16x128_0_0_0, res5 x0 (blk fh0 (Ring.bk 16 t.val))⟩] := by
  unfold run_C res5; dsimp only; simp only [C_d42]
theorem C_out6 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : ¬cond0_1 (grid0.coords t)) (x0 : Vec F S256x1540 .f32) (fh0 : HbBuf0 (F := F) c hbM0_0) :
    (run_C c t arg2 harg2 arg3 harg3 arg4 harg4 arg5 harg5 arg6 harg6 arg7 harg7 arg8 harg8 arg9 harg9 hc0 hc1 x0 fh0).2.2.2.2.2.1 = [⟨Rect.unit (s := S1x1x1) ![0, 0, 0] S1x1x1.size Gen.inb_S1x1x1_S1x1x1_0_0_0, res6 x0 (blk fh0 (Ring.bk 16 t.val))⟩] := by
  unfold run_C res6; dsimp only; simp only [C_d3]
theorem C_out7 (c : Dev nD) (t : Fin cfg0.N) (arg2 : Memref sig .tc .vmem S256x1540 .f32) (harg2 : arg2.IsWhole) (arg3 : Memref sig .tc .vmem S1x1536x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 (grid0.coords t)) (hc1 : ¬cond0_1 (grid0.coords t)) (x0 : Vec F S256x1540 .f32) (fh0 : HbBuf0 (F := F) c hbM0_0) :
    (run_C c t arg2 harg2 arg3 harg3 arg4 harg4 arg5 harg5 arg6 harg6 arg7 harg7 arg8 harg8 arg9 harg9 hc0 hc1 x0 fh0).2.2.2.2.2.2.1 = [⟨Rect.unit (s := S1x1x1) ![0, 0, 0] S1x1x1.size Gen.inb_S1x1x1_S1x1x1_0_0_0, res7 x0 (blk fh0 (Ring.bk 16 t.val))⟩] := by
  unfold run_C res7; dsimp only; simp only [C_d5]

end Cert.KernelIdeal.Ring3
-- ==== Proof.Frame3.lean ====
/- The proof data of the pipeline, its body obligation at every point, the run, and that the arguments end unchanged. -/
module

public import proofs.«01_k».proof.Proof.ResA3
public import proofs.«01_k».proof.Proof.ResB3
public import proofs.«01_k».proof.Proof.ResC3
public import Idealize.ShloMosaic.Lib.Claim

@[expose] public section

set_option maxRecDepth 16384

noncomputable section

namespace Cert.KernelIdeal.Ring3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The invariant before point `k`: the generator register, the ring, and the rest of the ring's scratch. -/
def PhiR (c : Dev nD) (k : ℕ) : sProp 𝕄 := iprop((∃ r, prngReg c r) ∗ (ringAt c (V m c main_v0) k ∗ spareP c))

/-- The proof data: the arrays as the region finds them, after each point the operand's block and the point's seven results. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => res1 (iblk m c 0 t) (blk (V m c main_v0) (Ring.bk 16 t.val))
    | ⟨2, _⟩ => res2 (iblk m c 0 t) (blk (V m c main_v0) (Ring.bk 16 t.val))
    | ⟨3, _⟩ => res3 (iblk m c 0 t) (blk (V m c main_v0) (Ring.bk 16 t.val))
    | ⟨4, _⟩ => res4 (iblk m c 0 t) (blk (V m c main_v0) (Ring.bk 16 t.val))
    | ⟨5, _⟩ => res5 (iblk m c 0 t) (blk (V m c main_v0) (Ring.bk 16 t.val))
    | ⟨6, _⟩ => res6 (iblk m c 0 t) (blk (V m c main_v0) (Ring.bk 16 t.val))
    | ⟨7, _⟩ => res7 (iblk m c 0 t) (blk (V m c main_v0) (Ring.bk 16 t.val))
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = res1 (iblk m c 0 t) (blk (V m c main_v0) (Ring.bk 16 t.val)) := by dsimp only [dats]
theorem after0_2 (c : Dev nD) (t : Fin cfg0.N) : (dats m 0 c).after 2 t = res2 (iblk m c 0 t) (blk (V m c main_v0) (Ring.bk 16 t.val)) := by dsimp only [dats]
theorem after0_3 (c : Dev nD) (t : Fin cfg0.N) : (dats m 0 c).after 3 t = res3 (iblk m c 0 t) (blk (V m c main_v0) (Ring.bk 16 t.val)) := by dsimp only [dats]
theorem after0_4 (c : Dev nD) (t : Fin cfg0.N) : (dats m 0 c).after 4 t = res4 (iblk m c 0 t) (blk (V m c main_v0) (Ring.bk 16 t.val)) := by dsimp only [dats]
theorem after0_5 (c : Dev nD) (t : Fin cfg0.N) : (dats m 0 c).after 5 t = res5 (iblk m c 0 t) (blk (V m c main_v0) (Ring.bk 16 t.val)) := by dsimp only [dats]
theorem after0_6 (c : Dev nD) (t : Fin cfg0.N) : (dats m 0 c).after 6 t = res6 (iblk m c 0 t) (blk (V m c main_v0) (Ring.bk 16 t.val)) := by dsimp only [dats]
theorem after0_7 (c : Dev nD) (t : Fin cfg0.N) : (dats m 0 c).after 7 t = res7 (iblk m c 0 t) (blk (V m c main_v0) (Ring.bk 16 t.val)) := by dsimp only [dats]
theorem before0_0 (c : Dev nD) (t : Fin cfg0.N) (d) : (dats m 0 c).before 0 t d = iblk m c 0 t :=
  before0_0_of m (dats m 0 c) (A_eq m c 0) (after0_0 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem off_zero : ∀ a : Fin 3, (![0, 0, 0] : Fin 3 → ℕ) a = 0 := by decide

set_option maxHeartbeats 4000000 in
/-- The body at any point: the point's role says which of the three runs applies and which pieces of the ring it takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1, after0_2, after0_3, after0_4, after0_5, after0_6, after0_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt
  have hgN : grid0.N = 16 := N_0
  have hN : t.val < 16 := lt_of_lt_of_eq t.isLt (show cfg0.N = 16 from N_0)
  by_cases h0 : t.val = 0
  · have h1 : t.val < 14 := by omega
    rw [if_pos h0, if_neg (show ¬t.val + 1 = 0 by omega)]
    rw [Ring.At₀_eq3' _ _ _ t.val h0 (by decide : 3 ≤ 16), Ring.At3_one' _ _ _ _ t.val h0 (by decide : 3 ≤ 16)]
    iintro ⟨⟨Hg, ⟨⟨-, Hp0, Hp1, Hp2⟩, HS⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((run_A c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (V m c main_v0)).2.2.2.2.2.2.2 W _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hp0]; · iexact Hp0
    isplitl [Hp1]; · iexact Hp1
    isplitl [Hp2]; · iexact Hp2
    isplitl [HW]; · iexact HW
    iintro ⟨H0, ⟨%e1, H1⟩, ⟨%e2, H2⟩, ⟨%e3, H3⟩, ⟨%e4, H4⟩, ⟨%e5, H5⟩, ⟨%e6, H6⟩, ⟨%e7, H7⟩, Ha, Hb, Hd, ⟨%W', HW'⟩⟩
    isplitl [Hg HS Ha Hb Hd]
    · isplitl [Hg]; · iexact Hg
      isplitl [Ha Hb Hd]
      · iapply (Ring.with_homes (Idealize.SL.BI.Entails.refl _))
        isplitl [Ha]; · iexact Ha
        isplitl [Hb]; · iexact Hb
        iexact Hd
      iexact HS
    isplitl [HW']
    · iexists W'; isplitr; · ipureintro; exact fun _ _ => Or.inl trivial
      iexact HW'
    isplitl [H0]; · iexact H0
    isplitl [H1]
    · unfold owns; iexists _; isplitr; swap; · iexact H1
      ipureintro; exact read_store' _ _ off_zero _ _ (A_out1 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (V m c main_v0))
    isplitl [H2]
    · unfold owns; iexists _; isplitr; swap; · iexact H2
      ipureintro; exact read_store' _ _ off_zero _ _ (A_out2 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (V m c main_v0))
    isplitl [H3]
    · unfold owns; iexists _; isplitr; swap; · iexact H3
      ipureintro; exact read_store' _ _ off_zero _ _ (A_out3 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (V m c main_v0))
    isplitl [H4]
    · unfold owns; iexists _; isplitr; swap; · iexact H4
      ipureintro; exact read_store' _ _ off_zero _ _ (A_out4 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (V m c main_v0))
    isplitl [H5]
    · unfold owns; iexists _; isplitr; swap; · iexact H5
      ipureintro; exact read_store' _ _ off_zero _ _ (A_out5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (V m c main_v0))
    isplitl [H6]
    · unfold owns; iexists _; isplitr; swap; · iexact H6
      ipureintro; exact read_store' _ _ off_zero _ _ (A_out6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (V m c main_v0))
    unfold owns; iexists _; isplitr; swap; · iexact H7
    ipureintro; exact read_store' _ _ off_zero _ _ (A_out7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (V m c main_v0))
  by_cases h1 : t.val < 14
  · have hB : t.val + 2 < 16 := by omega
    rw [if_neg h0, if_neg (show ¬t.val + 1 = 0 by omega)]
    rw [Ring.At3_here _ _ _ _ t.val hB, Ring.At3_next _ _ _ _ t.val hB, Ring.slotAt3_next0 _ _ _ t.val (by omega), Ring.slotAt3_next1 _ _ _ t.val hB]
    iintro ⟨⟨Hg, ⟨⟨-, Hp0, Hp1, Hp2⟩, HS⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((run_B c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (V m c main_v0)).2.2.2.2.2.2.2 W _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hp0]; · iexact Hp0
    isplitl [Hp1]; · iexact Hp1
    isplitl [Hp2]; · iexact Hp2
    isplitl [HW]; · iexact HW
    iintro ⟨H0, ⟨%e1, H1⟩, ⟨%e2, H2⟩, ⟨%e3, H3⟩, ⟨%e4, H4⟩, ⟨%e5, H5⟩, ⟨%e6, H6⟩, ⟨%e7, H7⟩, Ha, Hb, Hd, ⟨%W', HW'⟩⟩
    isplitl [Hg HS Ha Hb Hd]
    · isplitl [Hg]; · iexact Hg
      isplitl [Ha Hb Hd]
      · iapply (Ring.with_homes (Idealize.SL.BI.Entails.refl _))
        isplitl [Ha]; · iexact Ha
        isplitl [Hb]; · iexact Hb
        iexact Hd
      iexact HS
    isplitl [HW']
    · iexists W'; isplitr; · ipureintro; exact fun _ _ => Or.inl trivial
      iexact HW'
    isplitl [H0]; · iexact H0
    isplitl [H1]
    · unfold owns; iexists _; isplitr; swap; · iexact H1
      ipureintro; exact read_store' _ _ off_zero _ _ (B_out1 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (V m c main_v0))
    isplitl [H2]
    · unfold owns; iexists _; isplitr; swap; · iexact H2
      ipureintro; exact read_store' _ _ off_zero _ _ (B_out2 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (V m c main_v0))
    isplitl [H3]
    · unfold owns; iexists _; isplitr; swap; · iexact H3
      ipureintro; exact read_store' _ _ off_zero _ _ (B_out3 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (V m c main_v0))
    isplitl [H4]
    · unfold owns; iexists _; isplitr; swap; · iexact H4
      ipureintro; exact read_store' _ _ off_zero _ _ (B_out4 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (V m c main_v0))
    isplitl [H5]
    · unfold owns; iexists _; isplitr; swap; · iexact H5
      ipureintro; exact read_store' _ _ off_zero _ _ (B_out5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (V m c main_v0))
    isplitl [H6]
    · unfold owns; iexists _; isplitr; swap; · iexact H6
      ipureintro; exact read_store' _ _ off_zero _ _ (B_out6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (V m c main_v0))
    unfold owns; iexists _; isplitr; swap; · iexact H7
    ipureintro; exact read_store' _ _ off_zero _ _ (B_out7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (V m c main_v0))
  have hB : 16 ≤ t.val + 2 := by omega
  rw [if_neg h0, if_neg (show ¬t.val + 1 = 0 by omega)]
  rw [Ring.At3_here_tail _ _ _ _ t.val hN, Ring.At3_next_tail _ _ _ _ t.val hB hN, Ring.slotAt3_tail_role _ _ _ t.val]
  iintro ⟨⟨Hg, ⟨⟨-, Hp0, Hp1, Hp2⟩, HS⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((run_C c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (V m c main_v0)).2.2.2.2.2.2.2 W _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [Hp0]; · iexact Hp0
  isplitl [Hp1]; · iexact Hp1
  isplitl [Hp2]; · iexact Hp2
  isplitl [HW]; · iexact HW
  iintro ⟨H0, ⟨%e1, H1⟩, ⟨%e2, H2⟩, ⟨%e3, H3⟩, ⟨%e4, H4⟩, ⟨%e5, H5⟩, ⟨%e6, H6⟩, ⟨%e7, H7⟩, Ha, Hb, Hd, ⟨%W', HW'⟩⟩
  isplitl [Hg HS Ha Hb Hd]
  · isplitl [Hg]; · iexact Hg
    isplitl [Ha Hb Hd]
    · iapply (Ring.with_homes (Idealize.SL.BI.Entails.refl _))
      isplitl [Ha]; · iexact Ha
      isplitl [Hb]; · iexact Hb
      iexact Hd
    iexact HS
  isplitl [HW']
  · iexists W'; isplitr; · ipureintro; exact fun _ _ => Or.inl trivial
    iexact HW'
  isplitl [H0]; · iexact H0
  isplitl [H1]
  · unfold owns; iexists _; isplitr; swap; · iexact H1
    ipureintro; exact read_store' _ _ off_zero _ _ (C_out1 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (V m c main_v0))
  isplitl [H2]
  · unfold owns; iexists _; isplitr; swap; · iexact H2
    ipureintro; exact read_store' _ _ off_zero _ _ (C_out2 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (V m c main_v0))
  isplitl [H3]
  · unfold owns; iexists _; isplitr; swap; · iexact H3
    ipureintro; exact read_store' _ _ off_zero _ _ (C_out3 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (V m c main_v0))
  isplitl [H4]
  · unfold owns; iexists _; isplitr; swap; · iexact H4
    ipureintro; exact read_store' _ _ off_zero _ _ (C_out4 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (V m c main_v0))
  isplitl [H5]
  · unfold owns; iexists _; isplitr; swap; · iexact H5
    ipureintro; exact read_store' _ _ off_zero _ _ (C_out5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (V m c main_v0))
  isplitl [H6]
  · unfold owns; iexists _; isplitr; swap; · iexact H6
    ipureintro; exact read_store' _ _ off_zero _ _ (C_out6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (V m c main_v0))
  unfold owns; iexists _; isplitr; swap; · iexact H7
  ipureintro; exact read_store' _ _ off_zero _ _ (C_out7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (V m c main_v0))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR, Hg, ⟨Hq0, Hq1, Hq2, Hq3, Hq4, Hq5, Hq6, Hq7, Hq8, Hq9, Hq10, Hq11⟩, Hh⟩
  isplitl [Hg]; · iexact Hg
  iapply (ring_in (F := F) m c)
  isplitl [HR]; · iexact HR
  isplitl [Hq0 Hq1 Hq2 Hq3 Hq4 Hq5 Hq6 Hq7 Hq8 Hq9 Hq10 Hq11]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    iexact Hq11
  iexact Hh
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 16 by rw [N_0]]
  iintro ⟨Hg, HR⟩
  ihave HX := (ring_out (F := F) m c) $$ HR
  icases HX with ⟨HR, ⟨Hq0, Hq1, Hq2, Hq3, Hq4, Hq5, Hq6, Hq7, Hq8, Hq9, Hq10, Hq11⟩, Hh⟩
  isplitl [HR]; · iexact HR
  isplitl [Hg]; · iexact Hg
  isplitl [Hq0 Hq1 Hq2 Hq3 Hq4 Hq5 Hq6 Hq7 Hq8 Hq9 Hq10 Hq11]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    iexact Hq11
  iexact Hh

set_option backward.isDefEq.respectTransparency.types false in
set_option maxHeartbeats 800000 in
/-- The run: every array of the pipeline ends at what the proof data says, every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
 ∧       r.2.mem ((c.tc : Thread nD τ).loc main_arg1) = m ((c.tc : Thread nD τ).loc main_arg1)
 ∧       r.2.mem ((c.tc : Thread nD τ).loc main_arg2) = m ((c.tc : Thread nD τ).loc main_arg2)
 ∧       r.2.mem ((c.tc : Thread nD τ).loc main_arg3) = m ((c.tc : Thread nD τ).loc main_arg3)
 ∧       r.2.mem ((c.tc : Thread nD τ).loc main_arg4) = m ((c.tc : Thread nD τ).loc main_arg4))
      ∧ r.2.sem = fun _ => 0) :=
  (θ_run defs _ _).mono (fun _ h => ⟨fun c => args_of m (dats m) h.1 c, h.2⟩) (run_main m ρ)

end Cert.KernelIdeal.Ring3
-- ==== Proof.Ref3.lean ====
module

public import proofs.«01_k».proof.Proof.Gen.ReferenceIdeal
public import Idealize.ShloMosaic.Lib.StableHlo.Run
public import Idealize.ShloMosaic.Lib.Pipeline.Frame

/- The reference's run. Its `main` is a straight line of host operations. They stand here as seven lists, cut where a
   quantity that has a name is ready; what each list leaves is a function of what it found, given as a definition; and
   the lists are put together to the run at the end. -/

@[expose] public section

noncomputable section
namespace Cert.ReferenceIdeal.Ref3

open Cert.ReferenceIdeal Cert.ReferenceIdeal.Gen Idealize.ShloMosaic Idealize.ShloMosaic.TcCoe Idealize.SL.Sem Idealize.ShloMosaic.StableHlo

variable {F : FTy → Type} [FloatOps F]

/-- An array of the host's. -/
abbrev C (s : Shape) (e : EltTy) : Type := (⟨s, e⟩ : BufTy).Contents (Elt F)

/-- The device's name of one of `main`'s buffers. -/
abbrev dv (r : Ref sig .tc) : DevRef τ sig := Proc.devRef .tc r

/-- Two columns of row numbers side by side. -/
def pairCols : C (F := F) S32768x1 .i32 → C (F := F) S32768x1 .i32 → C (F := F) S32768x2 .i32 :=
  fun a b => concatenate S32768x2 1 [⟨S32768x1, a⟩, ⟨S32768x1, b⟩] concatenates_S32768x1_S32768x1_S32768x2_d1

/-- Operations of `main`: the mean and the deviation of a sample, and the sample brought to mean 0 and deviation 1. -/
abbrev opsA : List (HloOp τ sig (Elt F)) :=
  [ nullary main_cst (constant S_ .f32 0x00000000#32),
    binary main_arg0 main_cst main_v0 ((fun x v => Host.reduceAdd x v reducesTo_S16x96x2048x1_S16x1_d1_2 h_S_) : C (F := F) S16x96x2048x1 .f32 → C (F := F) S_ .f32 → C (F := F) S16x1 .f32),
    unary main_v0 main_v1 (broadcastInDim S16x1x1x1 ![0, 3] bcast_S16x1_S16x1x1x1_0_3 : C (F := F) S16x1 .f32 → C (F := F) S16x1x1x1 .f32),
    nullary main_cst_0 (constant S_ .f32 0x48400000#32),
    unary main_cst_0 main_v2 (broadcastInDim S16x1x1x1 ![] bcast_S_S16x1x1x1 : C (F := F) S_ .f32 → C (F := F) S16x1x1x1 .f32),
    binary main_v1 main_v2 main_v3 (Host.divf : C (F := F) S16x1x1x1 .f32 → C (F := F) S16x1x1x1 .f32 → C (F := F) S16x1x1x1 .f32),
    unary main_v3 main_v4 (broadcastInDim S16x96x2048x1 ![0, 1, 2, 3] bcast_S16x1x1x1_S16x96x2048x1_0_1_2_3 : C (F := F) S16x1x1x1 .f32 → C (F := F) S16x96x2048x1 .f32),
    binary main_arg0 main_v4 main_v5 (subf : C (F := F) S16x96x2048x1 .f32 → C (F := F) S16x96x2048x1 .f32 → C (F := F) S16x96x2048x1 .f32),
    nullary main_c (constantI S_ 32 0#32),
    TRef.nullary (TRef.of (T := ⟨S_, .f32⟩) main_call0_cst) (constant S_ .f32 0x00000000#32),
    TRef.binary (TRef.of (T := ⟨S16x96x2048x1, .f32⟩) main_v5) (TRef.of (T := ⟨S_, .f32⟩) main_call0_cst) (TRef.of (T := ⟨S16x1, .f32⟩) main_call0_v0) (fun x v => Host.reduceAdd x v reducesTo_S16x96x2048x1_S16x1_d1_2 h_S_),
    TRef.unary (TRef.of (T := ⟨S16x1, .f32⟩) main_call0_v0) (TRef.of (T := ⟨S16x1x1x1, .f32⟩) main_call0_v1) (broadcastInDim S16x1x1x1 ![0, 3] bcast_S16x1_S16x1x1x1_0_3),
    TRef.nullary (TRef.of (T := ⟨S_, .f32⟩) main_call0_cst_0) (constant S_ .f32 0x48400000#32),
    TRef.unary (TRef.of (T := ⟨S_, .f32⟩) main_call0_cst_0) (TRef.of (T := ⟨S16x1x1x1, .f32⟩) main_call0_v2) (broadcastInDim S16x1x1x1 ![] bcast_S_S16x1x1x1),
    TRef.binary (TRef.of (T := ⟨S16x1x1x1, .f32⟩) main_call0_v1) (TRef.of (T := ⟨S16x1x1x1, .f32⟩) main_call0_v2) (TRef.of (T := ⟨S16x1x1x1, .f32⟩) main_call0_v3) Host.divf,
    TRef.unary (TRef.of (T := ⟨S16x1x1x1, .f32⟩) main_call0_v3) (TRef.of (T := ⟨S16x96x2048x1, .f32⟩) main_call0_v4) (broadcastInDim S16x96x2048x1 ![0, 1, 2, 3] bcast_S16x1x1x1_S16x96x2048x1_0_1_2_3),
    TRef.binary (TRef.of (T := ⟨S16x96x2048x1, .f32⟩) main_v5) (TRef.of (T := ⟨S16x96x2048x1, .f32⟩) main_call0_v4) (TRef.of (T := ⟨S16x96x2048x1, .f32⟩) main_call0_v5) subf,
    TRef.binary (TRef.of (T := ⟨S16x96x2048x1, .f32⟩) main_call0_v5) (TRef.of (T := ⟨S16x96x2048x1, .f32⟩) main_call0_v5) (TRef.of (T := ⟨S16x96x2048x1, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x48400000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S16x96x2048x1, .f32⟩) main_call0_v6) (TRef.of (T := ⟨S_, .f32⟩) main_call0_cst_2) (TRef.of (T := ⟨S16x1, .f32⟩) main_call0_v9) (fun x v => Host.reduceAdd x v reducesTo_S16x96x2048x1_S16x1_d1_2 h_S_),
    TRef.unary (TRef.of (T := ⟨S16x1, .f32⟩) main_call0_v9) (TRef.of (T := ⟨S16x1x1x1, .f32⟩) main_call0_v10) (broadcastInDim S16x1x1x1 ![0, 3] bcast_S16x1_S16x1x1x1_0_3),
    TRef.unary (TRef.of (T := ⟨S_, .f32⟩) main_call0_v8) (TRef.of (T := ⟨S16x1x1x1, .f32⟩) main_call0_v11) (broadcastInDim S16x1x1x1 ![] bcast_S_S16x1x1x1),
    TRef.binary (TRef.of (T := ⟨S16x1x1x1, .f32⟩) main_call0_v10) (TRef.of (T := ⟨S16x1x1x1, .f32⟩) main_call0_v11) (TRef.of (T := ⟨S16x1x1x1, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S16x1x1x1, .f32⟩) main_call0_call0_v1) (broadcastInDim S16x1x1x1 ![] bcast_S_S16x1x1x1),
    TRef.ternary (TRef.of (T := ⟨S_, .i1⟩) main_call0_v13) (TRef.of (T := ⟨S16x1x1x1, .f32⟩) main_call0_v12) (TRef.of (T := ⟨S16x1x1x1, .f32⟩) main_call0_call0_v1) (TRef.of (T := ⟨S16x1x1x1, .f32⟩) main_v6) (fun p a b => select (broadcastInDim S16x1x1x1 ![] bcast_S_S16x1x1x1 p) a b),
    nullary main_cst_1 (constant S_ .f32 0x3727C5AC#32),
    unary main_cst_1 main_v7 (broadcastInDim S16x1x1x1 ![] bcast_S_S16x1x1x1 : C (F := F) S_ .f32 → C (F := F) S16x1x1x1 .f32),
    binary main_v6 main_v7 main_v8 (addf : C (F := F) S16x1x1x1 .f32 → C (F := F) S16x1x1x1 .f32 → C (F := F) S16x1x1x1 .f32),
    unary main_v8 main_v9 (Host.sqrt : C (F := F) S16x1x1x1 .f32 → C (F := F) S16x1x1x1 .f32),
    unary main_v9 main_v10 (broadcastInDim S16x96x2048x1 ![0, 1, 2, 3] bcast_S16x1x1x1_S16x96x2048x1_0_1_2_3 : C (F := F) S16x1x1x1 .f32 → C (F := F) S16x96x2048x1 .f32),
    binary main_v5 main_v10 main_v11 (Host.divf : C (F := F) S16x96x2048x1 .f32 → C (F := F) S16x96x2048x1 .f32 → C (F := F) S16x96x2048x1 .f32) ]

/-- Operations of `main`: the same over time, for every place, and the places as rows. -/
abbrev opsB : List (HloOp τ sig (Elt F)) :=
  [ nullary main_cst_2 (constant S_ .f32 0x00000000#32),
    binary main_v11 main_cst_2 main_v12 ((fun x v => Host.reduceAdd x v reducesTo_S16x96x2048x1_S16x2048x1_d1 h_S_) : C (F := F) S16x96x2048x1 .f32 → C (F := F) S_ .f32 → C (F := F) S16x2048x1 .f32),
    unary main_v12 main_v13 (broadcastInDim S16x1x2048x1 ![0, 2, 3] bcast_S16x2048x1_S16x1x2048x1_0_2_3 : C (F := F) S16x2048x1 .f32 → C (F := F) S16x1x2048x1 .f32),
    nullary main_cst_3 (constant S_ .f32 0x42C00000#32),
    unary main_cst_3 main_v14 (broadcastInDim S16x1x2048x1 ![] bcast_S_S16x1x2048x1 : C (F := F) S_ .f32 → C (F := F) S16x1x2048x1 .f32),
    binary main_v13 main_v14 main_v15 (Host.divf : C (F := F) S16x1x2048x1 .f32 → C (F := F) S16x1x2048x1 .f32 → C (F := F) S16x1x2048x1 .f32),
    unary main_v15 main_v16 (broadcastInDim S16x96x2048x1 ![0, 1, 2, 3] bcast_S16x1x2048x1_S16x96x2048x1_0_1_2_3 : C (F := F) S16x1x2048x1 .f32 → C (F := F) S16x96x2048x1 .f32),
    binary main_v11 main_v16 main_v17 (subf : C (F := F) S16x96x2048x1 .f32 → C (F := F) S16x96x2048x1 .f32 → C (F := F) S16x96x2048x1 .f32),
    nullary main_c_4 (constantI S_ 32 0#32),
    TRef.nullary (TRef.of (T := ⟨S_, .f32⟩) main_call1_cst) (constant S_ .f32 0x00000000#32),
    TRef.binary (TRef.of (T := ⟨S16x96x2048x1, .f32⟩) main_v17) (TRef.of (T := ⟨S_, .f32⟩) main_call1_cst) (TRef.of (T := ⟨S16x2048x1, .f32⟩) main_call1_v0) (fun x v => Host.reduceAdd x v reducesTo_S16x96x2048x1_S16x2048x1_d1 h_S_),
    TRef.unary (TRef.of (T := ⟨S16x2048x1, .f32⟩) main_call1_v0) (TRef.of (T := ⟨S16x1x2048x1, .f32⟩) main_call1_v1) (broadcastInDim S16x1x2048x1 ![0, 2, 3] bcast_S16x2048x1_S16x1x2048x1_0_2_3),
    TRef.nullary (TRef.of (T := ⟨S_, .f32⟩) main_call1_cst_0) (constant S_ .f32 0x42C00000#32),
    TRef.unary (TRef.of (T := ⟨S_, .f32⟩) main_call1_cst_0) (TRef.of (T := ⟨S16x1x2048x1, .f32⟩) main_call1_v2) (broadcastInDim S16x1x2048x1 ![] bcast_S_S16x1x2048x1),
    TRef.binary (TRef.of (T := ⟨S16x1x2048x1, .f32⟩) main_call1_v1) (TRef.of (T := ⟨S16x1x2048x1, .f32⟩) main_call1_v2) (TRef.of (T := ⟨S16x1x2048x1, .f32⟩) main_call1_v3) Host.divf,
    TRef.unary (TRef.of (T := ⟨S16x1x2048x1, .f32⟩) main_call1_v3) (TRef.of (T := ⟨S16x96x2048x1, .f32⟩) main_call1_v4) (broadcastInDim S16x96x2048x1 ![0, 1, 2, 3] bcast_S16x1x2048x1_S16x96x2048x1_0_1_2_3),
    TRef.binary (TRef.of (T := ⟨S16x96x2048x1, .f32⟩) main_v17) (TRef.of (T := ⟨S16x96x2048x1, .f32⟩) main_call1_v4) (TRef.of (T := ⟨S16x96x2048x1, .f32⟩) main_call1_v5) subf,
    TRef.binary (TRef.of (T := ⟨S16x96x2048x1, .f32⟩) main_call1_v5) (TRef.of (T := ⟨S16x96x2048x1, .f32⟩) main_call1_v5) (TRef.of (T := ⟨S16x96x2048x1, .f32⟩) main_call1_v6) mulf,
    TRef.unary (TRef.of (T := ⟨S_, .i32⟩) main_c_4) (TRef.of (T := ⟨S_, .f32⟩) main_call1_v7) (sitofp .f32),
    TRef.nullary (TRef.of (T := ⟨S_, .f32⟩) main_call1_cst_1) (constant S_ .f32 0x42C00000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S16x96x2048x1, .f32⟩) main_call1_v6) (TRef.of (T := ⟨S_, .f32⟩) main_call1_cst_2) (TRef.of (T := ⟨S16x2048x1, .f32⟩) main_call1_v9) (fun x v => Host.reduceAdd x v reducesTo_S16x96x2048x1_S16x2048x1_d1 h_S_),
    TRef.unary (TRef.of (T := ⟨S16x2048x1, .f32⟩) main_call1_v9) (TRef.of (T := ⟨S16x1x2048x1, .f32⟩) main_call1_v10) (broadcastInDim S16x1x2048x1 ![0, 2, 3] bcast_S16x2048x1_S16x1x2048x1_0_2_3),
    TRef.unary (TRef.of (T := ⟨S_, .f32⟩) main_call1_v8) (TRef.of (T := ⟨S16x1x2048x1, .f32⟩) main_call1_v11) (broadcastInDim S16x1x2048x1 ![] bcast_S_S16x1x2048x1),
    TRef.binary (TRef.of (T := ⟨S16x1x2048x1, .f32⟩) main_call1_v10) (TRef.of (T := ⟨S16x1x2048x1, .f32⟩) main_call1_v11) (TRef.of (T := ⟨S16x1x2048x1, .f32⟩) main_call1_v12) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v13) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S16x1x2048x1, .f32⟩) main_call1_call0_v1) (broadcastInDim S16x1x2048x1 ![] bcast_S_S16x1x2048x1),
    TRef.ternary (TRef.of (T := ⟨S_, .i1⟩) main_call1_v13) (TRef.of (T := ⟨S16x1x2048x1, .f32⟩) main_call1_v12) (TRef.of (T := ⟨S16x1x2048x1, .f32⟩) main_call1_call0_v1) (TRef.of (T := ⟨S16x1x2048x1, .f32⟩) main_v18) (fun p a b => select (broadcastInDim S16x1x2048x1 ![] bcast_S_S16x1x2048x1 p) a b),
    nullary main_cst_5 (constant S_ .f32 0x3727C5AC#32),
    unary main_cst_5 main_v19 (broadcastInDim S16x1x2048x1 ![] bcast_S_S16x1x2048x1 : C (F := F) S_ .f32 → C (F := F) S16x1x2048x1 .f32),
    binary main_v18 main_v19 main_v20 (addf : C (F := F) S16x1x2048x1 .f32 → C (F := F) S16x1x2048x1 .f32 → C (F := F) S16x1x2048x1 .f32),
    unary main_v20 main_v21 (Host.sqrt : C (F := F) S16x1x2048x1 .f32 → C (F := F) S16x1x2048x1 .f32),
    unary main_v21 main_v22 (broadcastInDim S16x96x2048x1 ![0, 1, 2, 3] bcast_S16x1x2048x1_S16x96x2048x1_0_1_2_3 : C (F := F) S16x1x2048x1 .f32 → C (F := F) S16x96x2048x1 .f32),
    binary main_v17 main_v22 main_v23 (Host.divf : C (F := F) S16x96x2048x1 .f32 → C (F := F) S16x96x2048x1 .f32 → C (F := F) S16x96x2048x1 .f32),
    reshape main_v23 main_v24 (rfl : (.f32 : EltTy) = .f32) shapeCasts_S16x96x2048x1_S16x96x2048,
    unary main_v24 main_v25 ((transpose S16x2048x96 [0, 2, 1] · transposes_S16x96x2048_S16x2048x96_0_2_1) : C (F := F) S16x96x2048 .f32 → C (F := F) S16x2048x96 .f32) ]

/-- Operations of `main`: every expert's score and the place's choice. -/
abbrev opsC : List (HloOp τ sig (Elt F)) :=
  [ unary main_arg3 main_v26 ((transpose S96x16 [1, 0] · transposes_S16x96_S96x16_1_0) : C (F := F) S16x96 .f32 → C (F := F) S96x16 .f32),
    binary main_v25 main_v26 main_v27 ((fun l r => Host.dotGeneral dot_S16x2048x96_S96x16_S16x2048x16_2_0_01_1_n_n none l r) : C (F := F) S16x2048x96 .f32 → C (F := F) S96x16 .f32 → C (F := F) S16x2048x16 .f32),
    unary main_arg4 main_v28 (broadcastInDim S1x1x16 ![2] bcast_S16_S1x1x16_2 : C (F := F) S16 .f32 → C (F := F) S1x1x16 .f32),
    unary main_v28 main_v29 (broadcastInDim S16x2048x16 ![0, 1, 2] bcast_S1x1x16_S16x2048x16_0_1_2 : C (F := F) S1x1x16 .f32 → C (F := F) S16x2048x16 .f32),
    binary main_v27 main_v29 main_v30 (addf : C (F := F) S16x2048x16 .f32 → C (F := F) S16x2048x16 .f32 → C (F := F) S16x2048x16 .f32),
    TRef.nullary (TRef.of (T := ⟨S16x2048x16, .i32⟩) main_call2_v0) (iotaInDim S16x2048x16 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16x2048x16, .f32⟩) main_v30) (TRef.of (T := ⟨S16x2048x16, .i32⟩) main_call2_v0) (TRef.of (T := ⟨S_, .f32⟩) main_call2_cst) (TRef.of (T := ⟨S_, .i32⟩) main_call2_c) (TRef.of (T := ⟨S16x2048, .f32⟩) main_call2_v1_0) (fun x y u v j => (Host.argReduce reducer_argmax_f32_i32 x y u v reducesTo_S16x2048x16_S16x2048_d2 h_S_ j).1),
    TRef.quaternary (TRef.of (T := ⟨S16x2048x16, .f32⟩) main_v30) (TRef.of (T := ⟨S16x2048x16, .i32⟩) main_call2_v0) (TRef.of (T := ⟨S_, .f32⟩) main_call2_cst) (TRef.of (T := ⟨S_, .i32⟩) main_call2_c) (TRef.of (T := ⟨S16x2048, .i32⟩) main_v31) (fun x y u v j => (Host.argReduce reducer_argmax_f32_i32 x y u v reducesTo_S16x2048x16_S16x2048_d2 h_S_ j).2) ]

/-- Operations of `main`: every expert's answer. -/
abbrev opsD : List (HloOp τ sig (Elt F)) :=
  [ unary main_v25 main_v32 (broadcastInDim S16x2048x1x96 ![0, 1, 3] bcast_S16x2048x96_S16x2048x1x96_0_1_3 : C (F := F) S16x2048x96 .f32 → C (F := F) S16x2048x1x96 .f32),
    reshape main_arg1 main_v33 (rfl : (.f32 : EltTy) = .f32) shapeCasts_S16x1_S1x1x16x1,
    unary main_v32 main_v34 (broadcastInDim S16x2048x16x96 ![0, 1, 2, 3] bcast_S16x2048x1x96_S16x2048x16x96_0_1_2_3 : C (F := F) S16x2048x1x96 .f32 → C (F := F) S16x2048x16x96 .f32),
    unary main_v33 main_v35 (broadcastInDim S16x2048x16x96 ![0, 1, 2, 3] bcast_S1x1x16x1_S16x2048x16x96_0_1_2_3 : C (F := F) S1x1x16x1 .f32 → C (F := F) S16x2048x16x96 .f32),
    binary main_v34 main_v35 main_v36 (mulf : C (F := F) S16x2048x16x96 .f32 → C (F := F) S16x2048x16x96 .f32 → C (F := F) S16x2048x16x96 .f32),
    reshape main_arg2 main_v37 (rfl : (.f32 : EltTy) = .f32) shapeCasts_S16x1_S1x1x16x1,
    unary main_v37 main_v38 (broadcastInDim S16x2048x16x96 ![0, 1, 2, 3] bcast_S1x1x16x1_S16x2048x16x96_0_1_2_3 : C (F := F) S1x1x16x1 .f32 → C (F := F) S16x2048x16x96 .f32),
    binary main_v36 main_v38 main_v39 (addf : C (F := F) S16x2048x16x96 .f32 → C (F := F) S16x2048x16x96 .f32 → C (F := F) S16x2048x16x96 .f32),
    reshape main_v39 main_v40 (rfl : (.f32 : EltTy) = .f32) shapeCasts_S16x2048x16x96_S32768x16x96 ]

/-- Operations of `main`: the choice as a row number, and the chosen weights. -/
abbrev opsE : List (HloOp τ sig (Elt F)) :=
  [ reshape main_v31 main_v41 (rfl : (.i32 : EltTy) = .i32) shapeCasts_S16x2048_S32768,
    nullary main_c_6 (constantI S_ 32 0#32),
    unary main_c_6 main_v42 (broadcastInDim S32768 ![] bcast_S_S32768 : C (F := F) S_ .i32 → C (F := F) S32768 .i32),
    binary main_v41 main_v42 main_v43 (cmpi .slt : C (F := F) S32768 .i32 → C (F := F) S32768 .i32 → C (F := F) S32768 .i1),
    nullary main_c_7 (constantI S_ 32 16#32),
    unary main_c_7 main_v44 (broadcastInDim S32768 ![] bcast_S_S32768 : C (F := F) S_ .i32 → C (F := F) S32768 .i32),
    binary main_v41 main_v44 main_v45 (addi : C (F := F) S32768 .i32 → C (F := F) S32768 .i32 → C (F := F) S32768 .i32),
    ternary main_v43 main_v45 main_v41 main_v46 (select : C (F := F) S32768 .i1 → C (F := F) S32768 .i32 → C (F := F) S32768 .i32 → C (F := F) S32768 .i32),
    unary main_v46 main_v47 (broadcastInDim S32768x1 ![0] bcast_S32768_S32768x1_0 : C (F := F) S32768 .i32 → C (F := F) S32768x1 .i32),
    binary main_arg1 main_v47 main_v48 ((fun x i => Host.gather gather_S16x1_S32768x1_S32768x1_1_0_n_n_0_1_11 x i) : C (F := F) S16x1 .f32 → C (F := F) S32768x1 .i32 → C (F := F) S32768x1 .f32),
    reshape main_v48 main_v49 (rfl : (.f32 : EltTy) = .f32) shapeCasts_S32768x1_S16x2048 ]

/-- Operations of `main`: the chosen offsets. -/
abbrev opsG : List (HloOp τ sig (Elt F)) :=
  [ unary main_v49 main_v50 (broadcastInDim S16x1x2048x1 ![0, 2] bcast_S16x2048_S16x1x2048x1_0_2 : C (F := F) S16x2048 .f32 → C (F := F) S16x1x2048x1 .f32),
    nullary main_c_8 (constantI S_ 32 0#32),
    unary main_c_8 main_v51 (broadcastInDim S32768 ![] bcast_S_S32768 : C (F := F) S_ .i32 → C (F := F) S32768 .i32),
    binary main_v41 main_v51 main_v52 (cmpi .slt : C (F := F) S32768 .i32 → C (F := F) S32768 .i32 → C (F := F) S32768 .i1),
    nullary main_c_9 (constantI S_ 32 16#32),
    unary main_c_9 main_v53 (broadcastInDim S32768 ![] bcast_S_S32768 : C (F := F) S_ .i32 → C (F := F) S32768 .i32),
    binary main_v41 main_v53 main_v54 (addi : C (F := F) S32768 .i32 → C (F := F) S32768 .i32 → C (F := F) S32768 .i32),
    ternary main_v52 main_v54 main_v41 main_v55 (select : C (F := F) S32768 .i1 → C (F := F) S32768 .i32 → C (F := F) S32768 .i32 → C (F := F) S32768 .i32),
    unary main_v55 main_v56 (broadcastInDim S32768x1 ![0] bcast_S32768_S32768x1_0 : C (F := F) S32768 .i32 → C (F := F) S32768x1 .i32),
    binary main_arg2 main_v56 main_v57 ((fun x i => Host.gather gather_S16x1_S32768x1_S32768x1_1_0_n_n_0_1_11 x i) : C (F := F) S16x1 .f32 → C (F := F) S32768x1 .i32 → C (F := F) S32768x1 .f32),
    reshape main_v57 main_v58 (rfl : (.f32 : EltTy) = .f32) shapeCasts_S32768x1_S16x2048,
    unary main_v58 main_v59 (broadcastInDim S16x1x2048x1 ![0, 2] bcast_S16x2048_S16x1x2048x1_0_2 : C (F := F) S16x2048 .f32 → C (F := F) S16x1x2048x1 .f32) ]

/-- Operations of `main`: the chosen expert's answer. -/
abbrev opsH : List (HloOp τ sig (Elt F)) :=
  [ nullary main_v60 (iotaInDim S32768 32 0),
    nullary main_c_10 (constantI S_ 32 0#32),
    unary main_c_10 main_v61 (broadcastInDim S32768 ![] bcast_S_S32768 : C (F := F) S_ .i32 → C (F := F) S32768 .i32),
    binary main_v60 main_v61 main_v62 (cmpi .slt : C (F := F) S32768 .i32 → C (F := F) S32768 .i32 → C (F := F) S32768 .i1),
    nullary main_c_11 (constantI S_ 32 32768#32),
    unary main_c_11 main_v63 (broadcastInDim S32768 ![] bcast_S_S32768 : C (F := F) S_ .i32 → C (F := F) S32768 .i32),
    binary main_v60 main_v63 main_v64 (addi : C (F := F) S32768 .i32 → C (F := F) S32768 .i32 → C (F := F) S32768 .i32),
    ternary main_v62 main_v64 main_v60 main_v65 (select : C (F := F) S32768 .i1 → C (F := F) S32768 .i32 → C (F := F) S32768 .i32 → C (F := F) S32768 .i32),
    nullary main_c_12 (constantI S_ 32 0#32),
    unary main_c_12 main_v66 (broadcastInDim S32768 ![] bcast_S_S32768 : C (F := F) S_ .i32 → C (F := F) S32768 .i32),
    binary main_v41 main_v66 main_v67 (cmpi .slt : C (F := F) S32768 .i32 → C (F := F) S32768 .i32 → C (F := F) S32768 .i1),
    nullary main_c_13 (constantI S_ 32 16#32),
    unary main_c_13 main_v68 (broadcastInDim S32768 ![] bcast_S_S32768 : C (F := F) S_ .i32 → C (F := F) S32768 .i32),
    binary main_v41 main_v68 main_v69 (addi : C (F := F) S32768 .i32 → C (F := F) S32768 .i32 → C (F := F) S32768 .i32),
    ternary main_v67 main_v69 main_v41 main_v70 (select : C (F := F) S32768 .i1 → C (F := F) S32768 .i32 → C (F := F) S32768 .i32 → C (F := F) S32768 .i32),
    unary main_v65 main_v71 (broadcastInDim S32768x1 ![0] bcast_S32768_S32768x1_0 : C (F := F) S32768 .i32 → C (F := F) S32768x1 .i32),
    unary main_v70 main_v72 (broadcastInDim S32768x1 ![0] bcast_S32768_S32768x1_0 : C (F := F) S32768 .i32 → C (F := F) S32768x1 .i32),
    binary main_v71 main_v72 main_v73 (pairCols (F := F)),
    binary main_v40 main_v73 main_v74 ((fun x i => Host.gather gather_S32768x16x96_S32768x2_S32768x96_1_01_n_n_01_1_1196 x i) : C (F := F) S32768x16x96 .f32 → C (F := F) S32768x2 .i32 → C (F := F) S32768x96 .f32),
    reshape main_v74 main_v75 (rfl : (.f32 : EltTy) = .f32) shapeCasts_S32768x96_S16x2048x96,
    unary main_v75 main_v76 ((transpose S16x96x2048 [0, 2, 1] · transposes_S16x2048x96_S16x96x2048_0_2_1) : C (F := F) S16x2048x96 .f32 → C (F := F) S16x96x2048 .f32),
    unary main_v76 main_v77 (broadcastInDim S16x96x2048x1 ![0, 1, 2] bcast_S16x96x2048_S16x96x2048x1_0_1_2 : C (F := F) S16x96x2048 .f32 → C (F := F) S16x96x2048x1 .f32) ]

set_option maxRecDepth 8192

/-- What `opsA` writes. -/
abbrev wrA : List (Ref sig .tc) :=
  [main_cst, main_v0, main_v1, main_cst_0, main_v2, main_v3, main_v4, main_v5, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v6, main_cst_1, main_v7, main_v8, main_v9, main_v10, main_v11]

theorem subA : (opsA : List (HloOp τ sig (Elt F))).Forall fun op => op.bufs ⊆ tcRefs τ sig :=
  ⟨nullary_bufs_sub .., binary_bufs_sub .., unary_bufs_sub .., nullary_bufs_sub .., unary_bufs_sub ..,
    binary_bufs_sub .., unary_bufs_sub .., binary_bufs_sub .., nullary_bufs_sub .., nullary_bufs_sub ..,
    binary_bufs_sub .., unary_bufs_sub .., nullary_bufs_sub .., unary_bufs_sub .., binary_bufs_sub ..,
    unary_bufs_sub .., binary_bufs_sub .., binary_bufs_sub .., unary_bufs_sub .., nullary_bufs_sub ..,
    binary_bufs_sub .., nullary_bufs_sub .., binary_bufs_sub .., unary_bufs_sub .., unary_bufs_sub ..,
    binary_bufs_sub .., nullary_bufs_sub .., binary_bufs_sub .., nullary_bufs_sub .., unary_bufs_sub ..,
    unary_bufs_sub .., ternary_bufs_sub .., nullary_bufs_sub .., unary_bufs_sub .., binary_bufs_sub ..,
    unary_bufs_sub .., unary_bufs_sub .., binary_bufs_sub ..⟩

theorem freshA : (opsA : List (HloOp τ sig (Elt F))).Forall fun op => op.fresh = ∅ := by
  simp only [List.Forall]
  and_intros <;> rfl

theorem writesA : (opsA : List (HloOp τ sig (Elt F))).Forall fun op =>
    op.writes ⊆ (wrA.map (Proc.devRef (τ := τ) .tc)).toFinset := by
  simp only [List.Forall, nullary_writes, unary_writes, binary_writes, ternary_writes, quaternary_writes, reshape_writes,
    Finset.singleton_subset_iff, List.mem_toFinset]
  and_intros <;> exact List.mem_map_of_mem (by decide)

theorem keepA (W : Valuation τ sig (Elt F)) (r : Ref sig .tc) (h : r ∉ wrA) :
    after opsA W (dv r) = W (dv r) :=
  after_of_writes_sub opsA _ writesA h

/-- What `opsB` writes. -/
abbrev wrB : List (Ref sig .tc) :=
  [main_cst_2, main_v12, main_v13, main_cst_3, main_v14, main_v15, main_v16, main_v17, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v18, main_cst_5, main_v19, main_v20, main_v21, main_v22, main_v23, main_v24, main_v25]

theorem subB : (opsB : List (HloOp τ sig (Elt F))).Forall fun op => op.bufs ⊆ tcRefs τ sig :=
  ⟨nullary_bufs_sub .., binary_bufs_sub .., unary_bufs_sub .., nullary_bufs_sub .., unary_bufs_sub ..,
    binary_bufs_sub .., unary_bufs_sub .., binary_bufs_sub .., nullary_bufs_sub .., nullary_bufs_sub ..,
    binary_bufs_sub .., unary_bufs_sub .., nullary_bufs_sub .., unary_bufs_sub .., binary_bufs_sub ..,
    unary_bufs_sub .., binary_bufs_sub .., binary_bufs_sub .., unary_bufs_sub .., nullary_bufs_sub ..,
    binary_bufs_sub .., nullary_bufs_sub .., binary_bufs_sub .., unary_bufs_sub .., unary_bufs_sub ..,
    binary_bufs_sub .., nullary_bufs_sub .., binary_bufs_sub .., nullary_bufs_sub .., unary_bufs_sub ..,
    unary_bufs_sub .., ternary_bufs_sub .., nullary_bufs_sub .., unary_bufs_sub .., binary_bufs_sub ..,
    unary_bufs_sub .., unary_bufs_sub .., binary_bufs_sub .., reshape_bufs_sub .., unary_bufs_sub ..⟩

theorem freshB : (opsB : List (HloOp τ sig (Elt F))).Forall fun op => op.fresh = ∅ := by
  simp only [List.Forall]
  and_intros <;> rfl

theorem writesB : (opsB : List (HloOp τ sig (Elt F))).Forall fun op =>
    op.writes ⊆ (wrB.map (Proc.devRef (τ := τ) .tc)).toFinset := by
  simp only [List.Forall, nullary_writes, unary_writes, binary_writes, ternary_writes, quaternary_writes, reshape_writes,
    Finset.singleton_subset_iff, List.mem_toFinset]
  and_intros <;> exact List.mem_map_of_mem (by decide)

theorem keepB (W : Valuation τ sig (Elt F)) (r : Ref sig .tc) (h : r ∉ wrB) :
    after opsB W (dv r) = W (dv r) :=
  after_of_writes_sub opsB _ writesB h

/-- What `opsC` writes. -/
abbrev wrC : List (Ref sig .tc) :=
  [main_v26, main_v27, main_v28, main_v29, main_v30, main_call2_v0, main_call2_cst, main_call2_c, main_call2_v1_0, main_v31]

theorem subC : (opsC : List (HloOp τ sig (Elt F))).Forall fun op => op.bufs ⊆ tcRefs τ sig :=
  ⟨unary_bufs_sub .., binary_bufs_sub .., unary_bufs_sub .., unary_bufs_sub .., binary_bufs_sub ..,
    nullary_bufs_sub .., nullary_bufs_sub .., nullary_bufs_sub .., quaternary_bufs_sub .., quaternary_bufs_sub ..⟩

theorem freshC : (opsC : List (HloOp τ sig (Elt F))).Forall fun op => op.fresh = ∅ := by
  simp only [List.Forall]
  and_intros <;> rfl

theorem writesC : (opsC : List (HloOp τ sig (Elt F))).Forall fun op =>
    op.writes ⊆ (wrC.map (Proc.devRef (τ := τ) .tc)).toFinset := by
  simp only [List.Forall, nullary_writes, unary_writes, binary_writes, ternary_writes, quaternary_writes, reshape_writes,
    Finset.singleton_subset_iff, List.mem_toFinset]
  and_intros <;> exact List.mem_map_of_mem (by decide)

theorem keepC (W : Valuation τ sig (Elt F)) (r : Ref sig .tc) (h : r ∉ wrC) :
    after opsC W (dv r) = W (dv r) :=
  after_of_writes_sub opsC _ writesC h

/-- What `opsD` writes. -/
abbrev wrD : List (Ref sig .tc) :=
  [main_v32, main_v33, main_v34, main_v35, main_v36, main_v37, main_v38, main_v39, main_v40]

theorem subD : (opsD : List (HloOp τ sig (Elt F))).Forall fun op => op.bufs ⊆ tcRefs τ sig :=
  ⟨unary_bufs_sub .., reshape_bufs_sub .., unary_bufs_sub .., unary_bufs_sub .., binary_bufs_sub ..,
    reshape_bufs_sub .., unary_bufs_sub .., binary_bufs_sub .., reshape_bufs_sub ..⟩

theorem freshD : (opsD : List (HloOp τ sig (Elt F))).Forall fun op => op.fresh = ∅ := by
  simp only [List.Forall]
  and_intros <;> rfl

theorem writesD : (opsD : List (HloOp τ sig (Elt F))).Forall fun op =>
    op.writes ⊆ (wrD.map (Proc.devRef (τ := τ) .tc)).toFinset := by
  simp only [List.Forall, nullary_writes, unary_writes, binary_writes, ternary_writes, quaternary_writes, reshape_writes,
    Finset.singleton_subset_iff, List.mem_toFinset]
  and_intros <;> exact List.mem_map_of_mem (by decide)

theorem keepD (W : Valuation τ sig (Elt F)) (r : Ref sig .tc) (h : r ∉ wrD) :
    after opsD W (dv r) = W (dv r) :=
  after_of_writes_sub opsD _ writesD h

/-- What `opsE` writes. -/
abbrev wrE : List (Ref sig .tc) :=
  [main_v41, main_c_6, main_v42, main_v43, main_c_7, main_v44, main_v45, main_v46, main_v47, main_v48, main_v49]

theorem subE : (opsE : List (HloOp τ sig (Elt F))).Forall fun op => op.bufs ⊆ tcRefs τ sig :=
  ⟨reshape_bufs_sub .., nullary_bufs_sub .., unary_bufs_sub .., binary_bufs_sub .., nullary_bufs_sub ..,
    unary_bufs_sub .., binary_bufs_sub .., ternary_bufs_sub .., unary_bufs_sub .., binary_bufs_sub ..,
    reshape_bufs_sub ..⟩

theorem freshE : (opsE : List (HloOp τ sig (Elt F))).Forall fun op => op.fresh = ∅ := by
  simp only [List.Forall]
  and_intros <;> rfl

theorem writesE : (opsE : List (HloOp τ sig (Elt F))).Forall fun op =>
    op.writes ⊆ (wrE.map (Proc.devRef (τ := τ) .tc)).toFinset := by
  simp only [List.Forall, nullary_writes, unary_writes, binary_writes, ternary_writes, quaternary_writes, reshape_writes,
    Finset.singleton_subset_iff, List.mem_toFinset]
  and_intros <;> exact List.mem_map_of_mem (by decide)

theorem keepE (W : Valuation τ sig (Elt F)) (r : Ref sig .tc) (h : r ∉ wrE) :
    after opsE W (dv r) = W (dv r) :=
  after_of_writes_sub opsE _ writesE h

/-- What `opsG` writes. -/
abbrev wrG : List (Ref sig .tc) :=
  [main_v50, main_c_8, main_v51, main_v52, main_c_9, main_v53, main_v54, main_v55, main_v56, main_v57, main_v58, main_v59]

theorem subG : (opsG : List (HloOp τ sig (Elt F))).Forall fun op => op.bufs ⊆ tcRefs τ sig :=
  ⟨unary_bufs_sub .., nullary_bufs_sub .., unary_bufs_sub .., binary_bufs_sub .., nullary_bufs_sub ..,
    unary_bufs_sub .., binary_bufs_sub .., ternary_bufs_sub .., unary_bufs_sub .., binary_bufs_sub ..,
    reshape_bufs_sub .., unary_bufs_sub ..⟩

theorem freshG : (opsG : List (HloOp τ sig (Elt F))).Forall fun op => op.fresh = ∅ := by
  simp only [List.Forall]
  and_intros <;> rfl

theorem writesG : (opsG : List (HloOp τ sig (Elt F))).Forall fun op =>
    op.writes ⊆ (wrG.map (Proc.devRef (τ := τ) .tc)).toFinset := by
  simp only [List.Forall, nullary_writes, unary_writes, binary_writes, ternary_writes, quaternary_writes, reshape_writes,
    Finset.singleton_subset_iff, List.mem_toFinset]
  and_intros <;> exact List.mem_map_of_mem (by decide)

theorem keepG (W : Valuation τ sig (Elt F)) (r : Ref sig .tc) (h : r ∉ wrG) :
    after opsG W (dv r) = W (dv r) :=
  after_of_writes_sub opsG _ writesG h

/-- What `opsH` writes. -/
abbrev wrH : List (Ref sig .tc) :=
  [main_v60, main_c_10, main_v61, main_v62, main_c_11, main_v63, main_v64, main_v65, main_c_12, main_v66, main_v67, main_c_13, main_v68, main_v69, main_v70, main_v71, main_v72, main_v73, main_v74, main_v75, main_v76, main_v77]

theorem subH : (opsH : List (HloOp τ sig (Elt F))).Forall fun op => op.bufs ⊆ tcRefs τ sig :=
  ⟨nullary_bufs_sub .., nullary_bufs_sub .., unary_bufs_sub .., binary_bufs_sub .., nullary_bufs_sub ..,
    unary_bufs_sub .., binary_bufs_sub .., ternary_bufs_sub .., nullary_bufs_sub .., unary_bufs_sub ..,
    binary_bufs_sub .., nullary_bufs_sub .., unary_bufs_sub .., binary_bufs_sub .., ternary_bufs_sub ..,
    unary_bufs_sub .., unary_bufs_sub .., binary_bufs_sub .., binary_bufs_sub .., reshape_bufs_sub ..,
    unary_bufs_sub .., unary_bufs_sub ..⟩

theorem freshH : (opsH : List (HloOp τ sig (Elt F))).Forall fun op => op.fresh = ∅ := by
  simp only [List.Forall]
  and_intros <;> rfl

theorem writesH : (opsH : List (HloOp τ sig (Elt F))).Forall fun op =>
    op.writes ⊆ (wrH.map (Proc.devRef (τ := τ) .tc)).toFinset := by
  simp only [List.Forall, nullary_writes, unary_writes, binary_writes, ternary_writes, quaternary_writes, reshape_writes,
    Finset.singleton_subset_iff, List.mem_toFinset]
  and_intros <;> exact List.mem_map_of_mem (by decide)

theorem keepH (W : Valuation τ sig (Elt F)) (r : Ref sig .tc) (h : r ∉ wrH) :
    after opsH W (dv r) = W (dv r) :=
  after_of_writes_sub opsH _ writesH h

/-- The mean over time and places. -/
def mean4 (x : C (F := F) S16x96x2048x1 .f32) : C (F := F) S16x1x1x1 .f32 :=
  Host.divf (broadcastInDim S16x1x1x1 ![0, 3] bcast_S16x1_S16x1x1x1_0_3
      (Host.reduceAdd x (constant S_ .f32 0x00000000#32) reducesTo_S16x96x2048x1_S16x1_d1_2 h_S_))
    (broadcastInDim S16x1x1x1 ![] bcast_S_S16x1x1x1 (constant S_ .f32 0x48400000#32))

/-- An array less its mean. -/
def ctr4 (x : C (F := F) S16x96x2048x1 .f32) : C (F := F) S16x96x2048x1 .f32 :=
  subf x (broadcastInDim S16x96x2048x1 ![0, 1, 2, 3] bcast_S16x1x1x1_S16x96x2048x1_0_1_2_3 (mean4 x))

/-- The number of the entries that a mean over time and places runs over. -/
def count4 : C (F := F) S_ .f32 := subf (constant S_ .f32 0x48400000#32) (sitofp .f32 (constantI S_ 32 0#32))

/-- The variance over time and places, as the library's function has it. -/
def var4 (y : C (F := F) S16x96x2048x1 .f32) : C (F := F) S16x1x1x1 .f32 :=
  select (broadcastInDim S16x1x1x1 ![] bcast_S_S16x1x1x1 (cmpf .ogt (count4 : C (F := F) S_ .f32) (constant S_ .f32 0x00000000#32)))
    (Host.divf (broadcastInDim S16x1x1x1 ![0, 3] bcast_S16x1_S16x1x1x1_0_3
        (Host.reduceAdd (mulf (ctr4 y) (ctr4 y)) (constant S_ .f32 0x00000000#32) reducesTo_S16x96x2048x1_S16x1_d1_2 h_S_))
      (broadcastInDim S16x1x1x1 ![] bcast_S_S16x1x1x1 count4))
    (broadcastInDim S16x1x1x1 ![] bcast_S_S16x1x1x1 (id (constant S_ .f32 0x7FC00000#32)))

/-- The deviation over time and places. -/
def std4 (y : C (F := F) S16x96x2048x1 .f32) : C (F := F) S16x1x1x1 .f32 :=
  Host.sqrt (addf (var4 y) (broadcastInDim S16x1x1x1 ![] bcast_S_S16x1x1x1 (constant S_ .f32 0x3727C5AC#32)))

/-- A sample brought to mean 0 and deviation 1. -/
def nrm4 (x : C (F := F) S16x96x2048x1 .f32) : C (F := F) S16x96x2048x1 .f32 :=
  Host.divf (ctr4 x)
    (broadcastInDim S16x96x2048x1 ![0, 1, 2, 3] bcast_S16x1x1x1_S16x96x2048x1_0_1_2_3 (std4 (ctr4 x)))

/-- The mean over time, for every place. -/
def mean1 (y : C (F := F) S16x96x2048x1 .f32) : C (F := F) S16x1x2048x1 .f32 :=
  Host.divf (broadcastInDim S16x1x2048x1 ![0, 2, 3] bcast_S16x2048x1_S16x1x2048x1_0_2_3
      (Host.reduceAdd y (constant S_ .f32 0x00000000#32) reducesTo_S16x96x2048x1_S16x2048x1_d1 h_S_))
    (broadcastInDim S16x1x2048x1 ![] bcast_S_S16x1x2048x1 (constant S_ .f32 0x42C00000#32))

/-- An array less its mean over time. -/
def ctr1 (y : C (F := F) S16x96x2048x1 .f32) : C (F := F) S16x96x2048x1 .f32 :=
  subf y (broadcastInDim S16x96x2048x1 ![0, 1, 2, 3] bcast_S16x1x2048x1_S16x96x2048x1_0_1_2_3 (mean1 y))

/-- The number of the times. -/
def count1 : C (F := F) S_ .f32 := subf (constant S_ .f32 0x42C00000#32) (sitofp .f32 (constantI S_ 32 0#32))

/-- The variance over time, as the library's function has it. -/
def var1 (y : C (F := F) S16x96x2048x1 .f32) : C (F := F) S16x1x2048x1 .f32 :=
  select (broadcastInDim S16x1x2048x1 ![] bcast_S_S16x1x2048x1 (cmpf .ogt (count1 : C (F := F) S_ .f32) (constant S_ .f32 0x00000000#32)))
    (Host.divf (broadcastInDim S16x1x2048x1 ![0, 2, 3] bcast_S16x2048x1_S16x1x2048x1_0_2_3
        (Host.reduceAdd (mulf (ctr1 y) (ctr1 y)) (constant S_ .f32 0x00000000#32) reducesTo_S16x96x2048x1_S16x2048x1_d1 h_S_))
      (broadcastInDim S16x1x2048x1 ![] bcast_S_S16x1x2048x1 count1))
    (broadcastInDim S16x1x2048x1 ![] bcast_S_S16x1x2048x1 (id (constant S_ .f32 0x7FC00000#32)))

/-- The deviation over time. -/
def std1 (y : C (F := F) S16x96x2048x1 .f32) : C (F := F) S16x1x2048x1 .f32 :=
  Host.sqrt (addf (var1 y) (broadcastInDim S16x1x2048x1 ![] bcast_S_S16x1x2048x1 (constant S_ .f32 0x3727C5AC#32)))

/-- Every place brought to mean 0 and deviation 1 over time. -/
def nrm1 (y : C (F := F) S16x96x2048x1 .f32) : C (F := F) S16x96x2048x1 .f32 :=
  Host.divf (ctr1 y)
    (broadcastInDim S16x96x2048x1 ![0, 1, 2, 3] bcast_S16x1x2048x1_S16x96x2048x1_0_1_2_3 (std1 (ctr1 y)))

/-- Places as rows, times as columns. -/
def rows (z : C (F := F) S16x96x2048x1 .f32) : C (F := F) S16x2048x96 .f32 :=
  transpose S16x2048x96 [0, 2, 1] (shapeCast S16x96x2048 z shapeCasts_S16x96x2048x1_S16x96x2048)
    transposes_S16x96x2048_S16x2048x96_0_2_1

/-- Every expert's score at every place. -/
def score (z : C (F := F) S16x2048x96 .f32) (w : C (F := F) S16x96 .f32) (b : C (F := F) S16 .f32) :
    C (F := F) S16x2048x16 .f32 :=
  addf (Host.dotGeneral dot_S16x2048x96_S96x16_S16x2048x16_2_0_01_1_n_n none z
      (transpose S96x16 [1, 0] w transposes_S16x96_S96x16_1_0))
    (broadcastInDim S16x2048x16 ![0, 1, 2] bcast_S1x1x16_S16x2048x16_0_1_2
      (broadcastInDim S1x1x16 ![2] bcast_S16_S1x1x16_2 b))

/-- The number of the expert with the highest score, at every place. -/
def best (s : C (F := F) S16x2048x16 .f32) : C (F := F) S16x2048 .i32 := fun j =>
  (Host.argReduce reducer_argmax_f32_i32 s (iotaInDim S16x2048x16 32 2) (constant S_ .f32 0xFF800000#32)
    (constantI S_ 32 0#32) reducesTo_S16x2048x16_S16x2048_d2 h_S_ j).2

/-- Every expert's answer at every place. -/
def answers (z : C (F := F) S16x2048x96 .f32) (g b : C (F := F) S16x1 .f32) : C (F := F) S32768x16x96 .f32 :=
  shapeCast S32768x16x96
    (addf (mulf (broadcastInDim S16x2048x16x96 ![0, 1, 2, 3] bcast_S16x2048x1x96_S16x2048x16x96_0_1_2_3
          (broadcastInDim S16x2048x1x96 ![0, 1, 3] bcast_S16x2048x96_S16x2048x1x96_0_1_3 z))
        (broadcastInDim S16x2048x16x96 ![0, 1, 2, 3] bcast_S1x1x16x1_S16x2048x16x96_0_1_2_3
          (shapeCast S1x1x16x1 g shapeCasts_S16x1_S1x1x16x1)))
      (broadcastInDim S16x2048x16x96 ![0, 1, 2, 3] bcast_S1x1x16x1_S16x2048x16x96_0_1_2_3
        (shapeCast S1x1x16x1 b shapeCasts_S16x1_S1x1x16x1)))
    shapeCasts_S16x2048x16x96_S32768x16x96

/-- The choices in one row. -/
def flat (k : C (F := F) S16x2048 .i32) : C (F := F) S32768 .i32 := shapeCast S32768 k shapeCasts_S16x2048_S32768

/-- A row number, counted from the end where it is negative. -/
def wrap (n : BitVec 32) (k : C (F := F) S32768 .i32) : C (F := F) S32768 .i32 :=
  select (cmpi .slt k (broadcastInDim S32768 ![] bcast_S_S32768 (constantI S_ 32 0#32)))
    (addi k (broadcastInDim S32768 ![] bcast_S_S32768 (constantI S_ 32 n))) k

/-- Row numbers as a column. -/
def col (k : C (F := F) S32768 .i32) : C (F := F) S32768x1 .i32 :=
  broadcastInDim S32768x1 ![0] bcast_S32768_S32768x1_0 k

/-- The entry of `g` that is chosen at every place. -/
def pick (g : C (F := F) S16x1 .f32) (k : C (F := F) S32768 .i32) : C (F := F) S16x2048 .f32 :=
  shapeCast S16x2048 (Host.gather gather_S16x1_S32768x1_S32768x1_1_0_n_n_0_1_11 g (col (wrap 16#32 k)))
    shapeCasts_S32768x1_S16x2048

/-- A number for every place, in the form of a result. -/
def asRes (p : C (F := F) S16x2048 .f32) : C (F := F) S16x1x2048x1 .f32 :=
  broadcastInDim S16x1x2048x1 ![0, 2] bcast_S16x2048_S16x1x2048x1_0_2 p

/-- The chosen expert's answer at every place. -/
def chosen (a : C (F := F) S32768x16x96 .f32) (k : C (F := F) S32768 .i32) : C (F := F) S16x96x2048x1 .f32 :=
  broadcastInDim S16x96x2048x1 ![0, 1, 2] bcast_S16x96x2048_S16x96x2048x1_0_1_2
    (transpose S16x96x2048 [0, 2, 1]
      (shapeCast S16x2048x96
        (Host.gather gather_S32768x16x96_S32768x2_S32768x96_1_01_n_n_01_1_1196 a
          (pairCols (col (wrap 32768#32 (iotaInDim S32768 32 0))) (col (wrap 16#32 k))))
        shapeCasts_S32768x96_S16x2048x96)
      transposes_S16x2048x96_S16x96x2048_0_2_1)

set_option maxHeartbeats 2000000

section
variable (W : Valuation τ sig (Elt F))

theorem A_v3 : after opsA W (dv main_v3) = mean4 (W (dv main_arg0)) := by
  simp only [opsA, TRef.binary, TRef.nullary, TRef.unary, TRef.ternary, TRef.toBuf, TRef.ofBuf, cast_eq]
  after_results_simp <;> rfl

theorem A_v9 : after opsA W (dv main_v9) = std4 (ctr4 (W (dv main_arg0))) := by
  simp only [opsA, TRef.binary, TRef.nullary, TRef.unary, TRef.ternary, TRef.toBuf, TRef.ofBuf, cast_eq]
  after_results_simp <;> rfl

theorem A_v11 : after opsA W (dv main_v11) = nrm4 (W (dv main_arg0)) := by
  simp only [opsA, TRef.binary, TRef.nullary, TRef.unary, TRef.ternary, TRef.toBuf, TRef.ofBuf, cast_eq]
  after_results_simp <;> rfl

theorem B_v15 : after opsB W (dv main_v15) = mean1 (W (dv main_v11)) := by
  simp only [opsB, TRef.binary, TRef.nullary, TRef.unary, TRef.ternary, TRef.toBuf, TRef.ofBuf, cast_eq]
  after_results_simp <;> rfl

theorem B_v21 : after opsB W (dv main_v21) = std1 (ctr1 (W (dv main_v11))) := by
  simp only [opsB, TRef.binary, TRef.nullary, TRef.unary, TRef.ternary, TRef.toBuf, TRef.ofBuf, cast_eq]
  after_results_simp <;> rfl

theorem B_v25 : after opsB W (dv main_v25) = rows (nrm1 (W (dv main_v11))) := by
  simp only [opsB, TRef.binary, TRef.nullary, TRef.unary, TRef.ternary, TRef.toBuf, TRef.ofBuf, cast_eq]
  after_results_simp <;> rfl

theorem C_v31 : after opsC W (dv main_v31) = best (score (W (dv main_v25)) (W (dv main_arg3)) (W (dv main_arg4))) := by
  simp only [opsC, TRef.binary, TRef.nullary, TRef.unary, TRef.ternary, TRef.quaternary, TRef.toBuf, TRef.ofBuf, cast_eq]
  after_results_simp <;> rfl

theorem D_v40 : after opsD W (dv main_v40) = answers (W (dv main_v25)) (W (dv main_arg1)) (W (dv main_arg2)) := by
  simp only [opsD]
  after_results_simp <;> rfl

theorem E_v41 : after opsE W (dv main_v41) = flat (W (dv main_v31)) := by
  simp only [opsE]
  after_results_simp <;> rfl

theorem E_v49 : after opsE W (dv main_v49) = pick (W (dv main_arg1)) (flat (W (dv main_v31))) := by
  simp only [opsE]
  after_results_simp <;> rfl

theorem G_v50 : after opsG W (dv main_v50) = asRes (W (dv main_v49)) := by
  simp only [opsG]
  after_results_simp <;> rfl

theorem G_v59 : after opsG W (dv main_v59) = asRes (pick (W (dv main_arg2)) (W (dv main_v41))) := by
  simp only [opsG]
  after_results_simp <;> rfl

theorem H_v77 : after opsH W (dv main_v77) = chosen (W (dv main_v40)) (W (dv main_v41)) := by
  simp only [opsH]
  after_results_simp <;> rfl

end

/-- The operations of `main`'s first half. -/
def opsL : List (HloOp τ sig (Elt F)) := opsA ++ (opsB ++ (opsC ++ (opsD ++ opsE)))

/-- The operations of `main`'s second half. -/
def opsR : List (HloOp τ sig (Elt F)) := opsG ++ opsH

/-- All the operations of `main`. -/
def ops : List (HloOp τ sig (Elt F)) := opsL ++ opsR

set_option maxHeartbeats 4000000 in
theorem half0 (c : Dev nD) : main_part0 (F := F) c = seq opsL := rfl

theorem half1 (c : Dev nD) : main_part1 (F := F) c = seq opsR := rfl

theorem main_eq (c : Dev nD) : main (F := F) c = seq ops := by
  simp only [ops, seq_append, ← half0 c, ← half1 c]
  rfl

/-- What holds of every list's operations holds of all. -/
theorem forall_ops {P : HloOp τ sig (Elt F) → Prop} (hA : opsA.Forall P) (hB : opsB.Forall P) (hC : opsC.Forall P)
    (hD : opsD.Forall P) (hE : opsE.Forall P) (hG : opsG.Forall P) (hH : opsH.Forall P) : ops.Forall P := by
  simp only [List.forall_iff_forall_mem] at *
  intro o h
  simp only [ops, opsL, opsR, List.mem_append, or_assoc] at h
  rcases h with h | h | h | h | h | h | h
  exacts [hA o h, hB o h, hC o h, hD o h, hE o h, hG o h, hH o h]

theorem noRefs : (Finset.univ.filter fun b : Ref sig .tc => b.isScoped) = ∅ := by decide

theorem noSems : (Finset.univ.filter fun sm : SemLoc sig => sm.isScoped .tc) = ∅ := by decide

theorem after_all (W : Valuation τ sig (Elt F)) :
    after ops W = after opsH (after opsG (after opsE (after opsD (after opsC (after opsB (after opsA W)))))) := by
  simp only [ops, opsL, opsR, after_append]

/-- A buffer that no operation writes keeps what it holds. -/
theorem keep_all (W : Valuation τ sig (Elt F)) (r : Ref sig .tc) (hA : r ∉ wrA) (hB : r ∉ wrB) (hC : r ∉ wrC)
    (hD : r ∉ wrD) (hE : r ∉ wrE) (hG : r ∉ wrG) (hH : r ∉ wrH) : after ops W (dv r) = W (dv r) := by
  rw [after_all, keepH _ _ hH, keepG _ _ hG, keepE _ _ hE, keepD _ _ hD, keepC _ _ hC, keepB _ _ hB, keepA _ _ hA]

section
variable (W : Valuation τ sig (Elt F))

/-- The sample brought to mean 0 and deviation 1, the places as rows. -/
def normRows (x : C (F := F) S16x96x2048x1 .f32) : C (F := F) S16x2048x96 .f32 := rows (nrm1 (nrm4 x))

/-- The choices, in one row. -/
def choice (x : C (F := F) S16x96x2048x1 .f32) (w : C (F := F) S16x96 .f32) (b : C (F := F) S16 .f32) :
    C (F := F) S32768 .i32 := flat (best (score (normRows x) w b))

theorem all_v3 : after ops W (dv main_v3) = mean4 (W (dv main_arg0)) := by
  rw [after_all, keepH _ _ (by decide), keepG _ _ (by decide), keepE _ _ (by decide), keepD _ _ (by decide),
    keepC _ _ (by decide), keepB _ _ (by decide), A_v3]

theorem all_v9 : after ops W (dv main_v9) = std4 (ctr4 (W (dv main_arg0))) := by
  rw [after_all, keepH _ _ (by decide), keepG _ _ (by decide), keepE _ _ (by decide), keepD _ _ (by decide),
    keepC _ _ (by decide), keepB _ _ (by decide), A_v9]

theorem all_v15 : after ops W (dv main_v15) = mean1 (nrm4 (W (dv main_arg0))) := by
  rw [after_all, keepH _ _ (by decide), keepG _ _ (by decide), keepE _ _ (by decide), keepD _ _ (by decide),
    keepC _ _ (by decide), B_v15, A_v11]

theorem all_v21 : after ops W (dv main_v21) = std1 (ctr1 (nrm4 (W (dv main_arg0)))) := by
  rw [after_all, keepH _ _ (by decide), keepG _ _ (by decide), keepE _ _ (by decide), keepD _ _ (by decide),
    keepC _ _ (by decide), B_v21, A_v11]

theorem all_v50 : after ops W (dv main_v50) =
    asRes (pick (W (dv main_arg1)) (choice (W (dv main_arg0)) (W (dv main_arg3)) (W (dv main_arg4)))) := by
  rw [after_all, keepH _ _ (by decide), G_v50, E_v49, keepD _ main_arg1 (by decide), keepC _ main_arg1 (by decide),
    keepB _ main_arg1 (by decide), keepA _ main_arg1 (by decide), keepD _ main_v31 (by decide), C_v31, B_v25, A_v11,
    keepB _ main_arg3 (by decide), keepA _ main_arg3 (by decide), keepB _ main_arg4 (by decide),
    keepA _ main_arg4 (by decide)]
  rfl

theorem all_v59 : after ops W (dv main_v59) =
    asRes (pick (W (dv main_arg2)) (choice (W (dv main_arg0)) (W (dv main_arg3)) (W (dv main_arg4)))) := by
  rw [after_all, keepH _ _ (by decide), G_v59, E_v41, keepE _ main_arg2 (by decide), keepD _ main_arg2 (by decide),
    keepC _ main_arg2 (by decide),
    keepB _ main_arg2 (by decide), keepA _ main_arg2 (by decide), keepD _ main_v31 (by decide), C_v31, B_v25, A_v11,
    keepB _ main_arg3 (by decide), keepA _ main_arg3 (by decide), keepB _ main_arg4 (by decide),
    keepA _ main_arg4 (by decide)]
  rfl

theorem all_v77 : after ops W (dv main_v77) =
    chosen (answers (normRows (W (dv main_arg0))) (W (dv main_arg1)) (W (dv main_arg2)))
      (choice (W (dv main_arg0)) (W (dv main_arg3)) (W (dv main_arg4))) := by
  rw [after_all, H_v77, keepG _ main_v40 (by decide), keepE _ main_v40 (by decide), D_v40,
    keepC _ main_v25 (by decide), B_v25, A_v11,
    keepC _ main_arg1 (by decide), keepB _ main_arg1 (by decide), keepA _ main_arg1 (by decide),
    keepC _ main_arg2 (by decide), keepB _ main_arg2 (by decide), keepA _ main_arg2 (by decide),
    keepG _ main_v41 (by decide), E_v41, keepD _ main_v31 (by decide), C_v31, B_v25, A_v11,
    keepB _ main_arg3 (by decide), keepA _ main_arg3 (by decide), keepB _ main_arg4 (by decide),
    keepA _ main_arg4 (by decide)]
  rfl

end

/-- Every run ends with the buffers as the operations, one after the other, leave them. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (dv b) :=
  run_seq noRefs noSems defs main (fun _ => ops) main_eq
    (fun _ => forall_ops subA subB subC subD subE subG subH) m ρ
    fun _ => List.forall_iff_forall_mem.mp (forall_ops freshA freshB freshC freshD freshE freshG freshH)

/-- Every run ends with the arguments as they were. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => by
    refine ⟨fun c => ?_, sem_eq_zero_of_no_sems rfl _⟩
    refine ⟨?_, ?_, ?_, ?_, ?_⟩
    all_goals
      refine (h c _).trans (keep_all _ _ ?_ ?_ ?_ ?_ ?_ ?_ ?_)
      all_goals decide) (run m ρ)

end Cert.ReferenceIdeal.Ref3

end
-- ==== Proof.Math3.lean ====
/- The arithmetic of the two programs over the real numbers, and the choice of the largest of a few numbers. -/
module

public import Idealize.ShloMosaic.PureOps.Ideal.Laws

@[expose] public section

noncomputable section

namespace Cert.Math3

open Idealize.ShloMosaic

/-! ### Constants and finite extended reals -/

/-- The number that both programs add under a root. -/
def eps : ℝ := 10995116 / 2 ^ 40

theorem eps_pos : 0 < eps := by unfold eps; positivity

theorem ofBits_eps : Ideal.ofBits .f32 925353388#32 = ((eps : ℝ) : EReal) := by
  simp [Ideal.ofBits, Ideal.ieee, eps, -EReal.coe_mul]; norm_num

theorem ofBits_96 : Ideal.ofBits .f32 1119879168#32 = ((96 : ℝ) : EReal) := by
  simp [Ideal.ofBits, Ideal.ieee, -EReal.coe_mul]; norm_num

theorem ofBits_2048 : Ideal.ofBits .f32 1157627904#32 = ((2048 : ℝ) : EReal) := by
  simp [Ideal.ofBits, Ideal.ieee, -EReal.coe_mul]; norm_num

theorem ofBits_196608 : Ideal.ofBits .f32 1212153856#32 = ((196608 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_real {a b : ℝ} (h : b ≠ 0) : Ideal.div (a : EReal) (b : EReal) = ((a / b : ℝ) : EReal) := by
  rw [Ideal.div_coe h, ← EReal.coe_mul, mul_one_div]

theorem sqrt_real {a : ℝ} (h : 0 ≤ a) : Ideal.sqrt (a : EReal) = ((√a : ℝ) : EReal) := by
  rw [Ideal.sqrt_coe, if_neg (not_lt.mpr h)]

/-- A number whose difference from itself is 0 is finite. -/
theorem finite_of_sub_self {x : EReal} (h : x - x = 0) : x = ((x.toReal : ℝ) : EReal) := by
  induction x using EReal.rec with
  | bot => exact absurd h (by decide)
  | top => exact absurd h (by decide)
  | coe r => rfl

/-! ### One sample: its means and deviations -/

section
variable (X : Fin 96 → Fin 2048 → ℝ)

/-- The mean over time at place `n`. -/
def m1 (n : Fin 2048) : ℝ := (∑ t, X t n) / 96
/-- The mean of the squares over time at place `n`. -/
def m2 (n : Fin 2048) : ℝ := (∑ t, X t n * X t n) / 96
/-- The sample's mean. -/
def mu : ℝ := (∑ n, m1 X n) / 2048
/-- The sample's variance. -/
def vd : ℝ := (∑ n, m2 X n) / 2048 - mu X * mu X
/-- The sample's deviation. -/
def sd : ℝ := √(vd X + eps)
/-- The mean over time of the sample brought to mean 0 and deviation 1. -/
def sp (n : Fin 2048) : ℝ := (m1 X n - mu X) / sd X
/-- Its variance over time. -/
def vs (n : Fin 2048) : ℝ := (m2 X n - m1 X n * m1 X n) / (vd X + eps)
/-- Its deviation over time. -/
def ss (n : Fin 2048) : ℝ := √(vs X n + eps)
/-- The factor that brings a place to deviation 1. -/
def fac (n : Fin 2048) : ℝ := 1 / (sd X * ss X n)
/-- The sample with every place brought to mean 0 and deviation 1 over time. -/
def nrm (t : Fin 96) (n : Fin 2048) : ℝ := (X t n - m1 X n) * fac X n

theorem sum_m1 : ∑ n, m1 X n = (∑ t, ∑ n, X t n) / 96 := by
  unfold m1; rw [← Finset.sum_div, Finset.sum_comm]

theorem sum_m2 : ∑ n, m2 X n = (∑ t, ∑ n, X t n * X t n) / 96 := by
  unfold m2; rw [← Finset.sum_div, Finset.sum_comm]

theorem mean_all : (∑ t, ∑ n, X t n) / 196608 = mu X := by
  unfold mu; rw [sum_m1]; ring

theorem sum_ctr : ∑ t, ∑ n, (X t n - mu X) = 0 := by
  have h := mean_all X
  simp only [Finset.sum_sub_distrib, Finset.sum_const, Finset.card_univ, Fintype.card_fin, nsmul_eq_mul]
  rw [← h]; push_cast; ring

theorem var_all : (∑ t, ∑ n, (X t n - mu X) * (X t n - mu X)) / 196608 = vd X := by
  have h := mean_all X
  have e : ∀ t n, (X t n - mu X) * (X t n - mu X) = X t n * X t n - 2 * mu X * X t n + mu X * mu X := fun t n => by ring
  have hs : ∑ t, ∑ n, X t n = 196608 * mu X := by rw [← h]; ring
  unfold vd
  rw [sum_m2]
  simp only [e, Finset.sum_add_distrib, Finset.sum_sub_distrib, ← Finset.mul_sum, hs, Finset.sum_const,
    Finset.card_univ, Fintype.card_fin, nsmul_eq_mul]
  push_cast; ring

theorem vd_nonneg : 0 ≤ vd X := by
  rw [← var_all]
  exact div_nonneg (Finset.sum_nonneg fun t _ => Finset.sum_nonneg fun n _ => mul_self_nonneg _) (by norm_num)

theorem vd_eps : 0 < vd X + eps := add_pos_of_nonneg_of_pos (vd_nonneg X) eps_pos

theorem sd_pos : 0 < sd X := Real.sqrt_pos.mpr (vd_eps X)

theorem sd_sq : sd X * sd X = vd X + eps := Real.mul_self_sqrt (vd_eps X).le

theorem sum_place (n : Fin 2048) : ∑ t, X t n = 96 * m1 X n := by unfold m1; ring

theorem var_place (n : Fin 2048) :
    (∑ t, (X t n - m1 X n) * (X t n - m1 X n)) / 96 = m2 X n - m1 X n * m1 X n := by
  have e : ∀ t, (X t n - m1 X n) * (X t n - m1 X n) = X t n * X t n - 2 * m1 X n * X t n + m1 X n * m1 X n :=
    fun t => by ring
  simp only [e, Finset.sum_add_distrib, Finset.sum_sub_distrib, ← Finset.mul_sum, sum_place, Finset.sum_const,
    Finset.card_univ, Fintype.card_fin, nsmul_eq_mul]
  unfold m2; push_cast; ring

theorem vs_nonneg (n : Fin 2048) : 0 ≤ vs X n := by
  unfold vs
  rw [← var_place]
  exact div_nonneg (div_nonneg (Finset.sum_nonneg fun t _ => mul_self_nonneg _) (by norm_num)) (vd_eps X).le

theorem ss_pos (n : Fin 2048) : 0 < ss X n :=
  Real.sqrt_pos.mpr (add_pos_of_nonneg_of_pos (vs_nonneg X n) eps_pos)

/-- The mean over time of the sample brought to mean 0 and deviation 1. -/
theorem mean_unit (n : Fin 2048) : (∑ t, (X t n - mu X) / sd X) / 96 = sp X n := by
  rw [← Finset.sum_div, Finset.sum_sub_distrib, sum_place]
  simp only [Finset.sum_const, Finset.card_univ, Fintype.card_fin, nsmul_eq_mul]
  unfold sp; push_cast; ring

theorem unit_ctr (t : Fin 96) (n : Fin 2048) : (X t n - mu X) / sd X - sp X n = (X t n - m1 X n) / sd X := by
  unfold sp; ring

theorem sum_unit_ctr (n : Fin 2048) : ∑ t, (X t n - m1 X n) / sd X = 0 := by
  rw [← Finset.sum_div, Finset.sum_sub_distrib, sum_place]
  simp

theorem var_unit (n : Fin 2048) :
    (∑ t, (X t n - m1 X n) / sd X * ((X t n - m1 X n) / sd X)) / 96 = vs X n := by
  have e : ∀ t, (X t n - m1 X n) / sd X * ((X t n - m1 X n) / sd X)
      = (X t n - m1 X n) * (X t n - m1 X n) / (vd X + eps) := fun t => by rw [div_mul_div_comm, sd_sq]
  simp only [e]
  rw [← Finset.sum_div, div_right_comm, var_place]; rfl

theorem unit_nrm (t : Fin 96) (n : Fin 2048) : (X t n - m1 X n) / sd X / ss X n = nrm X t n := by
  unfold nrm fac; rw [div_div, mul_one_div]

/-- A place's score by the weights `w`: from the brought values, and from the given ones. -/
theorem score_eq (w : Fin 96 → ℝ) (n : Fin 2048) :
    (∑ t, w t * X t n - (∑ t, w t) * m1 X n) * fac X n = ∑ t, nrm X t n * w t := by
  unfold nrm
  rw [Finset.sum_mul, ← Finset.sum_sub_distrib, Finset.sum_mul]
  exact Finset.sum_congr rfl fun t _ => by ring

end

/-! ### The first of the largest -/

/-- `e` is the first of the places below 16 where `S` is largest. -/
def Best (S : ℕ → EReal) (e : ℕ) : Prop := e < 16 ∧ (∀ i < 16, S i ≤ S e) ∧ ∀ i < e, S i < S e

theorem Best.unique {S : ℕ → EReal} {e e' : ℕ} (h : Best S e) (h' : Best S e') : e = e' := by
  rcases lt_trichotomy e e' with hl | he | hl
  · exact absurd (h'.2.2 e hl) (not_lt.mpr (h.2.1 e' h'.1))
  · exact he
  · exact absurd (h.2.2 e' hl) (not_lt.mpr (h'.2.1 e h.1))

/-- After the places up to `n`: `b` is the largest number so far and `k` its first place. -/
def Top (S : ℕ → EReal) (n : ℕ) (b : EReal) (k : BitVec 32) : Prop :=
  ∃ e, e ≤ n ∧ k = BitVec.ofNat 32 e ∧ b = S e ∧ (∀ i ≤ n, S i ≤ S e) ∧ ∀ i < e, S i < S e

theorem top_zero (S : ℕ → EReal) : Top S 0 (S 0) 0#32 :=
  ⟨0, le_rfl, rfl, rfl, fun i hi => by rw [Nat.le_zero.mp hi], fun i hi => absurd hi (Nat.not_lt_zero i)⟩

theorem Top.step {S : ℕ → EReal} {n : ℕ} {b : EReal} {k : BitVec 32} (h : Top S n b k) [Decidable (b < S (n + 1))] :
    Top S (n + 1) (if b < S (n + 1) then S (n + 1) else b)
      (if b < S (n + 1) then BitVec.ofNat 32 (n + 1) else k) := by
  obtain ⟨e, he, hk, hb, hle, hlt⟩ := h
  by_cases hc : b < S (n + 1)
  · rw [if_pos hc, if_pos hc]
    rw [hb] at hc
    refine ⟨n + 1, le_rfl, rfl, rfl, fun i hi => ?_, fun i hi => (hle i (Nat.lt_succ_iff.mp hi)).trans_lt hc⟩
    rcases Nat.le_succ_iff.mp hi with h1 | rfl
    · exact (hle i h1).trans hc.le
    · exact le_rfl
  · rw [if_neg hc, if_neg hc]
    rw [hb] at hc
    refine ⟨e, he.trans (Nat.le_succ n), hk, hb, fun i hi => ?_, hlt⟩
    rcases Nat.le_succ_iff.mp hi with h1 | rfl
    · exact hle i h1
    · exact not_lt.mp hc

theorem Top.cast {S : ℕ → EReal} {n : ℕ} {b : EReal} {k k' : BitVec 32} (h : Top S n b k) (hk : k' = k) : Top S n b k' :=
  hk ▸ h

theorem Top.best {S : ℕ → EReal} {b : EReal} {k : BitVec 32} (h : Top S 15 b k) :
    ∃ e, Best S e ∧ k = BitVec.ofNat 32 e := by
  obtain ⟨e, he, hk, -, hle, hlt⟩ := h
  exact ⟨e, ⟨Nat.lt_succ_of_le he, fun i hi => hle i (Nat.le_of_lt_succ hi), hlt⟩, hk⟩

/-- After the places up to `n`: if the chosen place is among them, `v` is the entry there. -/
def Sel {α : Type} (G : ℕ → α) (e : ℕ) (n : ℕ) (v : α) : Prop := e ≤ n → v = G e

theorem sel_zero {α : Type} (G : ℕ → α) (e : ℕ) : Sel G e 0 (G 0) := fun h => by rw [Nat.le_zero.mp h]

theorem Sel.step {α : Type} {G : ℕ → α} {e n : ℕ} {v : α} {k : BitVec 32} (h : Sel G e n v) (he : e < 16)
    (hn : n < 15) (hk : k = BitVec.ofNat 32 e) :
    Sel G e (n + 1) (Scalar.select (IntOp.cmpi .eq k (BitVec.ofNat 32 (n + 1))) (G (n + 1)) v) := by
  intro hle
  have hi : (k = BitVec.ofNat 32 (n + 1)) ↔ e = n + 1 := by
    rw [hk]
    constructor
    · intro h'
      have := congrArg BitVec.toNat h'
      simp only [BitVec.toNat_ofNat] at this
      omega
    · intro h'; rw [h']
  by_cases hc : e = n + 1
  · have : IntOp.cmpi .eq k (BitVec.ofNat 32 (n + 1)) = 1#1 := by simp [IntOp.cmpi, hi.mpr hc]
    rw [this, hc]; rfl
  · have hne : k ≠ BitVec.ofNat 32 (n + 1) := fun h' => hc (hi.mp h')
    have : IntOp.cmpi .eq k (BitVec.ofNat 32 (n + 1)) = 0#1 := by
      show BitVec.ofBool (k == BitVec.ofNat 32 (n + 1)) = 0#1
      rw [beq_eq_false_iff_ne.mpr hne]; rfl
    rw [this]
    exact h (by omega)

/-! ### A fold that keeps the larger pair, of equal ones the one with the smaller number -/

/-- The order of that fold. -/
def Below (p r : EReal × BitVec 32) : Prop := p.1 < r.1 ∨ (p.1 = r.1 ∧ r.2.toNat ≤ p.2.toNat)

theorem Below.refl (p : EReal × BitVec 32) : Below p p := Or.inr ⟨rfl, le_rfl⟩

theorem Below.trans {p q r : EReal × BitVec 32} (h : Below p q) (h' : Below q r) : Below p r := by
  rcases h with h | ⟨h, h1⟩ <;> rcases h' with h' | ⟨h', h2⟩
  · exact Or.inl (h.trans h')
  · exact Or.inl (h' ▸ h)
  · exact Or.inl (h ▸ h')
  · exact Or.inr ⟨h.trans h', h2.trans h1⟩

/-- What a step of the fold does: it keeps one of the two, and the kept one is above both. -/
def Keeps (f : EReal × BitVec 32 → EReal × BitVec 32 → EReal × BitVec 32) : Prop :=
  ∀ a b, a.2.toNat < 16 → b.2.toNat < 16 → (f a b = a ∨ f a b = b) ∧ Below a (f a b) ∧ Below b (f a b)

theorem foldl_keeps {f : EReal × BitVec 32 → EReal × BitVec 32 → EReal × BitVec 32} (hf : Keeps f)
    (L : List (EReal × BitVec 32)) (hL : ∀ p ∈ L, p.2.toNat < 16) (a : EReal × BitVec 32) (ha : a.2.toNat < 16) :
    (L.foldl f a = a ∨ L.foldl f a ∈ L) ∧ Below a (L.foldl f a) ∧ ∀ p ∈ L, Below p (L.foldl f a) := by
  induction L generalizing a with
  | nil => exact ⟨Or.inl rfl, Below.refl a, fun p hp => absurd hp List.not_mem_nil⟩
  | cons b L ih =>
    have hb := hL b List.mem_cons_self
    obtain ⟨h1, h2, h3⟩ := hf a b ha hb
    have hfb : (f a b).2.toNat < 16 := by rcases h1 with h | h <;> rw [h] <;> assumption
    obtain ⟨i1, i2, i3⟩ := ih (fun p hp => hL p (List.mem_cons_of_mem b hp)) (f a b) hfb
    rw [List.foldl_cons]
    refine ⟨?_, h2.trans i2, fun p hp => ?_⟩
    · rcases i1 with h | h
      · rw [h]
        rcases h1 with h' | h'
        · exact Or.inl h'
        · exact Or.inr (by rw [h']; exact List.mem_cons_self)
      · exact Or.inr (List.mem_cons_of_mem b h)
    · rcases List.mem_cons.mp hp with rfl | hp
      · exact h3.trans i2
      · exact i3 p hp

/-- The fold over the pairs of a number and its place, in any order, from the least pair, ends at the first of the
    largest. -/
theorem foldl_best {f : EReal × BitVec 32 → EReal × BitVec 32 → EReal × BitVec 32} (hf : Keeps f) (S : ℕ → EReal)
    (L : List (EReal × BitVec 32)) (hL : ∀ p, p ∈ L ↔ ∃ e < 16, p = (S e, BitVec.ofNat 32 e)) :
    ∃ e, Best S e ∧ (L.foldl f (⊥, 0#32)).2 = BitVec.ofNat 32 e := by
  have hn : ∀ e < 16, (BitVec.ofNat 32 e).toNat = e := fun e he => by
    rw [BitVec.toNat_ofNat, Nat.mod_eq_of_lt (by omega)]
  obtain ⟨h1, h2, h3⟩ := foldl_keeps hf L (fun p hp => by
    obtain ⟨e, he, rfl⟩ := (hL p).mp hp
    show (BitVec.ofNat 32 e).toNat < 16
    rw [hn e he]; exact he) (⊥, 0#32) (by decide)
  have hmem : ∃ e < 16, L.foldl f (⊥, 0#32) = (S e, BitVec.ofNat 32 e) := by
    rcases h1 with h | h
    · refine ⟨0, by decide, ?_⟩
      have h0 := h3 _ ((hL (S 0, BitVec.ofNat 32 0)).mpr ⟨0, by decide, rfl⟩)
      rw [h] at h0 ⊢
      rcases h0 with h0 | ⟨h0, -⟩
      · exact absurd h0 not_lt_bot
      · exact Prod.ext h0.symm rfl
    · exact (hL _).mp h
  obtain ⟨e, he, heq⟩ := hmem
  rw [heq] at h3 ⊢
  have hb : ∀ i < 16, S i < S e ∨ (S i = S e ∧ e ≤ i) := fun i hi => by
    rcases h3 _ ((hL _).mpr ⟨i, hi, rfl⟩) with h | ⟨h, h'⟩
    · exact Or.inl h
    · refine Or.inr ⟨h, ?_⟩
      have h'' : (BitVec.ofNat 32 e).toNat ≤ (BitVec.ofNat 32 i).toNat := h'
      rwa [hn e he, hn i hi] at h''
  refine ⟨e, ⟨he, fun i hi => (hb i hi).elim le_of_lt fun h => h.1.le, fun i hi => ?_⟩, rfl⟩
  rcases hb i (hi.trans he) with h | ⟨-, h⟩
  · exact h
  · exact absurd hi (not_lt.mpr h)

end Cert.Math3

end
-- ==== Proof.Elem3.lean ====
/- The kernel's values at a point, read at an index over the extended reals. -/
module

public import proofs.«01_k».proof.Proof.Res3
public import proofs.«01_k».proof.Proof.Math3
public import Idealize.ShloMosaic.Lib.Pointwise

@[expose] public section

set_option maxRecDepth 16384

noncomputable section

namespace Cert.KernelIdeal.Ring3

open Cert.KernelIdeal Cert.KernelIdeal.Gen Cert.Math3 Idealize.ShloMosaic Idealize.ShloMosaic.TcCoe Idealize.SL.Sem

/-- The place of lane `l` in group `g`. -/
def pl (g : Fin 16) (l : Fin 128) : Fin 2048 := ⟨g.val * 128 + l.val, by have := g.isLt; have := l.isLt; omega⟩

/-- A sum over all places is the sum over the groups and the lanes. -/
theorem sum_pl (f : Fin 2048 → ℝ) : ∑ n, f n = ∑ g, ∑ l, f (pl g l) :=
  Fin.sum_univ_tiles 16 128 rfl f

/-- A sample's block: row `16 t + g`, lane `l` holds the entry at time `t` and place `pl g l`. -/
def Holds (xb : Vec Ideal S1x1536x128 .f32) (X : Fin 96 → Fin 2048 → ℝ) : Prop :=
  ∀ (t : Fin 96) (g : Fin 16) (l : Fin 128),
    xb (ix3 0 ⟨t.val * 16 + g.val, by have := g.isLt; have := t.isLt; omega⟩ l) = ((X t (pl g l) : ℝ) : EReal)

section
variable {xb : Vec Ideal S1x1536x128 .f32} {X : Fin 96 → Fin 2048 → ℝ} (hX : Holds xb X)
include hX

theorem d0_at (t : Fin 96) (g : Fin 16) (l : Fin 128) : d0 xb (ix3 t g l) = ((X t (pl g l) : ℝ) : EReal) := by
  pointwise [d0, k0_pay5]
  exact hX t g l

theorem d1_at (g : Fin 16) (l : Fin 128) : d1 xb (ix2 g l) = ((m1 X (pl g l) : ℝ) : EReal) := by
  pointwise [d1, k0_pay6, k0_pay5]
  simp only [hX _ g l]
  rw [coe_sum, ofBits_96, div_real (by norm_num)]; rfl

theorem d2_at (g : Fin 16) (l : Fin 128) : d2 xb (ix2 g l) = ((m2 X (pl g l) : ℝ) : EReal) := by
  pointwise [d2, k0_pay7, k0_pay5]
  simp only [hX _ g l, ← EReal.coe_mul]
  rw [coe_sum, ofBits_96, div_real (by norm_num)]; rfl

theorem d3_eq : d3 xb = ((mu X : ℝ) : EReal) := by
  pointwise [d3, k0_pay8]
  have h : ∀ g l, k0_pay6 xb (ix2 g l) = ((m1 X (pl g l) : ℝ) : EReal) := d1_at hX
  simp only [h]
  simp only [coe_sum, ofBits_2048]
  rw [div_real (by norm_num)]; unfold mu; rw [sum_pl]

theorem var_eq : k0_pay10 (d3 xb) (d4 xb) = ((vd X : ℝ) : EReal) := by
  pointwise [k0_pay10, d4, k0_pay9]
  have h : ∀ g l, k0_pay7 xb (ix2 g l) = ((m2 X (pl g l) : ℝ) : EReal) := d2_at hX
  simp only [h]
  simp only [coe_sum, ofBits_2048, d3_eq hX]
  rw [div_real (by norm_num), ← EReal.coe_mul, ← EReal.coe_sub]; unfold vd; rw [sum_pl]

theorem d5_eq : d5 xb = ((sd X : ℝ) : EReal) := by
  show Ideal.sqrt (k0_pay10 (d3 xb) (d4 xb) + Ideal.ofBits .f32 925353388#32) = _
  rw [var_eq hX, ofBits_eps, ← EReal.coe_add, sqrt_real (vd_eps X).le]; rfl

theorem d6_at (g : Fin 16) (l : Fin 128) : d6 xb (ix2 g l) = ((sp X (pl g l) : ℝ) : EReal) := by
  have h : k0_pay11 (d3 xb) (d4 xb) = ((sd X : ℝ) : EReal) := d5_eq hX
  pointwise [d6, k0_pay12]
  rw [h, d1_at hX, d3_eq hX, ← EReal.coe_sub, div_real (sd_pos X).ne']; rfl

theorem d7_at (g : Fin 16) (l : Fin 128) : d7 xb (ix2 g l) = ((ss X (pl g l) : ℝ) : EReal) := by
  pointwise [d7, k0_pay13]
  rw [var_eq hX, d1_at hX, d2_at hX, ofBits_eps, ← EReal.coe_add, ← EReal.coe_mul, ← EReal.coe_sub,
    div_real (vd_eps X).ne', ← EReal.coe_add]
  exact sqrt_real (add_pos_of_nonneg_of_pos (vs_nonneg X (pl g l)) eps_pos).le

theorem d8_at (g : Fin 16) (l : Fin 128) : d8 xb (ix2 g l) = ((fac X (pl g l) : ℝ) : EReal) := by
  have h : k0_pay11 (d3 xb) (d4 xb) = ((sd X : ℝ) : EReal) := d5_eq hX
  have h7 : k0_pay13 (d1 xb) (d2 xb) (d3 xb) (d4 xb) (ix2 g l) = ((ss X (pl g l) : ℝ) : EReal) := d7_at hX g l
  have e : d8 xb (ix2 g l) = Ideal.div 1 (k0_pay11 (d3 xb) (d4 xb) * k0_pay13 (d1 xb) (d2 xb) (d3 xb) (d4 xb) (ix2 g l)) := by
    pointwise [d8, k0_pay14, k0_pay13]
  rw [e, h, h7, ← EReal.coe_mul, ← EReal.coe_one, div_real (mul_pos (sd_pos X) (ss_pos X _)).ne']; rfl

end

end Cert.KernelIdeal.Ring3

end
-- ==== Proof.Route3.lean ====
/- The kernel's choice at a place: the running best score and its number, and the weights picked by that number. -/
module

public import proofs.«01_k».proof.Proof.Elem3

@[expose] public section

set_option maxRecDepth 16384

noncomputable section

namespace Cert.KernelIdeal.Ring3

open Cert.KernelIdeal Cert.KernelIdeal.Gen Cert.Math3 Idealize.ShloMosaic Idealize.ShloMosaic.TcCoe Idealize.SL.Sem

section
variable (x0 : Vec Ideal S256x1540 .f32) (xb : Vec Ideal S1x1536x128 .f32) (g : Fin 16) (l : Fin 128)

/-- Column `c` of the constant operand at expert `n`. -/
def aux (c : Fin 1540) (n : ℕ) : EReal := x0 (ix2 (Fin.ofNat 256 (16 * n)) c)

/-- The score of expert `n` at a place. -/
def sc (n : ℕ) : EReal :=
  (d9 x0 xb (ix3 (Fin.ofNat 16 n) g l) - aux x0 1539 n * d1 xb (ix2 g l)) * d8 xb (ix2 g l) + aux x0 1536 n

theorem top2 : Top (sc x0 xb g l) 2 (d11 x0 xb (ix2 g l)) (d12 x0 xb (ix2 g l)) := by
  pointwise [d11, d12, k0_pay24, k0_pay23, k0_pay22, k0_pay21, k0_pay20, k0_pay19, k0_pay18, k0_pay17, d10, k0_pay16]
  exact ((top_zero (sc x0 xb g l)).step).step

/-- The best score after expert 4. -/
def best4 : EReal := k0_pay31 (d1 xb) (d8 xb) (d9 x0 xb) (d11 x0 xb) (d13 x0 xb)
  (View.ld x0 (Rect.unit (s := S256x1540) ![48, 1539] S1x1.size inb_S256x1540_S1x1_48_1539))
  (View.ld x0 (Rect.unit (s := S256x1540) ![48, 1536] S1x1.size inb_S256x1540_S1x1_48_1536))
  (View.ld x0 (Rect.unit (s := S256x1540) ![64, 1539] S1x1.size inb_S256x1540_S1x1_64_1539))
  (View.ld x0 (Rect.unit (s := S256x1540) ![64, 1536] S1x1.size inb_S256x1540_S1x1_64_1536)) (ix2 g l)

theorem top4 : Top (sc x0 xb g l) 4 (best4 x0 xb g l) (d14 x0 xb (ix2 g l)) := by
  pointwise [best4, d14, k0_pay32, k0_pay26, k0_pay27, k0_pay28, k0_pay29, k0_pay30, k0_pay31, d13, k0_pay25]
  exact ((top2 x0 xb g l).step).step

theorem top5 : Top (sc x0 xb g l) 5 (d16 x0 xb (ix2 g l))
    (Scalar.select (d15 x0 xb (ix2 g l)) 5#32 (d14 x0 xb (ix2 g l))) := by
  pointwise [d16, k0_pay35, k0_pay34, k0_pay33, d15]
  exact (top4 x0 xb g l).step

theorem top7 : Top (sc x0 xb g l) 7 (d17 x0 xb (ix2 g l)) (d18 x0 xb (ix2 g l)) := by
  have h := top5 x0 xb g l
  pointwise [d17, k0_pay42, k0_pay41, k0_pay40, k0_pay39, k0_pay38, k0_pay37, d18, k0_pay43, k0_pay36]
  exact (h.step).step

theorem top10 : Top (sc x0 xb g l) 10 (d21 x0 xb (ix2 g l)) (d22 x0 xb (ix2 g l)) := by
  pointwise [d21, k0_pay52, k0_pay51, k0_pay50, k0_pay49, k0_pay48, k0_pay47, k0_pay46, d22, k0_pay53, d20, k0_pay45,
    d19, k0_pay44]
  exact (((top7 x0 xb g l).step).step).step

theorem top13 : Top (sc x0 xb g l) 13 (d25 x0 xb (ix2 g l)) (d26 x0 xb (ix2 g l)) := by
  pointwise [d25, k0_pay64, k0_pay63, k0_pay62, k0_pay61, k0_pay60, k0_pay59, k0_pay58, k0_pay57, k0_pay56, d26,
    k0_pay65, d24, k0_pay55, d23, k0_pay54]
  exact (((top10 x0 xb g l).step).step).step

theorem top15 : ∃ b, Top (sc x0 xb g l) 15 b (d28 x0 xb (ix2 g l)) := by
  refine ⟨_, Top.cast ((top13 x0 xb g l).step).step ?_⟩
  pointwise [d28, k0_pay67, d27, k0_pay66]
  rfl

/-- The number kept at a place is that of the first expert with the largest score. -/
theorem choice : ∃ e, Best (sc x0 xb g l) e ∧ d28 x0 xb (ix2 g l) = BitVec.ofNat 32 e := by
  obtain ⟨b, h⟩ := top15 x0 xb g l
  exact h.best

variable {x0 xb g l} {e : ℕ} (he : e < 16) (hk : d28 x0 xb (ix2 g l) = BitVec.ofNat 32 e)
include he hk

theorem gam1 : Sel (aux x0 1537) e 1 (d29 x0 xb (ix2 g l)) := by
  pointwise [d29, k0_pay69, k0_pay68]
  exact (sel_zero (aux x0 1537) e).step he (by decide) hk

theorem bet1 : Sel (aux x0 1538) e 1 (d30 x0 xb (ix2 g l)) := by
  pointwise [d30, k0_pay70, k0_pay68]
  exact (sel_zero (aux x0 1538) e).step he (by decide) hk

theorem gam5 : Sel (aux x0 1537) e 5 (d32 x0 xb (ix2 g l)) := by
  pointwise [d32, k0_pay75, k0_pay74, k0_pay73, k0_pay72, d31, k0_pay71]
  exact ((((gam1 he hk).step he (by decide) hk).step he (by decide) hk).step he (by decide) hk).step he (by decide) hk

theorem bet5 : Sel (aux x0 1538) e 5 (d33 x0 xb (ix2 g l)) := by
  pointwise [d33, k0_pay76, k0_pay74, k0_pay73, k0_pay72, d31, k0_pay71]
  exact ((((bet1 he hk).step he (by decide) hk).step he (by decide) hk).step he (by decide) hk).step he (by decide) hk

theorem gam9 : Sel (aux x0 1537) e 9 (d35 x0 xb (ix2 g l)) := by
  pointwise [d35, k0_pay81, k0_pay80, k0_pay79, k0_pay78, d34, k0_pay77]
  exact ((((gam5 he hk).step he (by decide) hk).step he (by decide) hk).step he (by decide) hk).step he (by decide) hk

theorem bet9 : Sel (aux x0 1538) e 9 (d36 x0 xb (ix2 g l)) := by
  pointwise [d36, k0_pay82, k0_pay80, k0_pay79, k0_pay78, d34, k0_pay77]
  exact ((((bet5 he hk).step he (by decide) hk).step he (by decide) hk).step he (by decide) hk).step he (by decide) hk

theorem gam13 : Sel (aux x0 1537) e 13 (d38 x0 xb (ix2 g l)) := by
  pointwise [d38, k0_pay87, k0_pay86, k0_pay85, k0_pay84, d37, k0_pay83]
  exact ((((gam9 he hk).step he (by decide) hk).step he (by decide) hk).step he (by decide) hk).step he (by decide) hk

theorem bet13 : Sel (aux x0 1538) e 13 (d39 x0 xb (ix2 g l)) := by
  pointwise [d39, k0_pay88, k0_pay86, k0_pay85, k0_pay84, d37, k0_pay83]
  exact ((((bet9 he hk).step he (by decide) hk).step he (by decide) hk).step he (by decide) hk).step he (by decide) hk

/-- The weight picked at a place is the kept expert's. -/
theorem gam_at : d41 x0 xb (ix2 g l) = aux x0 1537 e := by
  have h : Sel (aux x0 1537) e 15 (d41 x0 xb (ix2 g l)) := by
    pointwise [d41, k0_pay91, k0_pay90, d40, k0_pay89]
    exact ((gam13 he hk).step he (by decide) hk).step he (by decide) hk
  exact h (Nat.le_of_lt_succ he)

/-- The offset picked at a place is the kept expert's. -/
theorem bet_at : d42 x0 xb (ix2 g l) = aux x0 1538 e := by
  have h : Sel (aux x0 1538) e 15 (d42 x0 xb (ix2 g l)) := by
    pointwise [d42, k0_pay92, k0_pay90, d40, k0_pay89]
    exact ((bet13 he hk).step he (by decide) hk).step he (by decide) hk
  exact h (Nat.le_of_lt_succ he)

end

/-! ### The seven blocks -/

section
variable {x0 : Vec Ideal S256x1540 .f32} {xb : Vec Ideal S1x1536x128 .f32} {X : Fin 96 → Fin 2048 → ℝ} (hX : Holds xb X)
include hX

theorem res1_at {g : Fin 16} {l : Fin 128} {e : ℕ} (he : e < 16) (hk : d28 x0 xb (ix2 g l) = BitVec.ofNat 32 e)
    (t : Fin 96) :
    res1 x0 xb (ix3 0 ⟨t.val * 16 + g.val, by have := g.isLt; have := t.isLt; omega⟩ l)
      = ((nrm X t (pl g l) : ℝ) : EReal) * aux x0 1537 e + aux x0 1538 e := by
  have h1 : ∀ (r : Fin 1536), res1 x0 xb (ix3 0 r l)
      = (d0 xb (ix3 ⟨r.val / 16, by have := r.isLt; omega⟩ ⟨r.val % 16, by omega⟩ l) - d1 xb (ix2 ⟨r.val % 16, by omega⟩ l))
        * (d8 xb (ix2 ⟨r.val % 16, by omega⟩ l) * d41 x0 xb (ix2 ⟨r.val % 16, by omega⟩ l))
        + d42 x0 xb (ix2 ⟨r.val % 16, by omega⟩ l) := fun r => by
    pointwise [res1, k0_pay93]
    rfl
  rw [h1]
  have hq : (⟨(t.val * 16 + g.val) / 16, by have := g.isLt; have := t.isLt; omega⟩ : Fin 96) = t :=
    Fin.ext (by have := g.isLt; show (t.val * 16 + g.val) / 16 = t.val; omega)
  have hm : (⟨(t.val * 16 + g.val) % 16, by omega⟩ : Fin 16) = g :=
    Fin.ext (by have := g.isLt; show (t.val * 16 + g.val) % 16 = g.val; omega)
  simp only [hq, hm]
  rw [gam_at he hk, bet_at he hk, d0_at hX, d1_at hX, d8_at hX, ← mul_assoc, ← EReal.coe_sub, ← EReal.coe_mul]
  rfl

theorem res2_at (g : Fin 16) (l : Fin 128) : res2 x0 xb (ix3 0 g l) = ((sp X (pl g l) : ℝ) : EReal) := by
  pointwise [res2, k0_pay94]
  exact d6_at hX g l

theorem res3_at (g : Fin 16) (l : Fin 128) : res3 x0 xb (ix3 0 g l) = ((ss X (pl g l) : ℝ) : EReal) := by
  pointwise [res3, k0_pay95]
  exact d7_at hX g l

omit hX in
theorem res4_at {g : Fin 16} {l : Fin 128} {e : ℕ} (he : e < 16) (hk : d28 x0 xb (ix2 g l) = BitVec.ofNat 32 e) :
    res4 x0 xb (ix3 0 g l) = aux x0 1537 e := by
  pointwise [res4, k0_pay1]
  exact gam_at he hk

omit hX in
theorem res5_at {g : Fin 16} {l : Fin 128} {e : ℕ} (he : e < 16) (hk : d28 x0 xb (ix2 g l) = BitVec.ofNat 32 e) :
    res5 x0 xb (ix3 0 g l) = aux x0 1538 e := by
  pointwise [res5, k0_pay2]
  exact bet_at he hk

theorem res6_at : res6 x0 xb (ix3 0 0 0) = ((mu X : ℝ) : EReal) := by
  pointwise [res6, k0_pay3]
  exact d3_eq hX

theorem res7_at : res7 x0 xb (ix3 0 0 0) = ((sd X : ℝ) : EReal) := by
  pointwise [res7, k0_pay4]
  exact d5_eq hX

end

end Cert.KernelIdeal.Ring3

end
-- ==== Proof.Host3.lean ====
/- The two arrays that the host makes for the kernel, read at an index. -/
module

public import proofs.«01_k».proof.Proof.Frame3
public import proofs.«01_k».proof.Proof.Route3
public import Idealize.ShloMosaic.Lib.Pipeline.ValueKit

@[expose] public section

set_option maxRecDepth 16384

noncomputable section

namespace Cert.KernelIdeal.Ring3

open Cert.KernelIdeal Cert.KernelIdeal.Gen Cert.Math3 Idealize.ShloMosaic Idealize.ShloMosaic.TcCoe Idealize.SL.Sem
open Idealize.ShloMosaic.Pipeline (Dat)
open Idealize.ShloMosaic.StableHlo

section
variable {F : FTy → Type} [FloatOps F]

/-- An array of the host's. -/
abbrev CH (s : Shape) (e : EltTy) := (⟨s, e⟩ : BufTy).Contents (Elt F)

/-- The divisor: 1 instead of 0. -/
def dvs (n : CH (F := F) S_ .i32) : CH (F := F) S_ .i32 :=
  select (cmpi .eq (id n) (constantI S_ 32 0#32)) (constantI S_ 32 1#32) (id n)

/-- The remainder with the dividend's sign. -/
def rmd (a : CH (F := F) S256x1536 .i32) (n : CH (F := F) S_ .i32) : CH (F := F) S256x1536 .i32 :=
  Host.remsi a (broadcastInDim S256x1536 ![] bcast_S_S256x1536 (dvs (F := F) n))

/-- The remainder with the divisor's sign. -/
def modn (a : CH (F := F) S256x1536 .i32) (n : CH (F := F) S_ .i32) : CH (F := F) S256x1536 .i32 :=
  select (andi
      (cmpi .ne (cmpi .slt (rmd (F := F) a n) (broadcastInDim S256x1536 ![] bcast_S_S256x1536 (constantI S_ 32 0#32)))
        (broadcastInDim S256x1536 ![] bcast_S_S256x1536 (cmpi .slt (dvs (F := F) n) (constantI S_ 32 0#32))))
      (cmpi .ne (rmd (F := F) a n) (broadcastInDim S256x1536 ![] bcast_S_S256x1536 (constantI S_ 32 0#32))))
    (addi (rmd (F := F) a n) (broadcastInDim S256x1536 ![] bcast_S_S256x1536 (dvs (F := F) n))) (rmd (F := F) a n)

/-- A number for every expert, each one sixteen times, as a column. -/
def spread (v : CH (F := F) S16 .f32) : CH (F := F) S256x1 .f32 :=
  shapeCast S256x1 (shapeCast S256 (broadcastInDim S16x16 ![0] bcast_S16_S16x16_0 v) shapeCasts_S16x16_S256) shapeCasts_S256_S256x1

/-- The weights, each one sixteen times in a row, each row sixteen times. -/
def wide (w : CH (F := F) S16x96 .f32) : CH (F := F) S256x1536 .f32 :=
  shapeCast S256x1536 (broadcastInDim S16x16x1536 ![0, 1, 2] bcast_S16x1x1536_S16x16x1536_0_1_2
    (broadcastInDim S16x1x1536 ![0, 2] bcast_S16x1536_S16x1x1536_0_2
      (shapeCast S16x1536 (broadcastInDim S16x96x16 ![0, 1] bcast_S16x96_S16x96x16_0_1 w) shapeCasts_S16x96x16_S16x1536)))
    shapeCasts_S16x16x1536_S256x1536

/-- The array `w` where `p` holds, `z` elsewhere. -/
def mask (p : CH (F := F) S256x1536 .i1) (w : CH (F := F) S256x1536 .f32) (z : CH (F := F) S_ .f32) : CH (F := F) S256x1536 .f32 :=
  select p w (broadcastInDim S256x1536 ![] bcast_S_S256x1536 (id z))

/-- The operand of the kernel: the masked weights and four columns. -/
def catAux (w2 : CH (F := F) S256x1536 .f32) (p : CH (F := F) S256x1 .f32) (g b : CH (F := F) S16x1 .f32)
    (w : CH (F := F) S16x96 .f32) : CH (F := F) S256x1540 .f32 :=
  concatenate S256x1540 1
    [⟨S256x1536, w2⟩, ⟨S256x1, p⟩, ⟨S256x1, spread (shapeCast S16 g shapeCasts_S16x1_S16)⟩,
      ⟨S256x1, spread (shapeCast S16 b shapeCasts_S16x1_S16)⟩,
      ⟨S256x1, spread (Host.reduceAdd w (constant S_ .f32 0#32) reducesTo_S16x96_S16_d1 h_S_)⟩]
    concatenates_S256x1536_S256x1_S256x1_S256x1_S256x1_S256x1540_d1

set_option maxHeartbeats 2000000

section
variable (W : Valuation τ sig (Elt F))

/-- A buffer of the host's. -/
abbrev dvk (r : Ref sig .tc) := Proc.devRef (τ := τ) .tc r

theorem L1_v11 : after hostOps0_1 W (dvk main_v11) = modn (F := F) (W (dvk main_v9)) (W (dvk main_c)) := by
  simp only [hostOps0_1, TRef.binary, TRef.nullary, TRef.unary, TRef.ternary, TRef.toBuf, TRef.ofBuf, cast_eq]
  after_results_simp <;> rfl

theorem L3_v12 : after hostOps0_3 W (dvk main_v12) = modn (F := F) (W (dvk main_v10)) (W (dvk main_c_0)) := by
  simp only [hostOps0_3, TRef.binary, TRef.nullary, TRef.unary, TRef.ternary, TRef.toBuf, TRef.ofBuf, cast_eq]
  after_results_simp <;> rfl

theorem L5_v14 : after hostOps0_5 W (dvk main_v14) = mask (F := F) (W (dvk main_v13)) (W (dvk main_v8)) (W (dvk main_cst)) := by
  simp only [hostOps0_5, TRef.binary, TRef.nullary, TRef.unary, TRef.ternary, TRef.toBuf, TRef.ofBuf, cast_eq]
  after_results_simp <;> rfl

theorem L6_v27 : after hostOps0_6 W (dvk main_v27)
    = catAux (F := F) (W (dvk main_v14)) (W (dvk main_v3)) (W (dvk main_arg1)) (W (dvk main_arg2)) (W (dvk main_arg3)) := by
  after_results <;> rfl

/-- The kernel's operand after the host's lines. -/
theorem all_v27 : after (List.flatten [hostOps0, hostOps0_1, hostOps0_2, hostOps0_3, hostOps0_4, hostOps0_5, hostOps0_6]) W
      (dvk main_v27)
    = catAux (F := F) (mask (F := F) (cmpi .eq (modn (F := F) (iotaInDim S256x1536 32 0) (constantI S_ 32 16#32))
          (modn (F := F) (iotaInDim S256x1536 32 1) (constantI S_ 32 16#32)))
        (wide (W (dvk main_arg3))) (constant S_ .f32 0#32))
      (spread (W (dvk main_arg4))) (W (dvk main_arg1)) (W (dvk main_arg2)) (W (dvk main_arg3)) := by
  simp only [List.flatten_cons, List.flatten_nil, after_append, after_nil, List.append_nil]
  rw [L6_v27, L5_v14]
  have h13 : ∀ W : Valuation τ sig (Elt F), after hostOps0_4 W (dvk main_v13) = (cmpi .eq (W (dvk main_v11) : CH (F := F) S256x1536 .i32) (W (dvk main_v12)) : CH (F := F) S256x1536 .i1) := fun W => by
    after_results_simp
  have h11 : ∀ W : Valuation τ sig (Elt F), after hostOps0_3 W (dvk main_v11) = W (dvk main_v11) := fun W => by
    after_results_simp
  have h11' : ∀ W : Valuation τ sig (Elt F), after hostOps0_2 W (dvk main_v11) = W (dvk main_v11) := fun W => by
    after_results_simp
  rw [h13, h11, h11', L3_v12, L1_v11]
  after_results_simp <;> rfl

end
end

/-! ### At an index, over the extended reals -/

/-- An array of extended reals. -/
abbrev CK (s : Shape) (e : EltTy) := CH (F := Ideal) s e

/-- The remainder of a word by 16, as the host computes it. -/
def word16 (x : BitVec 32) : BitVec 32 :=
  let n : BitVec 32 := Scalar.select (IntOp.cmpi .eq 16#32 0#32) 1#32 16#32
  Scalar.select (IntOp.andi (IntOp.cmpi .ne (IntOp.cmpi .slt (IntOp.remsi .host x n) 0#32) (IntOp.cmpi .slt n 0#32))
      (IntOp.cmpi .ne (IntOp.remsi .host x n) 0#32))
    (IntOp.addi (IntOp.remsi .host x n) n) (IntOp.remsi .host x n)

theorem word16_eq : ∀ r : Fin 1536, word16 (BitVec.ofNat 32 r.val) = BitVec.ofNat 32 (r.val % 16) := by decide +kernel

theorem cmp16 : ∀ a b : Fin 16, IntOp.cmpi .eq (BitVec.ofNat 32 a.val) (BitVec.ofNat 32 b.val) = BitVec.ofBool (decide (a.val = b.val)) := by
  decide +kernel

theorem modn_at (a : CK S256x1536 .i32) (p : Fin 256) (r : Fin 1536) :
    modn (F := Ideal) a (constantI S_ 32 16#32) (ix2 p r) = word16 (a (ix2 p r)) := by
  pointwise [modn, rmd, dvs]
  rfl

theorem same_at (p : Fin 256) (r : Fin 1536) :
    (cmpi .eq (modn (F := Ideal) (iotaInDim S256x1536 32 0) (constantI S_ 32 16#32))
      (modn (F := Ideal) (iotaInDim S256x1536 32 1) (constantI S_ 32 16#32)) : IVec S256x1536 1) (ix2 p r)
    = BitVec.ofBool (decide (p.val % 16 = r.val % 16)) := by
  have h0 := (modn_at (iotaInDim S256x1536 32 0) p r).trans (word16_eq ⟨p.val, by omega⟩)
  have h1 := (modn_at (iotaInDim S256x1536 32 1) p r).trans (word16_eq r)
  refine (congrArg₂ (IntOp.cmpi .eq) h0 h1).trans ?_
  exact cmp16 ⟨p.val % 16, by omega⟩ ⟨r.val % 16, by omega⟩

/-- What the kernel's operand holds: the masked weights and four columns. -/
structure IsAux (x0 : FVec Ideal S256x1540 .f32) (w : CK S16x96 .f32) (g b : CK S16x1 .f32) (q : CK S16 .f32) : Prop where
  wt : ∀ (e p : Fin 16) (r : Fin 1536), x0 (ix2 ⟨e.val * 16 + p.val, by omega⟩ ⟨r.val, by omega⟩)
    = if p.val = r.val % 16 then w (ix2 e ⟨r.val / 16, by omega⟩) else 0
  off : ∀ e : Fin 16, aux x0 1536 e.val = q (ix1 e)
  gam : ∀ e : Fin 16, aux x0 1537 e.val = g (ix2 e 0)
  bet : ∀ e : Fin 16, aux x0 1538 e.val = b (ix2 e 0)
  tot : ∀ e : Fin 16, aux x0 1539 e.val = ∑ t, w (ix2 e t)

/-- The row of the operand that holds expert `e`'s numbers. -/
theorem row16 (e : Fin 16) : (Fin.ofNat 256 (16 * e.val)).val / 16 = e.val := by
  show 16 * e.val % 256 / 16 = e.val
  omega

theorem isAux (W : Valuation τ sig (Elt Ideal)) :
    IsAux (after (List.flatten [hostOps0, hostOps0_1, hostOps0_2, hostOps0_3, hostOps0_4, hostOps0_5, hostOps0_6]) W
      (dvk main_v27)) (W (dvk main_arg3)) (W (dvk main_arg1)) (W (dvk main_arg2)) (W (dvk main_arg4)) := by
  rw [all_v27]
  generalize (W (dvk main_arg3) : CK S16x96 .f32) = w
  generalize (W (dvk main_arg1) : CK S16x1 .f32) = g
  generalize (W (dvk main_arg2) : CK S16x1 .f32) = b
  generalize (W (dvk main_arg4) : CK S16 .f32) = q
  have hs : ∀ (v : CK S16 .f32) (e : Fin 16), spread v (ix2 (Fin.ofNat 256 (16 * e.val)) 0) = v (ix1 e) := fun v e => by
    pointwise [spread]
    exact congrArg (fun z => v (ix1 z)) (Fin.ext (row16 e))
  constructor
  · intro e p r
    have h := same_at ⟨e.val * 16 + p.val, by omega⟩ r
    have hz : constant (F := Ideal) S_ .f32 0#32 ix0 = (0 : EReal) := by pointwise
    have e1 : (e.val * 16 + p.val) % 16 = p.val := by omega
    pointwise [catAux, mask, wide]
    by_cases hp : p.val = r.val % 16
    · have h1 := h.trans (congrArg BitVec.ofBool (decide_eq_true (e1.trans hp)))
      rw [if_pos hp]
      exact congrArg (fun z => Scalar.select z (w (ix2 e ⟨r.val / 16, by omega⟩)) (constant (F := Ideal) S_ .f32 0#32 ix0)) h1
    · have h1 := h.trans (congrArg BitVec.ofBool (decide_eq_false fun h' => hp (e1.symm.trans h')))
      rw [if_neg hp, ← hz]
      exact congrArg (fun z => Scalar.select z (w (ix2 e ⟨r.val / 16, by omega⟩)) (constant (F := Ideal) S_ .f32 0#32 ix0)) h1
  · intro e
    unfold aux
    pointwise [catAux]
    exact hs q e
  · intro e
    unfold aux
    pointwise [catAux]
    refine (hs _ e).trans ?_
    pointwise
  · intro e
    unfold aux
    pointwise [catAux]
    refine (hs _ e).trans ?_
    pointwise
  · intro e
    unfold aux
    pointwise [catAux]
    refine (hs _ e).trans ?_
    pointwise

end Cert.KernelIdeal.Ring3

end
-- ==== Proof.RefElem3.lean ====
/- The reference's arrays, read at an index over the extended reals. -/
module

public import proofs.«01_k».proof.Proof.Ref3
public import proofs.«01_k».proof.Proof.Math3
public import Idealize.ShloMosaic.Lib.Pointwise
public import Idealize.ShloMosaic.Lib.Routing.Ops

@[expose] public section

set_option maxRecDepth 16384

noncomputable section

namespace Cert.ReferenceIdeal.Ref3

open Cert.ReferenceIdeal Cert.ReferenceIdeal.Gen Cert.Math3 Idealize.ShloMosaic Idealize.ShloMosaic.TcCoe Idealize.SL.Sem
/-- An array of extended reals. -/
abbrev CI (s : Shape) (e : EltTy) := C (F := Ideal) s e

/-! ### The means and deviations of a sample -/

/-- A sum over times and places, of one sample. -/
theorem sum_sample (v : S16x96x2048x1.Idx → EReal) (b : Fin 16) :
    Ideal.hostReduceAdd reducesTo_S16x96x2048x1_S16x1_d1_2 v 0 (ix2 b 0) = ∑ t : Fin 96, ∑ n : Fin 2048, v (ix4 b t n 0) := by
  unfold Ideal.hostReduceAdd
  rw [zero_add, Finset.sum_filter_eq_sum_of_fiber _ (fun k : Fin 96 × Fin 2048 => (ix4 b k.1 k.2 0 : S16x96x2048x1.Idx)),
    Fintype.sum_prod_type]
  · intro k k' h
    exact Prod.ext (congrFun h 1) (congrFun h 2)
  · intro i
    constructor
    · intro h
      refine ⟨(i 1, i 2), ?_⟩
      funext a; apply Fin.ext
      match a with
      | ⟨0, _⟩ => exact (congrArg Fin.val (congrFun h 0)).symm
      | ⟨1, _⟩ => rfl
      | ⟨2, _⟩ => rfl
      | ⟨3, _⟩ => exact (congrArg Fin.val (congrFun h 1)).symm
    · rintro ⟨k, rfl⟩
      funext a; apply Fin.ext
      match a with
      | ⟨0, _⟩ => rfl
      | ⟨1, _⟩ => rfl

theorem count4_eq : (count4 : CI S_ .f32) ix0 = ((196608 : ℝ) : EReal) := by
  have h : (FloatOps.sitofp (F := Ideal) .f32 0#32 : EReal) = ((0 : ℝ) : EReal) := by
    show (((((0#32).toInt : ℤ)) : ℝ) : EReal) = _
    simp
  pointwise [count4]
  rw [ofBits_196608, h, ← EReal.coe_sub, sub_zero]

theorem count1_eq : (count1 : CI S_ .f32) ix0 = ((96 : ℝ) : EReal) := by
  have h : (FloatOps.sitofp (F := Ideal) .f32 0#32 : EReal) = ((0 : ℝ) : EReal) := by
    show (((((0#32).toInt : ℤ)) : ℝ) : EReal) = _
    simp
  pointwise [count1]
  rw [ofBits_96, h, ← EReal.coe_sub, sub_zero]

/-- Sample `b` of an array is the array `Y` of real numbers. -/
def Is (x : CI S16x96x2048x1 .f32) (b : Fin 16) (Y : Fin 96 → Fin 2048 → ℝ) : Prop :=
  ∀ t n, x (ix4 b t n 0) = ((Y t n : ℝ) : EReal)

section
variable {y : CI S16x96x2048x1 .f32} {b : Fin 16} {Y : Fin 96 → Fin 2048 → ℝ} (hY : Is y b Y)
include hY

theorem mean4_real : mean4 y (ix4 b 0 0 0) = (((∑ t, ∑ n, Y t n) / 196608 : ℝ) : EReal) := by
  pointwise [mean4]
  rw [sum_sample, ofBits_196608]
  simp only [hY _ _, coe_sum]
  rw [div_real (by norm_num)]

theorem ctr4_real : Is (ctr4 y) b fun t n => Y t n - (∑ t, ∑ n, Y t n) / 196608 := by
  intro t n
  pointwise [ctr4]
  rw [mean4_real hY, hY, ← EReal.coe_sub]

theorem var4_real : var4 y (ix4 b 0 0 0) = (((∑ t, ∑ n, (Y t n - (∑ t, ∑ n, Y t n) / 196608)
    * (Y t n - (∑ t, ∑ n, Y t n) / 196608)) / 196608 : ℝ) : EReal) := by
  have h := ctr4_real hY
  pointwise [var4]
  rw [count4_eq, if_pos (by exact_mod_cast (by norm_num : (0 : ℝ) < 196608)), sum_sample]
  have e : ∀ t n, mulf (F := Ideal) (φ := .f32) (ctr4 y) (ctr4 y) (ix4 b t n 0) = ctr4 y (ix4 b t n 0) * ctr4 y (ix4 b t n 0) :=
    fun t n => rfl
  simp only [e, h _ _, ← EReal.coe_mul, coe_sum]
  rw [div_real (by norm_num)]

theorem mean1_real (n : Fin 2048) : mean1 y (ix4 b 0 n 0) = (((∑ t, Y t n) / 96 : ℝ) : EReal) := by
  pointwise [mean1]
  simp only [hY _ _, coe_sum]
  rw [ofBits_96, div_real (by norm_num)]

theorem ctr1_real : Is (ctr1 y) b fun t n => Y t n - (∑ t, Y t n) / 96 := by
  intro t n
  pointwise [ctr1]
  rw [mean1_real hY, hY, ← EReal.coe_sub]

theorem var1_real (n : Fin 2048) : var1 y (ix4 b 0 n 0)
    = (((∑ t, (Y t n - (∑ t, Y t n) / 96) * (Y t n - (∑ t, Y t n) / 96)) / 96 : ℝ) : EReal) := by
  have h := ctr1_real hY
  pointwise [var1]
  rw [count1_eq, if_pos (by exact_mod_cast (by norm_num : (0 : ℝ) < 96))]
  simp only [h _ _, ← EReal.coe_mul, coe_sum]
  rw [div_real (by norm_num)]

end

section
variable {x : CI S16x96x2048x1 .f32} {b : Fin 16} {X : Fin 96 → Fin 2048 → ℝ} (hX : Is x b X)
include hX

theorem mean4_at : mean4 x (ix4 b 0 0 0) = ((mu X : ℝ) : EReal) := by rw [mean4_real hX, mean_all]

theorem ctr4_at : Is (ctr4 x) b fun t n => X t n - mu X := by
  have h := ctr4_real hX
  rwa [mean_all] at h

theorem std4_at : std4 (ctr4 x) (ix4 b 0 0 0) = ((sd X : ℝ) : EReal) := by
  pointwise [std4]
  rw [var4_real (ctr4_at hX), sum_ctr, zero_div]
  simp only [sub_zero]
  rw [var_all, ofBits_eps, ← EReal.coe_add]
  exact sqrt_real (vd_eps X).le

theorem nrm4_at : Is (nrm4 x) b fun t n => (X t n - mu X) / sd X := by
  intro t n
  pointwise [nrm4]
  rw [std4_at hX, ctr4_at hX, div_real (sd_pos X).ne']

theorem mean1_at (n : Fin 2048) : mean1 (nrm4 x) (ix4 b 0 n 0) = ((sp X n : ℝ) : EReal) := by
  rw [mean1_real (nrm4_at hX), mean_unit]

theorem ctr1_at : Is (ctr1 (nrm4 x)) b fun t n => (X t n - m1 X n) / sd X := by
  intro t n
  rw [ctr1_real (nrm4_at hX)]
  beta_reduce
  rw [mean_unit, unit_ctr]

theorem std1_at (n : Fin 2048) : std1 (ctr1 (nrm4 x)) (ix4 b 0 n 0) = ((ss X n : ℝ) : EReal) := by
  pointwise [std1]
  rw [var1_real (ctr1_at hX), sum_unit_ctr, zero_div]
  simp only [sub_zero]
  rw [var_unit, ofBits_eps, ← EReal.coe_add]
  exact sqrt_real (add_pos_of_nonneg_of_pos (vs_nonneg X n) eps_pos).le

theorem nrm1_at : Is (nrm1 (nrm4 x)) b (nrm X) := by
  intro t n
  pointwise [nrm1]
  rw [std1_at hX, ctr1_at hX, div_real (ss_pos X n).ne', unit_nrm]

theorem normRows_at (t : Fin 96) (n : Fin 2048) : normRows x (ix3 b n t) = ((nrm X t n : ℝ) : EReal) := by
  pointwise [normRows, rows]
  exact nrm1_at hX t n

end

/-! ### The choice -/

/-- The signed order of small row numbers. -/
theorem slt_small {a b : BitVec 32} (ha : a.toNat < 16) (hb : b.toNat < 16) :
    IntOp.cmpi .slt a b = BitVec.ofBool (decide (a.toNat < b.toNat)) := by
  show BitVec.ofBool (a.slt b) = _
  rw [BitVec.slt_eq_decide, BitVec.toInt_eq_toNat_of_lt (by omega), BitVec.toInt_eq_toNat_of_lt (by omega)]
  simp

theorem reducer_keeps : Keeps (reducer_argmax_f32_i32 (F := Ideal)) := by
  rintro ⟨a, i⟩ ⟨b, k⟩ hi hk
  have hr : reducer_argmax_f32_i32 (F := Ideal) (a, i) (b, k)
      = (Scalar.select (IntOp.ori (Ideal.cmp .ogt a b) (Ideal.cmp .une a a)) a b,
        Scalar.select (IntOp.ori (IntOp.ori (Ideal.cmp .ogt a b) (Ideal.cmp .une a a))
          (IntOp.andi (Ideal.cmp .oeq a b) (IntOp.cmpi .slt i k))) i k) := rfl
  rw [hr, slt_small hi hk]
  rcases lt_trichotomy a b with h | h | h
  · have e : ((Scalar.select (IntOp.ori (Ideal.cmp .ogt a b) (Ideal.cmp .une a a)) a b,
        Scalar.select (IntOp.ori (IntOp.ori (Ideal.cmp .ogt a b) (Ideal.cmp .une a a))
          (IntOp.andi (Ideal.cmp .oeq a b) (BitVec.ofBool (decide (i.toNat < k.toNat))))) i k) : EReal × BitVec 32) = (b, k) := by
      simp [Ideal.cmp, h.not_gt, h.ne, IntOp.ori, IntOp.andi, Scalar.select]
    rw [e]
    exact ⟨Or.inr rfl, Or.inl h, Below.refl _⟩
  · subst h
    by_cases hik : i.toNat < k.toNat
    · have e : ((Scalar.select (IntOp.ori (Ideal.cmp .ogt a a) (Ideal.cmp .une a a)) a a,
          Scalar.select (IntOp.ori (IntOp.ori (Ideal.cmp .ogt a a) (Ideal.cmp .une a a))
            (IntOp.andi (Ideal.cmp .oeq a a) (BitVec.ofBool (decide (i.toNat < k.toNat))))) i k) : EReal × BitVec 32) = (a, i) := by
        simp [Ideal.cmp, hik, IntOp.ori, IntOp.andi, Scalar.select]
      rw [e]
      exact ⟨Or.inl rfl, Below.refl _, Or.inr ⟨rfl, hik.le⟩⟩
    · have e : ((Scalar.select (IntOp.ori (Ideal.cmp .ogt a a) (Ideal.cmp .une a a)) a a,
          Scalar.select (IntOp.ori (IntOp.ori (Ideal.cmp .ogt a a) (Ideal.cmp .une a a))
            (IntOp.andi (Ideal.cmp .oeq a a) (BitVec.ofBool (decide (i.toNat < k.toNat))))) i k) : EReal × BitVec 32) = (a, k) := by
        simp [Ideal.cmp, hik, IntOp.ori, IntOp.andi, Scalar.select]
      rw [e]
      exact ⟨Or.inr rfl, Or.inr ⟨rfl, not_lt.mp hik⟩, Below.refl _⟩
  · have e : ((Scalar.select (IntOp.ori (Ideal.cmp .ogt a b) (Ideal.cmp .une a a)) a b,
        Scalar.select (IntOp.ori (IntOp.ori (Ideal.cmp .ogt a b) (Ideal.cmp .une a a))
          (IntOp.andi (Ideal.cmp .oeq a b) (BitVec.ofBool (decide (i.toNat < k.toNat))))) i k) : EReal × BitVec 32) = (a, i) := by
      simp [Ideal.cmp, h, h.ne', IntOp.ori, IntOp.andi, Scalar.select]
    rw [e]
    exact ⟨Or.inl rfl, Below.refl _, Or.inl h⟩

/-- The chosen number at a place is that of the first of the highest scores. -/
theorem best_at (s : CI S16x2048x16 .f32) (b : Fin 16) (n : Fin 2048) (S : ℕ → EReal)
    (hS : ∀ e : Fin 16, s (ix3 b n e) = S e.val) :
    ∃ e, Best S e ∧ best s (ix2 b n) = BitVec.ofNat 32 e := by
  obtain ⟨e, he, hk⟩ := foldl_best reducer_keeps S
    (Host.argReduceFiber (s : S16x2048x16.Idx → EReal) (iotaInDim S16x2048x16 32 2) reducesTo_S16x2048x16_S16x2048_d2 (ix2 b n))
    (fun p => by
      unfold Host.argReduceFiber
      rw [List.mem_map]
      constructor
      · rintro ⟨r, hr, rfl⟩
        have h := of_decide_eq_true (List.mem_filter.1 hr).2
        generalize S16x2048x16.rowMajor.symm r = i at h ⊢
        have hi : i = ix3 b n (i 2 : Fin 16) := by
          funext a; apply Fin.ext
          match a with
          | ⟨0, _⟩ => exact congrArg Fin.val (congrFun h 0)
          | ⟨1, _⟩ => exact congrArg Fin.val (congrFun h 1)
          | ⟨2, _⟩ => rfl
        refine ⟨(i 2 : Fin 16).val, (i 2 : Fin 16).isLt, ?_⟩
        refine Prod.ext ?_ rfl
        exact (congrArg s hi).trans (hS (i 2))
      · rintro ⟨e, he, rfl⟩
        refine ⟨S16x2048x16.rowMajor (ix3 b n (⟨e, he⟩ : Fin 16)), List.mem_filter.2 ⟨List.mem_finRange _, decide_eq_true ?_⟩, ?_⟩
        · rw [Equiv.symm_apply_apply]
          funext a; apply Fin.ext
          match a with
          | ⟨0, _⟩ => rfl
          | ⟨1, _⟩ => rfl
        · rw [Equiv.symm_apply_apply]
          exact Prod.ext (hS ⟨e, he⟩) rfl)
  refine ⟨e, he, ?_⟩
  have hc : constant (F := Ideal) S_ .f32 0xFF800000#32 = (fun _ => (⊥ : EReal)) := funext fun _ => ofBits_bot
  unfold best
  rw [Ideal.argReduce_eq_reduce2, Host.reduce2_eq_foldl_fiber, hc]
  exact hk

/-- A small row number is not counted from the end. -/
theorem wrap_small (N : BitVec 32) (k : CI S32768 .i32) (r : Fin 32768) (e : ℕ) (he : e < 2 ^ 31)
    (hk : k (ix1 r) = BitVec.ofNat 32 e) : wrap N k (ix1 r) = BitVec.ofNat 32 e := by
  pointwise [wrap]
  rw [hk]
  have h : IntOp.cmpi .slt (BitVec.ofNat 32 e) 0#32 = 0#1 := by
    show BitVec.ofBool ((BitVec.ofNat 32 e).slt 0#32) = _
    rw [BitVec.slt_eq_decide, StableHlo.Predicate.toInt_ofNat_small _ (by omega)]
    exact congrArg BitVec.ofBool (decide_eq_false (by rw [BitVec.toInt_zero]; omega))
  rw [h]
  rfl

/-! ### The gathers -/

theorem gather_pair {α : Type} (x : S32768x16x96.Idx → α) (idx : IVec S32768x2 32) (n : Fin 32768) (t : Fin 96)
    (r : Fin 32768) (e : Fin 16) (hr : idx (ix2 n 0) = BitVec.ofNat 32 r.val) (he : idx (ix2 n 1) = BitVec.ofNat 32 e.val) :
    Host.gather gather_S32768x16x96_S32768x2_S32768x96_1_01_n_n_01_1_1196 x idx (ix2 n t) = x (ix3 r e t) := by
  unfold Host.gather
  refine congrArg x (funext fun a => Fin.ext ?_)
  generalize hd : gather_S32768x16x96_S32768x2_S32768x96_1_01_n_n_01_1_1196 = d
  have hrl := r.isLt
  have hel := e.isLt
  match a with
  | ⟨0, _⟩ =>
    show d.start (ix2 n t) idx 0 + d.batchCoord (ix2 n t) 0 + d.offCoord (ix2 n t) 0 = r.val
    subst hd
    rw [GatherDims.batchCoord_eq_zero _ _ _ List.not_mem_nil, GatherDims.offCoord_eq_zero _ _ _ (by decide)]
    unfold GatherDims.start
    rw [dif_pos (by decide)]
    have hsi : GatherDims.siIdx gather_S32768x16x96_S32768x2_S32768x96_1_01_n_n_01_1_1196 (ix2 n t) ⟨0, by decide⟩ = ix2 n 0 := by
      funext b; apply Fin.ext
      match b with
      | ⟨0, _⟩ => rfl
      | ⟨1, _⟩ => rfl
    refine (congrArg (fun z : BitVec 32 => min z.toInt.toNat (32768 - 1)) ((congrArg idx hsi).trans hr)).trans ?_
    beta_reduce
    rw [StableHlo.Predicate.toInt_ofNat_small _ (by omega)]
    show min ((r.val : Int)).toNat (32768 - 1) = r.val
    omega
  | ⟨1, _⟩ =>
    show d.start (ix2 n t) idx 1 + d.batchCoord (ix2 n t) 1 + d.offCoord (ix2 n t) 1 = e.val
    subst hd
    rw [GatherDims.batchCoord_eq_zero _ _ _ List.not_mem_nil, GatherDims.offCoord_eq_zero _ _ _ (by decide)]
    unfold GatherDims.start
    rw [dif_pos (by decide)]
    have hsi : GatherDims.siIdx gather_S32768x16x96_S32768x2_S32768x96_1_01_n_n_01_1_1196 (ix2 n t) ⟨1, by decide⟩ = ix2 n 1 := by
      funext b; apply Fin.ext
      match b with
      | ⟨0, _⟩ => rfl
      | ⟨1, _⟩ => rfl
    refine (congrArg (fun z : BitVec 32 => min z.toInt.toNat (16 - 1)) ((congrArg idx hsi).trans he)).trans ?_
    beta_reduce
    rw [StableHlo.Predicate.toInt_ofNat_small _ (by omega)]
    show min ((e.val : Int)).toNat (16 - 1) = e.val
    omega
  | ⟨2, _⟩ =>
    show d.start (ix2 n t) idx 2 + d.batchCoord (ix2 n t) 2 + d.offCoord (ix2 n t) 2 = t.val
    subst hd
    rw [GatherDims.batchCoord_eq_zero _ _ _ List.not_mem_nil]
    unfold GatherDims.start GatherDims.offCoord
    rw [dif_neg (by decide), dif_pos (by decide), Nat.zero_add]
    rfl

theorem pick_at (g : CI S16x1 .f32) (k : CI S32768 .i32) (b : Fin 16) (n : Fin 2048) (e : Fin 16)
    (hk : k (ix1 ⟨b.val * 2048 + n.val, by omega⟩) = BitVec.ofNat 32 e.val) :
    pick g k (ix2 b n) = g (ix2 e 0) := by
  have h := Routing.gather_row gather_S16x1_S32768x1_S32768x1_1_0_n_n_0_1_11 rfl rfl rfl rfl rfl g (col (F := Ideal) (wrap 16#32 k))
    ⟨b.val * 2048 + n.val, by omega⟩ 0 e (by
      pointwise [col]
      exact wrap_small _ _ _ _ (by omega) hk) (by norm_num)
  pointwise [pick]
  exact h

theorem chosen_at (a : CI S32768x16x96 .f32) (k : CI S32768 .i32) (b : Fin 16) (t : Fin 96) (n : Fin 2048) (e : Fin 16)
    (hk : k (ix1 ⟨b.val * 2048 + n.val, by omega⟩) = BitVec.ofNat 32 e.val) :
    chosen a k (ix4 b t n 0) = a (ix3 ⟨b.val * 2048 + n.val, by omega⟩ e t) := by
  have h := gather_pair a (pairCols (F := Ideal) (col (wrap 32768#32 (iotaInDim S32768 32 0))) (col (wrap 16#32 k)))
    ⟨b.val * 2048 + n.val, by omega⟩ t ⟨b.val * 2048 + n.val, by omega⟩ e (by
      pointwise [pairCols, col]
      exact wrap_small _ _ _ _ (by omega) rfl) (by
      pointwise [pairCols, col]
      exact wrap_small _ _ _ _ (by omega) hk)
  pointwise [chosen]
  exact h

theorem asRes_at (p : CI S16x2048 .f32) (b : Fin 16) (n : Fin 2048) : asRes p (ix4 b 0 n 0) = p (ix2 b n) := by
  pointwise [asRes]

theorem flat_at (k : CI S16x2048 .i32) (b : Fin 16) (n : Fin 2048) :
    flat k (ix1 ⟨b.val * 2048 + n.val, by omega⟩) = k (ix2 b n) := by
  pointwise [flat]

theorem answers_at (z : CI S16x2048x96 .f32) (g h : CI S16x1 .f32) (b : Fin 16) (n : Fin 2048) (e : Fin 16) (t : Fin 96) :
    answers z g h (ix3 ⟨b.val * 2048 + n.val, by omega⟩ e t) = z (ix3 b n t) * g (ix2 e 0) + h (ix2 e 0) := by
  pointwise [answers]

/-- The chosen number at a place of sample `b`. -/
theorem choice_at {x : CI S16x96x2048x1 .f32} {b : Fin 16} {X : Fin 96 → Fin 2048 → ℝ} (hX : Is x b X)
    {w : CI S16x96 .f32} {W : ℕ → Fin 96 → ℝ} (hW : ∀ (e : Fin 16) t, w (ix2 e t) = ((W e.val t : ℝ) : EReal))
    {c : CI S16 .f32} {B : ℕ → EReal} (hB : ∀ e : Fin 16, c (ix1 e) = B e.val) (n : Fin 2048) :
    ∃ e, Best (fun e => ((∑ t, nrm X t n * W e t : ℝ) : EReal) + B e) e
      ∧ choice x w c (ix1 ⟨b.val * 2048 + n.val, by omega⟩) = BitVec.ofNat 32 e := by
  have h := best_at (score (normRows x) w c) b n (fun e => ((∑ t, nrm X t n * W e t : ℝ) : EReal) + B e) (fun e => by
    pointwise [score]
    simp only [normRows_at hX _ _, hW _ _, hB _, ← EReal.coe_mul, coe_sum])
  obtain ⟨e, he, hk⟩ := h
  refine ⟨e, he, ?_⟩
  unfold choice
  rw [flat_at, hk]

end Cert.ReferenceIdeal.Ref3

end
-- ==== Proof.Place3.lean ====
/- One sample's block: what the kernel's body leaves is what the reference holds at the block's places. -/
module

public import proofs.«01_k».proof.Proof.Host3
public import proofs.«01_k».proof.Proof.RefElem3

@[expose] public section

set_option maxRecDepth 16384

noncomputable section

namespace Cert.KernelIdeal.Ring3

open Cert.KernelIdeal Cert.KernelIdeal.Gen Cert.Math3 Idealize.ShloMosaic Idealize.ShloMosaic.TcCoe Idealize.SL.Sem
open Cert.ReferenceIdeal (Ref3.CI)

section
variable {x0 : FVec Ideal S256x1540 .f32} {w : CK S16x96 .f32} {ga be : CK S16x1 .f32} {q : CK S16 .f32}
  (h0 : IsAux x0 w ga be q) {Wr : ℕ → Fin 96 → ℝ} (hw : ∀ (e : Fin 16) t, w (ix2 e t) = ((Wr e.val t : ℝ) : EReal))
  {xb : Vec Ideal S1x1536x128 .f32} {X : Fin 96 → Fin 2048 → ℝ} (hX : Holds xb X)
include h0 hw hX

/-- The product of the masked weights and the block: at expert `e` and a place, the weighted sum over the times. -/
theorem d9_at (e g : Fin 16) (l : Fin 128) :
    d9 x0 xb (ix3 e g l) = ((∑ t, Wr e.val t * X t (pl g l) : ℝ) : EReal) := by
  have h : d9 x0 xb (ix3 e g l) = ∑ r : Fin 1536, x0 (ix2 ⟨e.val * 16 + g.val, by omega⟩ ⟨r.val, by omega⟩) * xb (ix3 0 r l) := by
    pointwise [d9, k0_pay15]
  rw [h]
  simp only [h0.wt e g _]
  rw [Fin.sum_univ_tiles 96 16 rfl, ← coe_sum]
  refine Finset.sum_congr rfl fun t _ => ?_
  rw [Finset.sum_eq_single g]
  · have e1 : g.val = (t.val * 16 + g.val) % 16 := by omega
    have e2 : (⟨(t.val * 16 + g.val) / 16, by omega⟩ : Fin 96) = t := Fin.ext (by show (t.val * 16 + g.val) / 16 = t.val; omega)
    rw [if_pos e1, e2, hw, hX t g l, EReal.coe_mul]
  · intro p _ hp
    have e1 : ¬ g.val = (t.val * 16 + p.val) % 16 := fun h => hp (Fin.ext (by omega))
    rw [if_neg e1, zero_mul]
  · exact fun h => absurd (Finset.mem_univ g) h

/-- The score of expert `e` at a place. -/
theorem sc_at (g : Fin 16) (l : Fin 128) (e : Fin 16) :
    sc x0 xb g l e.val = ((∑ t, nrm X t (pl g l) * Wr e.val t : ℝ) : EReal) + q (ix1 e) := by
  have he : Fin.ofNat 16 e.val = e := Fin.ext (Nat.mod_eq_of_lt e.isLt)
  unfold sc
  rw [he, d9_at h0 hw hX, h0.tot, h0.off, d1_at hX, d8_at hX]
  simp only [hw _ _]
  rw [coe_sum, ← EReal.coe_mul, ← EReal.coe_sub, ← EReal.coe_mul, score_eq]

end

section
variable {x0 : FVec Ideal S256x1540 .f32} {x : Ref3.CI S16x96x2048x1 .f32} {w : CK S16x96 .f32} {ga be : CK S16x1 .f32} {q : CK S16 .f32}
  (h0 : IsAux x0 w ga be q) {Wr : ℕ → Fin 96 → ℝ} (hw : ∀ (e : Fin 16) t, w (ix2 e t) = ((Wr e.val t : ℝ) : EReal))
  {xb : Vec Ideal S1x1536x128 .f32} {X : Fin 96 → Fin 2048 → ℝ} (hX : Holds xb X) {b : Fin 16} (hx : Cert.ReferenceIdeal.Ref3.Is x b X)
include h0 hw hX hx

/-- The two programs choose the same expert. -/
theorem same_choice (g : Fin 16) (l : Fin 128) : ∃ e : Fin 16, d28 x0 xb (ix2 g l) = BitVec.ofNat 32 e.val
    ∧ Cert.ReferenceIdeal.Ref3.choice x w q (ix1 ⟨b.val * 2048 + (pl g l).val, by omega⟩) = BitVec.ofNat 32 e.val := by
  obtain ⟨e, he, hk⟩ := choice x0 xb g l
  obtain ⟨e', he', hk'⟩ := Cert.ReferenceIdeal.Ref3.choice_at hx hw (B := fun e => q (ix1 (Fin.ofNat 16 e)))
    (fun e => congrArg (fun z => q (ix1 z)) (Fin.ext (Nat.mod_eq_of_lt e.isLt).symm)) (pl g l)
  have hS : ∀ i < 16, sc x0 xb g l i = ((∑ t, nrm X t (pl g l) * Wr i t : ℝ) : EReal) + q (ix1 (Fin.ofNat 16 i)) := fun i hi => by
    refine (sc_at h0 hw hX g l ⟨i, hi⟩).trans ?_
    exact congrArg (fun z => _ + q (ix1 z)) (Fin.ext (Nat.mod_eq_of_lt hi).symm)
  have hee : e = e' := Best.unique (S := fun i => ((∑ t, nrm X t (pl g l) * Wr i t : ℝ) : EReal) + q (ix1 (Fin.ofNat 16 i)))
    ⟨he.1, fun i hi => (le_of_eq (hS i hi).symm).trans ((he.2.1 i hi).trans (le_of_eq (hS e he.1))),
      fun i hi => lt_of_eq_of_lt (hS i (hi.trans he.1)).symm (lt_of_lt_of_eq (he.2.2 i hi) (hS e he.1))⟩ he'
  subst hee
  exact ⟨⟨e, he.1⟩, hk, hk'⟩

theorem out1 (t : Fin 96) (g : Fin 16) (l : Fin 128) :
    res1 x0 xb (ix3 0 ⟨t.val * 16 + g.val, by omega⟩ l)
      = Cert.ReferenceIdeal.Ref3.chosen (Cert.ReferenceIdeal.Ref3.answers (Cert.ReferenceIdeal.Ref3.normRows x) ga be)
        (Cert.ReferenceIdeal.Ref3.choice x w q) (ix4 b t (pl g l) 0) := by
  obtain ⟨e, hk, hk'⟩ := same_choice h0 hw hX hx g l
  rw [res1_at hX e.isLt hk t, h0.gam, h0.bet, Cert.ReferenceIdeal.Ref3.chosen_at _ _ b t (pl g l) e hk',
    Cert.ReferenceIdeal.Ref3.answers_at, Cert.ReferenceIdeal.Ref3.normRows_at hx]

theorem out4 (g : Fin 16) (l : Fin 128) :
    res4 x0 xb (ix3 0 g l) = Cert.ReferenceIdeal.Ref3.asRes (Cert.ReferenceIdeal.Ref3.pick ga
      (Cert.ReferenceIdeal.Ref3.choice x w q)) (ix4 b 0 (pl g l) 0) := by
  obtain ⟨e, hk, hk'⟩ := same_choice h0 hw hX hx g l
  rw [res4_at e.isLt hk, h0.gam, Cert.ReferenceIdeal.Ref3.asRes_at, Cert.ReferenceIdeal.Ref3.pick_at _ _ _ _ e hk']

theorem out5 (g : Fin 16) (l : Fin 128) :
    res5 x0 xb (ix3 0 g l) = Cert.ReferenceIdeal.Ref3.asRes (Cert.ReferenceIdeal.Ref3.pick be
      (Cert.ReferenceIdeal.Ref3.choice x w q)) (ix4 b 0 (pl g l) 0) := by
  obtain ⟨e, hk, hk'⟩ := same_choice h0 hw hX hx g l
  rw [res5_at e.isLt hk, h0.bet, Cert.ReferenceIdeal.Ref3.asRes_at, Cert.ReferenceIdeal.Ref3.pick_at _ _ _ _ e hk']

end

section
variable {x0 : FVec Ideal S256x1540 .f32} {x : Ref3.CI S16x96x2048x1 .f32}
  {xb : Vec Ideal S1x1536x128 .f32} {X : Fin 96 → Fin 2048 → ℝ} (hX : Holds xb X) {b : Fin 16} (hx : Cert.ReferenceIdeal.Ref3.Is x b X)
include hX hx

theorem out2 (g : Fin 16) (l : Fin 128) : res2 x0 xb (ix3 0 g l)
    = Cert.ReferenceIdeal.Ref3.mean1 (Cert.ReferenceIdeal.Ref3.nrm4 x) (ix4 b 0 (pl g l) 0) := by
  rw [res2_at hX, Cert.ReferenceIdeal.Ref3.mean1_at hx]

theorem out3 (g : Fin 16) (l : Fin 128) : res3 x0 xb (ix3 0 g l)
    = Cert.ReferenceIdeal.Ref3.std1 (Cert.ReferenceIdeal.Ref3.ctr1 (Cert.ReferenceIdeal.Ref3.nrm4 x)) (ix4 b 0 (pl g l) 0) := by
  rw [res3_at hX, Cert.ReferenceIdeal.Ref3.std1_at hx]

theorem out6 : res6 x0 xb (ix3 0 0 0) = Cert.ReferenceIdeal.Ref3.mean4 x (ix4 b 0 0 0) := by
  rw [res6_at hX, Cert.ReferenceIdeal.Ref3.mean4_at hx]

theorem out7 : res7 x0 xb (ix3 0 0 0)
    = Cert.ReferenceIdeal.Ref3.std4 (Cert.ReferenceIdeal.Ref3.ctr4 x) (ix4 b 0 0 0) := by
  rw [res7_at hX, Cert.ReferenceIdeal.Ref3.std4_at hx]

end

end Cert.KernelIdeal.Ring3

end
-- ==== Proof.Value3.lean ====
/- The kernel's result arrays: each, rearranged, is the reference's array at the arguments. -/
module

public import proofs.«01_k».proof.Proof.Place3
public import Idealize.ShloMosaic.Lib.Pipeline.ValueKit

@[expose] public section

set_option maxRecDepth 16384

noncomputable section

namespace Cert.KernelIdeal.Ring3

open Cert.KernelIdeal Cert.KernelIdeal.Gen Cert.Math3 Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ)

/-- Where each window's block sits. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] :=
  (by decide +kernel : ∀ t : Fin grid0.N, _)

/-- The first argument of core `c`. -/
abbrev argX (c : Dev nD) : Cert.ReferenceIdeal.Ref3.CI S16x96x2048x1 .f32 := m (c, dvk main_arg0)

/-- The operand of the copies is the first argument, its places grouped by lane. -/
theorem V_main_v0 (c : Dev nD) (b : Fin 16) (r : Fin 1536) (l : Fin 128) :
    V m c main_v0 (ix3 b r l) = argX m c (ix4 b ⟨r.val / 16, by omega⟩ ⟨r.val % 16 * 128 + l.val, by omega⟩ 0) := by
  unfold V V0
  simp only [hostOps0, hostOps0_1, hostOps0_2, hostOps0_3, hostOps0_4, hostOps0_5, hostOps0_6, List.flatten_cons, List.flatten_nil,
    List.append_nil, List.cons_append, List.nil_append]
  after_results_simp
  pointwise

/-- The sample a grid point works on. -/
abbrev smp (t : Fin cfg0.N) : Fin 16 := Ring.bk 16 t.val

/-- The block of grid point `t` holds the values of its sample. -/
theorem holds (c : Dev nD) (b : Fin 16) (X : Fin 96 → Fin 2048 → ℝ) (hx : Cert.ReferenceIdeal.Ref3.Is (argX m c) b X) :
    Holds (blk (V m c main_v0) b) X := by
  intro t g l
  have e : blk (V m c main_v0) b (ix3 0 ⟨t.val * 16 + g.val, by omega⟩ l) = V m c main_v0 (ix3 b ⟨t.val * 16 + g.val, by omega⟩ l) :=
    congrArg (V m c main_v0) (funext fun a => by fin_cases a <;> rfl)
  rw [e, V_main_v0, ← hx t (pl g l)]
  refine congrArg (argX m c) ?_
  have h : (t.val * 16 + g.val) % 16 * 128 + l.val = (pl g l).val := by show _ = g.val * 128 + l.val; omega
  blk_ext [h]

/-- The first window's block is its whole array. -/
theorem iblk0 (c : Dev nD) (t : Fin cfg0.N) : iblk m c 0 t = V m c main_v27 := by
  blk_ext! [iblk, idx t]

/-- The sample of a grid point has the point's number. -/
theorem smp_val (t : Fin cfg0.N) : (smp t).val = t.val := Ring.bk_val (lt_of_lt_of_eq t.isLt (by decide))

/-- The large result: its array, if every point leaves the block of `R`, is `R` with its places grouped by lane. -/
theorem arr1 (c : Dev nD) (R : FVec Ideal S16x96x2048x1 .f32)
    (hR : ∀ (b : Fin 16) (t : Fin 96) (g : Fin 16) (l : Fin 128), res1 (V m c main_v27) (blk (V m c main_v0) b)
      (ix3 0 ⟨t.val * 16 + g.val, by omega⟩ l) = R (ix4 b t (pl g l) 0)) :
    (dats m 0 c).arrAt 1 cfg0.N = shapeCast S16x1536x128 R shapeCasts_S16x96x2048x1_S16x1536x128 := by
  have h1 : ∀ (b : Fin 16) (r : Fin 1536) (l : Fin 128), res1 (V m c main_v27) (blk (V m c main_v0) b) (ix3 0 r l)
      = shapeCast S16x1536x128 R shapeCasts_S16x96x2048x1_S16x1536x128 (ix3 b r l) := fun b r l => by
    have e : r = ⟨r.val / 16 * 16 + r.val % 16, by omega⟩ := Fin.ext (by show r.val = r.val / 16 * 16 + r.val % 16; omega)
    refine (congrArg (fun r => res1 (V m c main_v27) (blk (V m c main_v0) b) (ix3 0 r l)) e).trans
      ((hR b ⟨r.val / 16, by omega⟩ ⟨r.val % 16, by omega⟩ l).trans ?_)
    pointwise [pl]
  refine (dats m 0 c).arrAt_eq_of_covers 1 _ (by decide +kernel) fun t _ y => ?_
  blk_simp
  rw [after0_1, iblk0]
  have hy : y = ix3 0 (y 1) (y 2) := by blk_ext
  have hs := smp_val t
  have he : (win0_1.blk t).view.emb y = ix3 (smp t) (y 1) (y 2) := by blk_ext [idx t, hs]
  exact (congrArg _ hy).trans ((h1 (smp t) (y 1) (y 2)).trans (congrArg _ he.symm))

/-- A row array's index, read back: `R` with its places grouped by lane. -/
theorem row_at (R : FVec Ideal S16x1x2048x1 .f32) (h : S16x1x2048x1.ShapeCasts S16x16x128) (b g : Fin 16) (l : Fin 128) :
    shapeCast S16x16x128 R h (ix3 b g l) = R (ix4 b 0 (pl g l) 0) := by
  pointwise [pl]

/-- A sample array's index, read back. -/
theorem one_at (R : FVec Ideal S16x1x1x1 .f32) (h : S16x1x1x1.ShapeCasts S16x1x1) (b : Fin 16) :
    shapeCast S16x1x1 R h (ix3 b 0 0) = R (ix4 b 0 0 0) := by
  pointwise

/-- Where the block of window 6 sits. -/
theorem emb6 (t : Fin cfg0.N) (y : ((cfg0.win 6).xblock (cfg0.grid.coords t)).Idx) : (win0_6.blk t).view.emb y = ix3 (smp t) 0 0 := by
  have hs := smp_val t
  blk_ext [idx t, hs]
/-- Where the block of window 7 sits. -/
theorem emb7 (t : Fin cfg0.N) (y : ((cfg0.win 7).xblock (cfg0.grid.coords t)).Idx) : (win0_7.blk t).view.emb y = ix3 (smp t) 0 0 := by
  have hs := smp_val t
  blk_ext [idx t, hs]

theorem casts_row : S16x1x2048x1.ShapeCasts S16x16x128 := by decide
theorem casts_one : S16x1x1x1.ShapeCasts S16x1x1 := by decide

/-- The operands of the body at sample `b`. -/
abbrev auxOf (c : Dev nD) : FVec Ideal S256x1540 .f32 := V m c main_v27
abbrev blkOf (c : Dev nD) (b : Fin 16) : Vec Ideal S1x1536x128 .f32 := blk (V m c main_v0) b

theorem arr2 (c : Dev nD) (R : FVec Ideal S16x1x2048x1 .f32)
    (hR : ∀ (b g : Fin 16) (l : Fin 128), res2 (auxOf m c) (blkOf m c b) (ix3 0 g l) = R (ix4 b 0 (pl g l) 0)) :
    (dats m 0 c).arrAt 2 cfg0.N = shapeCast S16x16x128 R casts_row := by
  refine (dats m 0 c).arrAt_eq_of_covers 2 _ (by decide +kernel) fun t _ y => ?_
  blk_simp
  rw [after0_2, iblk0]
  have hs := smp_val t
  have he : (win0_2.blk t).view.emb y = ix3 (smp t) (y 1) (y 2) := by blk_ext [idx t, hs]
  have hy : y = ix3 0 (y 1) (y 2) := by blk_ext
  exact (congrArg _ hy).trans ((hR (smp t) (y 1) (y 2)).trans ((row_at R casts_row (smp t) (y 1) (y 2)).symm.trans (congrArg _ he.symm)))
theorem arr3 (c : Dev nD) (R : FVec Ideal S16x1x2048x1 .f32)
    (hR : ∀ (b g : Fin 16) (l : Fin 128), res3 (auxOf m c) (blkOf m c b) (ix3 0 g l) = R (ix4 b 0 (pl g l) 0)) :
    (dats m 0 c).arrAt 3 cfg0.N = shapeCast S16x16x128 R casts_row := by
  refine (dats m 0 c).arrAt_eq_of_covers 3 _ (by decide +kernel) fun t _ y => ?_
  blk_simp
  rw [after0_3, iblk0]
  have hs := smp_val t
  have he : (win0_3.blk t).view.emb y = ix3 (smp t) (y 1) (y 2) := by blk_ext [idx t, hs]
  have hy : y = ix3 0 (y 1) (y 2) := by blk_ext
  exact (congrArg _ hy).trans ((hR (smp t) (y 1) (y 2)).trans ((row_at R casts_row (smp t) (y 1) (y 2)).symm.trans (congrArg _ he.symm)))
theorem arr4 (c : Dev nD) (R : FVec Ideal S16x1x2048x1 .f32)
    (hR : ∀ (b g : Fin 16) (l : Fin 128), res4 (auxOf m c) (blkOf m c b) (ix3 0 g l) = R (ix4 b 0 (pl g l) 0)) :
    (dats m 0 c).arrAt 4 cfg0.N = shapeCast S16x16x128 R casts_row := by
  refine (dats m 0 c).arrAt_eq_of_covers 4 _ (by decide +kernel) fun t _ y => ?_
  blk_simp
  rw [after0_4, iblk0]
  have hs := smp_val t
  have he : (win0_4.blk t).view.emb y = ix3 (smp t) (y 1) (y 2) := by blk_ext [idx t, hs]
  have hy : y = ix3 0 (y 1) (y 2) := by blk_ext
  exact (congrArg _ hy).trans ((hR (smp t) (y 1) (y 2)).trans ((row_at R casts_row (smp t) (y 1) (y 2)).symm.trans (congrArg _ he.symm)))
theorem arr5 (c : Dev nD) (R : FVec Ideal S16x1x2048x1 .f32)
    (hR : ∀ (b g : Fin 16) (l : Fin 128), res5 (auxOf m c) (blkOf m c b) (ix3 0 g l) = R (ix4 b 0 (pl g l) 0)) :
    (dats m 0 c).arrAt 5 cfg0.N = shapeCast S16x16x128 R casts_row := by
  refine (dats m 0 c).arrAt_eq_of_covers 5 _ (by decide +kernel) fun t _ y => ?_
  blk_simp
  rw [after0_5, iblk0]
  have hs := smp_val t
  have he : (win0_5.blk t).view.emb y = ix3 (smp t) (y 1) (y 2) := by blk_ext [idx t, hs]
  have hy : y = ix3 0 (y 1) (y 2) := by blk_ext
  exact (congrArg _ hy).trans ((hR (smp t) (y 1) (y 2)).trans ((row_at R casts_row (smp t) (y 1) (y 2)).symm.trans (congrArg _ he.symm)))
theorem arr6 (c : Dev nD) (R : FVec Ideal S16x1x1x1 .f32)
    (hR : ∀ b : Fin 16, res6 (auxOf m c) (blkOf m c b) (ix3 0 0 0) = R (ix4 b 0 0 0)) :
    (dats m 0 c).arrAt 6 cfg0.N = shapeCast S16x1x1 R casts_one := by
  refine (dats m 0 c).arrAt_eq_of_covers 6 _ (by decide +kernel) fun t _ y => ?_
  blk_simp
  rw [after0_6, iblk0]
  have he : (win0_6.blk t).view.emb y = ix3 (smp t) 0 0 := emb6 t y
  have hy : y = ix3 0 0 0 := by blk_ext
  exact (congrArg _ hy).trans ((hR (smp t)).trans ((one_at R casts_one (smp t)).symm.trans (congrArg _ he.symm)))
theorem arr7 (c : Dev nD) (R : FVec Ideal S16x1x1x1 .f32)
    (hR : ∀ b : Fin 16, res7 (auxOf m c) (blkOf m c b) (ix3 0 0 0) = R (ix4 b 0 0 0)) :
    (dats m 0 c).arrAt 7 cfg0.N = shapeCast S16x1x1 R casts_one := by
  refine (dats m 0 c).arrAt_eq_of_covers 7 _ (by decide +kernel) fun t _ y => ?_
  blk_simp
  rw [after0_7, iblk0]
  have he : (win0_7.blk t).view.emb y = ix3 (smp t) 0 0 := emb7 t y
  have hy : y = ix3 0 0 0 := by blk_ext
  exact (congrArg _ hy).trans ((hR (smp t)).trans ((one_at R casts_one (smp t)).symm.trans (congrArg _ he.symm)))

end Cert.KernelIdeal.Ring3

end
-- ==== Proof.Equal3.lean ====
/- The claim of equal results: the kernel's seven results are the reference's at the same arguments. -/
module

public import proofs.«01_k».proof.Defs
public import proofs.«01_k».proof.Proof.Value3

@[expose] public section

set_option maxRecDepth 16384

noncomputable section

namespace Cert.KernelIdeal.Ring3

open Cert.KernelIdeal Cert.KernelIdeal.Gen Cert.Math3 Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ)

theorem arr_inj : Function.Injective (Pipeline.arrRef spec0) := by decide

/-- The buffers after the kernel: each window's array at what the kernel left. -/
abbrev left (c : Dev nD) : Valuation τ sig (Elt Ideal) :=
  Pipeline.withArrays (cfgs 0).spec c (V0 m c) fun w => (dats m 0 c).arrAt w (cfgs 0).N

theorem tail29 (c : Dev nD) (R : FVec Ideal S16x96x2048x1 .f32) (h : (dats m 0 c).arrAt 1 cfg0.N = shapeCast S16x1536x128 R shapeCasts_S16x96x2048x1_S16x1536x128) :
    Pipeline.afterTail₀ cfgs (dats m) 0 (V0 m) [hostOps1] c main_v29 = R := by
  unfold Pipeline.afterTail₀
  simp only [hostOps1, List.flatten_cons, List.flatten_nil, List.append_nil]
  after_results_simp
  have e : left m c (Proc.devRef .tc main_v28_0) = (dats m 0 c).arrAt 1 cfg0.N := Pipeline.withArrays_arr spec0 arr_inj c (V0 m c) _ 1
  exact (congrArg (fun A => shapeCast S16x96x2048x1 A shapeCasts_S16x1536x128_S16x96x2048x1) (e.trans h)).trans (shapeCast_shapeCast R _ _)
theorem tail30 (c : Dev nD) (R : FVec Ideal S16x1x2048x1 .f32) (h : (dats m 0 c).arrAt 4 cfg0.N = shapeCast S16x16x128 R casts_row) :
    Pipeline.afterTail₀ cfgs (dats m) 0 (V0 m) [hostOps1] c main_v30 = R := by
  unfold Pipeline.afterTail₀
  simp only [hostOps1, List.flatten_cons, List.flatten_nil, List.append_nil]
  after_results_simp
  have e : left m c (Proc.devRef .tc main_v28_3) = (dats m 0 c).arrAt 4 cfg0.N := Pipeline.withArrays_arr spec0 arr_inj c (V0 m c) _ 4
  exact (congrArg (fun A => shapeCast S16x1x2048x1 A shapeCasts_S16x16x128_S16x1x2048x1) (e.trans h)).trans (shapeCast_shapeCast R _ _)
theorem tail31 (c : Dev nD) (R : FVec Ideal S16x1x2048x1 .f32) (h : (dats m 0 c).arrAt 5 cfg0.N = shapeCast S16x16x128 R casts_row) :
    Pipeline.afterTail₀ cfgs (dats m) 0 (V0 m) [hostOps1] c main_v31 = R := by
  unfold Pipeline.afterTail₀
  simp only [hostOps1, List.flatten_cons, List.flatten_nil, List.append_nil]
  after_results_simp
  have e : left m c (Proc.devRef .tc main_v28_4) = (dats m 0 c).arrAt 5 cfg0.N := Pipeline.withArrays_arr spec0 arr_inj c (V0 m c) _ 5
  exact (congrArg (fun A => shapeCast S16x1x2048x1 A shapeCasts_S16x16x128_S16x1x2048x1) (e.trans h)).trans (shapeCast_shapeCast R _ _)
theorem tail32 (c : Dev nD) (R : FVec Ideal S16x1x2048x1 .f32) (h : (dats m 0 c).arrAt 2 cfg0.N = shapeCast S16x16x128 R casts_row) :
    Pipeline.afterTail₀ cfgs (dats m) 0 (V0 m) [hostOps1] c main_v32 = R := by
  unfold Pipeline.afterTail₀
  simp only [hostOps1, List.flatten_cons, List.flatten_nil, List.append_nil]
  after_results_simp
  have e : left m c (Proc.devRef .tc main_v28_1) = (dats m 0 c).arrAt 2 cfg0.N := Pipeline.withArrays_arr spec0 arr_inj c (V0 m c) _ 2
  exact (congrArg (fun A => shapeCast S16x1x2048x1 A shapeCasts_S16x16x128_S16x1x2048x1) (e.trans h)).trans (shapeCast_shapeCast R _ _)
theorem tail33 (c : Dev nD) (R : FVec Ideal S16x1x2048x1 .f32) (h : (dats m 0 c).arrAt 3 cfg0.N = shapeCast S16x16x128 R casts_row) :
    Pipeline.afterTail₀ cfgs (dats m) 0 (V0 m) [hostOps1] c main_v33 = R := by
  unfold Pipeline.afterTail₀
  simp only [hostOps1, List.flatten_cons, List.flatten_nil, List.append_nil]
  after_results_simp
  have e : left m c (Proc.devRef .tc main_v28_2) = (dats m 0 c).arrAt 3 cfg0.N := Pipeline.withArrays_arr spec0 arr_inj c (V0 m c) _ 3
  exact (congrArg (fun A => shapeCast S16x1x2048x1 A shapeCasts_S16x16x128_S16x1x2048x1) (e.trans h)).trans (shapeCast_shapeCast R _ _)
theorem tail34 (c : Dev nD) (R : FVec Ideal S16x1x1x1 .f32) (h : (dats m 0 c).arrAt 6 cfg0.N = shapeCast S16x1x1 R casts_one) :
    Pipeline.afterTail₀ cfgs (dats m) 0 (V0 m) [hostOps1] c main_v34 = R := by
  unfold Pipeline.afterTail₀
  simp only [hostOps1, List.flatten_cons, List.flatten_nil, List.append_nil]
  after_results_simp
  have e : left m c (Proc.devRef .tc main_v28_5) = (dats m 0 c).arrAt 6 cfg0.N := Pipeline.withArrays_arr spec0 arr_inj c (V0 m c) _ 6
  exact (congrArg (fun A => shapeCast S16x1x1x1 A shapeCasts_S16x1x1_S16x1x1x1) (e.trans h)).trans (shapeCast_shapeCast R _ _)
theorem tail35 (c : Dev nD) (R : FVec Ideal S16x1x1x1 .f32) (h : (dats m 0 c).arrAt 7 cfg0.N = shapeCast S16x1x1 R casts_one) :
    Pipeline.afterTail₀ cfgs (dats m) 0 (V0 m) [hostOps1] c main_v35 = R := by
  unfold Pipeline.afterTail₀
  simp only [hostOps1, List.flatten_cons, List.flatten_nil, List.append_nil]
  after_results_simp
  have e : left m c (Proc.devRef .tc main_v28_6) = (dats m 0 c).arrAt 7 cfg0.N := Pipeline.withArrays_arr spec0 arr_inj c (V0 m c) _ 7
  exact (congrArg (fun A => shapeCast S16x1x1x1 A shapeCasts_S16x1x1_S16x1x1x1) (e.trans h)).trans (shapeCast_shapeCast R _ _)

end Cert.KernelIdeal.Ring3

namespace Cert.Equal3

open Cert.KernelIdeal.Ring3 Cert.Math3 Idealize.ShloMosaic Idealize.ShloMosaic.TcCoe Idealize.SL.Sem
open Cert.ReferenceIdeal.Ref3 (Is asRes pick chosen answers normRows mean1 nrm4 std1 ctr1 mean4 std4 ctr4 all_v77 all_v50 all_v59 all_v15
  all_v21 all_v3 all_v9)
open Idealize.ShloMosaic.StableHlo

/-- The precondition's function, of which every operation's shapes fit. -/
theorem pre_facts : Cert.Pre_finite_inputs.Facts := ⟨by decide, by decide⟩

section
open Cert.KernelIdeal Cert.KernelIdeal.Gen
variable (m : (ℓ : Loc nD τ sig) → Buf (Elt Ideal) ℓ) (c : Dev nD)

/-- The other arguments of core `c`. -/
abbrev argG : CK S16x1 .f32 := m (c, dvk main_arg1)
abbrev argB : CK S16x1 .f32 := m (c, dvk main_arg2)
abbrev argW : CK S16x96 .f32 := m (c, dvk main_arg3)
abbrev argQ : CK S16 .f32 := m (c, dvk main_arg4)

/-- A core's first and fourth arguments hold reals. -/
def Finite : Prop := (∀ i, argX m c i = (((argX m c i).toReal : ℝ) : EReal)) ∧ ∀ i, argW m c i = (((argW m c i).toReal : ℝ) : EReal)

theorem zero_of_eq {x : EReal} (h : BitVec.ofBool (decide (x = 0)) = 1#1) : x = 0 := by
  by_contra hx
  rw [decide_eq_false hx] at h
  exact absurd h (by decide)

theorem finite_of_pre [Cert.Pre_finite_inputs.Facts] (h : Cert.Pre_KernelIdeal_finite_inputs m) : Finite m c := by
  refine ⟨fun i => finite_of_sub_self (zero_of_eq ?_), fun i => finite_of_sub_self (zero_of_eq ?_)⟩
  · refine Eq.trans ?_ (congrFun (h c).1 i)
    unfold Cert.Pre_finite_inputs.fn
    dsimp only
    pointwise
  · refine Eq.trans ?_ (congrFun (h c).2 i)
    unfold Cert.Pre_finite_inputs.fn
    dsimp only
    pointwise

/-- The weights' reals. -/
def wr (e : ℕ) (t : Fin 96) : ℝ := (argW m c (ix2 (Fin.ofNat 16 e) t)).toReal

variable (hf : Finite m c)
include hf

theorem is_x (b : Fin 16) : Is (argX m c) b fun t n => (argX m c (ix4 b t n 0)).toReal := fun t n => hf.1 _
theorem is_w (e : Fin 16) (t : Fin 96) : argW m c (ix2 e t) = ((wr m c e.val t : ℝ) : EReal) := by
  have he : Fin.ofNat 16 e.val = e := Fin.ext (Nat.mod_eq_of_lt e.isLt)
  show argW m c (ix2 e t) = (((argW m c (ix2 (Fin.ofNat 16 e.val) t)).toReal : ℝ) : EReal)
  rw [he]
  exact hf.2 _

theorem fin0 : Pipeline.afterTail₀ cfgs (dats m) 0 (V0 m) [hostOps1] c main_v29
    = chosen (answers (normRows (argX m c)) (argG m c) (argB m c)) (Cert.ReferenceIdeal.Ref3.choice (argX m c) (argW m c) (argQ m c)) :=
  tail29 m c _ (arr1 m c _ fun b t g l => out1 (isAux fun r => m (c, r)) (Wr := wr m c) (is_w m c hf) (holds m c b _ (is_x m c hf b)) (is_x m c hf b) t g l)

theorem fin1 : Pipeline.afterTail₀ cfgs (dats m) 0 (V0 m) [hostOps1] c main_v30
    = asRes (pick (argG m c) (Cert.ReferenceIdeal.Ref3.choice (argX m c) (argW m c) (argQ m c))) :=
  tail30 m c _ (arr4 m c _ fun b g l => out4 (isAux fun r => m (c, r)) (Wr := wr m c) (is_w m c hf) (holds m c b _ (is_x m c hf b)) (is_x m c hf b) g l)

theorem fin2 : Pipeline.afterTail₀ cfgs (dats m) 0 (V0 m) [hostOps1] c main_v31
    = asRes (pick (argB m c) (Cert.ReferenceIdeal.Ref3.choice (argX m c) (argW m c) (argQ m c))) :=
  tail31 m c _ (arr5 m c _ fun b g l => out5 (isAux fun r => m (c, r)) (Wr := wr m c) (is_w m c hf) (holds m c b _ (is_x m c hf b)) (is_x m c hf b) g l)

theorem fin3 : Pipeline.afterTail₀ cfgs (dats m) 0 (V0 m) [hostOps1] c main_v32 = mean1 (nrm4 (argX m c)) :=
  tail32 m c _ (arr2 m c _ fun b g l => out2 (holds m c b _ (is_x m c hf b)) (is_x m c hf b) g l)

theorem fin4 : Pipeline.afterTail₀ cfgs (dats m) 0 (V0 m) [hostOps1] c main_v33 = std1 (ctr1 (nrm4 (argX m c))) :=
  tail33 m c _ (arr3 m c _ fun b g l => out3 (holds m c b _ (is_x m c hf b)) (is_x m c hf b) g l)

theorem fin5 : Pipeline.afterTail₀ cfgs (dats m) 0 (V0 m) [hostOps1] c main_v34 = mean4 (argX m c) :=
  tail34 m c _ (arr6 m c _ fun b => out6 (holds m c b _ (is_x m c hf b)) (is_x m c hf b))

theorem fin6 : Pipeline.afterTail₀ cfgs (dats m) 0 (V0 m) [hostOps1] c main_v35 = std4 (ctr4 (argX m c)) :=
  tail35 m c _ (arr7 m c _ fun b => out7 (holds m c b _ (is_x m c hf b)) (is_x m c hf b))

end

/-- From memories that agree on the arguments, the first and fourth of finite values, the two programs end with the same seven results. -/
theorem algebraic : Cert.algebraic_KernelIdeal_ReferenceIdeal_pre_finite_inputs (hPre_finite_inputs := pre_facts) := by
  intro m g m' g' hpre hargs
  have hf := fun c => @finite_of_pre m c pre_facts hpre
  refine ⟨fun c => chosen (answers (normRows (argX m c)) (argG m c) (argB m c)) (Cert.ReferenceIdeal.Ref3.choice (argX m c) (argW m c) (argQ m c)),
    fun c => asRes (pick (argG m c) (Cert.ReferenceIdeal.Ref3.choice (argX m c) (argW m c) (argQ m c))),
    fun c => asRes (pick (argB m c) (Cert.ReferenceIdeal.Ref3.choice (argX m c) (argW m c) (argQ m c))),
    fun c => mean1 (nrm4 (argX m c)), fun c => std1 (ctr1 (nrm4 (argX m c))), fun c => mean4 (argX m c), fun c => std4 (ctr4 (argX m c)), ?_, ?_⟩
  · refine (θ_run _ _ _).mono (fun r h c => ?_) (run_main m g)
    have hr : ∀ b : Ref Cert.KernelIdeal.sig .tc, b ∈ Pipeline.restRefs Cert.KernelIdeal.sig Cert.KernelIdeal.spec0 → _ := (h.1 c).2
    exact ⟨(hr _ (Pipeline.mem_restRefs_of _ (by decide) (by decide))).trans (fin0 m c (hf c)),
      (hr _ (Pipeline.mem_restRefs_of _ (by decide) (by decide))).trans (fin1 m c (hf c)),
      (hr _ (Pipeline.mem_restRefs_of _ (by decide) (by decide))).trans (fin2 m c (hf c)),
      (hr _ (Pipeline.mem_restRefs_of _ (by decide) (by decide))).trans (fin3 m c (hf c)),
      (hr _ (Pipeline.mem_restRefs_of _ (by decide) (by decide))).trans (fin4 m c (hf c)),
      (hr _ (Pipeline.mem_restRefs_of _ (by decide) (by decide))).trans (fin5 m c (hf c)),
      (hr _ (Pipeline.mem_restRefs_of _ (by decide) (by decide))).trans (fin6 m c (hf c)),
      args_of m (dats m) h.1 c⟩
  · refine (θ_run _ _ _).mono (fun r h c => ?_) (Cert.ReferenceIdeal.Ref3.run m' g')
    obtain ⟨a0, a1, a2, a3, a4⟩ := hargs c
    have e0 : launchContents m' c (Cert.ReferenceIdeal.Ref3.dv Cert.ReferenceIdeal.main_arg0) = argX m c := a0
    have e1 : launchContents m' c (Cert.ReferenceIdeal.Ref3.dv Cert.ReferenceIdeal.main_arg1) = argG m c := a1
    have e2 : launchContents m' c (Cert.ReferenceIdeal.Ref3.dv Cert.ReferenceIdeal.main_arg2) = argB m c := a2
    have e3 : launchContents m' c (Cert.ReferenceIdeal.Ref3.dv Cert.ReferenceIdeal.main_arg3) = argW m c := a3
    have e4 : launchContents m' c (Cert.ReferenceIdeal.Ref3.dv Cert.ReferenceIdeal.main_arg4) = argQ m c := a4
    have hk : ∀ b, b ∉ Cert.ReferenceIdeal.Ref3.wrA → b ∉ Cert.ReferenceIdeal.Ref3.wrB → b ∉ Cert.ReferenceIdeal.Ref3.wrC
        → b ∉ Cert.ReferenceIdeal.Ref3.wrD → b ∉ Cert.ReferenceIdeal.Ref3.wrE → b ∉ Cert.ReferenceIdeal.Ref3.wrG
        → b ∉ Cert.ReferenceIdeal.Ref3.wrH → r.2.mem ((c.tc : Thread Cert.ReferenceIdeal.nD Cert.ReferenceIdeal.τ).loc b) = m' ((c.tc : Thread Cert.ReferenceIdeal.nD Cert.ReferenceIdeal.τ).loc b) :=
      fun b hA hB hC hD hE hG hH => (h c b).trans (Cert.ReferenceIdeal.Ref3.keep_all _ _ hA hB hC hD hE hG hH)
    refine ⟨(h c _).trans ((all_v77 _).trans ?_), (h c _).trans ((all_v50 _).trans ?_), (h c _).trans ((all_v59 _).trans ?_),
      (h c _).trans ((all_v15 _).trans ?_), (h c _).trans ((all_v21 _).trans ?_), (h c _).trans ((all_v3 _).trans ?_),
      (h c _).trans ((all_v9 _).trans ?_), hk _ ?_ ?_ ?_ ?_ ?_ ?_ ?_, hk _ ?_ ?_ ?_ ?_ ?_ ?_ ?_, hk _ ?_ ?_ ?_ ?_ ?_ ?_ ?_,
      hk _ ?_ ?_ ?_ ?_ ?_ ?_ ?_, hk _ ?_ ?_ ?_ ?_ ?_ ?_ ?_⟩
    · rw [e0, e1, e2, e3, e4]
    · rw [e0, e1, e3, e4]
    · rw [e0, e2, e3, e4]
    · rw [e0]
    · rw [e0]
    · rw [e0]
    · rw [e0]
    all_goals decide

end Cert.Equal3

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame3
public import proofs.«01_k».proof.Proof.Frame3K
public import proofs.«01_k».proof.Proof.Ref3
public import proofs.«01_k».proof.Proof.Equal3

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Equal3.pre_facts,
    fun m ρ _ => Cert.Kernel.Ring3.frame m ρ, fun m ρ _ => Cert.KernelIdeal.Ring3.frame m ρ,
    fun m ρ _ => Cert.KernelIdeal.Ring3.frame m ρ, fun m ρ _ => Cert.ReferenceIdeal.Ref3.frame m ρ,
    fun m ρ _ => Cert.ReferenceIdeal.Ref3.frame m ρ, trivial, Cert.Equal3.algebraic⟩

end Cert.Proof

end
